-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelBwdDx (m : (ℓ : Loc Cert.KernelBwdDx.nD Cert.KernelBwdDx.τ Cert.KernelBwdDx.sig) → Buf (Elt Bits) ℓ) : Prop :=
  True

def Pre_KernelBwdDxIdeal (m : (ℓ : Loc Cert.KernelBwdDxIdeal.nD Cert.KernelBwdDxIdeal.τ Cert.KernelBwdDxIdeal.sig) → Buf (Elt Ideal) ℓ) : Prop :=
  True

def Pre_ReferenceBwdDxIdeal (m : (ℓ : Loc Cert.ReferenceBwdDxIdeal.nD Cert.ReferenceBwdDxIdeal.τ Cert.ReferenceBwdDxIdeal.sig) → Buf (Elt Ideal) ℓ) : Prop :=
  True

def Pre_KernelQuantW (m : (ℓ : Loc Cert.KernelQuantW.nD Cert.KernelQuantW.τ Cert.KernelQuantW.sig) → Buf (Elt Bits) ℓ) : Prop :=
  True

def Pre_KernelQuantWIdeal (m : (ℓ : Loc Cert.KernelQuantWIdeal.nD Cert.KernelQuantWIdeal.τ Cert.KernelQuantWIdeal.sig) → Buf (Elt Ideal) ℓ) : Prop :=
  True

def Pre_ReferenceQuantWIdeal (m : (ℓ : Loc Cert.ReferenceQuantWIdeal.nD Cert.ReferenceQuantWIdeal.τ Cert.ReferenceQuantWIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3))
      ∧ r.2.sem = fun _ => 0)

def quiescent_KernelBwdDx [hKernelBwdDx : Cert.KernelBwdDx.Facts] : Prop :=
  ∀ (m : (ℓ : Loc Cert.KernelBwdDx.nD Cert.KernelBwdDx.τ Cert.KernelBwdDx.sig) → Buf (Elt Bits) ℓ) (g : Dev Cert.KernelBwdDx.nD → PrngReg), Pre_KernelBwdDx m →
    θ_run (Cert.KernelBwdDx.defs (F := Bits)) (onTc (τ := Cert.KernelBwdDx.τ) (Cert.KernelBwdDx.main (F := Bits))) ⟨m, fun _ => 0, g⟩ (fun r => (∀ c : Dev Cert.KernelBwdDx.nD,
      r.2.mem ((c.tc : Thread Cert.KernelBwdDx.nD Cert.KernelBwdDx.τ).loc Cert.KernelBwdDx.main_arg0) = m ((c.tc : Thread Cert.KernelBwdDx.nD Cert.KernelBwdDx.τ).loc Cert.KernelBwdDx.main_arg0)
      ∧ r.2.mem ((c.tc : Thread Cert.KernelBwdDx.nD Cert.KernelBwdDx.τ).loc Cert.KernelBwdDx.main_arg1) = m ((c.tc : Thread Cert.KernelBwdDx.nD Cert.KernelBwdDx.τ).loc Cert.KernelBwdDx.main_arg1)
      ∧ r.2.mem ((c.tc : Thread Cert.KernelBwdDx.nD Cert.KernelBwdDx.τ).loc Cert.KernelBwdDx.main_arg2) = m ((c.tc : Thread Cert.KernelBwdDx.nD Cert.KernelBwdDx.τ).loc Cert.KernelBwdDx.main_arg2)
      ∧ r.2.mem ((c.tc : Thread Cert.KernelBwdDx.nD Cert.KernelBwdDx.τ).loc Cert.KernelBwdDx.main_arg3) = m ((c.tc : Thread Cert.KernelBwdDx.nD Cert.KernelBwdDx.τ).loc Cert.KernelBwdDx.main_arg3))
      ∧ r.2.sem = fun _ => 0)

def quiescent_KernelBwdDxIdeal [hKernelBwdDxIdeal : Cert.KernelBwdDxIdeal.Facts] : Prop :=
  ∀ (m : (ℓ : Loc Cert.KernelBwdDxIdeal.nD Cert.KernelBwdDxIdeal.τ Cert.KernelBwdDxIdeal.sig) → Buf (Elt Ideal) ℓ) (g : Dev Cert.KernelBwdDxIdeal.nD → PrngReg), Pre_KernelBwdDxIdeal m →
    θ_run (Cert.KernelBwdDxIdeal.defs (F := Ideal)) (onTc (τ := Cert.KernelBwdDxIdeal.τ) (Cert.KernelBwdDxIdeal.main (F := Ideal))) ⟨m, fun _ => 0, g⟩ (fun r => (∀ c : Dev Cert.KernelBwdDxIdeal.nD,
      r.2.mem ((c.tc : Thread Cert.KernelBwdDxIdeal.nD Cert.KernelBwdDxIdeal.τ).loc Cert.KernelBwdDxIdeal.main_arg0) = m ((c.tc : Thread Cert.KernelBwdDxIdeal.nD Cert.KernelBwdDxIdeal.τ).loc Cert.KernelBwdDxIdeal.main_arg0)
      ∧ r.2.mem ((c.tc : Thread Cert.KernelBwdDxIdeal.nD Cert.KernelBwdDxIdeal.τ).loc Cert.KernelBwdDxIdeal.main_arg1) = m ((c.tc : Thread Cert.KernelBwdDxIdeal.nD Cert.KernelBwdDxIdeal.τ).loc Cert.KernelBwdDxIdeal.main_arg1)
      ∧ r.2.mem ((c.tc : Thread Cert.KernelBwdDxIdeal.nD Cert.KernelBwdDxIdeal.τ).loc Cert.KernelBwdDxIdeal.main_arg2) = m ((c.tc : Thread Cert.KernelBwdDxIdeal.nD Cert.KernelBwdDxIdeal.τ).loc Cert.KernelBwdDxIdeal.main_arg2)
      ∧ r.2.mem ((c.tc : Thread Cert.KernelBwdDxIdeal.nD Cert.KernelBwdDxIdeal.τ).loc Cert.KernelBwdDxIdeal.main_arg3) = m ((c.tc : Thread Cert.KernelBwdDxIdeal.nD Cert.KernelBwdDxIdeal.τ).loc Cert.KernelBwdDxIdeal.main_arg3))
      ∧ r.2.sem = fun _ => 0)

def quiescent_ReferenceBwdDxIdeal [hReferenceBwdDxIdeal : Cert.ReferenceBwdDxIdeal.Facts] : Prop :=
  ∀ (m : (ℓ : Loc Cert.ReferenceBwdDxIdeal.nD Cert.ReferenceBwdDxIdeal.τ Cert.ReferenceBwdDxIdeal.sig) → Buf (Elt Ideal) ℓ) (g : Dev Cert.ReferenceBwdDxIdeal.nD → PrngReg), Pre_ReferenceBwdDxIdeal m →
    θ_run (Cert.ReferenceBwdDxIdeal.defs (F := Ideal)) (onTc (τ := Cert.ReferenceBwdDxIdeal.τ) (Cert.ReferenceBwdDxIdeal.main (F := Ideal))) ⟨m, fun _ => 0, g⟩ (fun r => (∀ c : Dev Cert.ReferenceBwdDxIdeal.nD,
      r.2.mem ((c.tc : Thread Cert.ReferenceBwdDxIdeal.nD Cert.ReferenceBwdDxIdeal.τ).loc Cert.ReferenceBwdDxIdeal.main_arg0) = m ((c.tc : Thread Cert.ReferenceBwdDxIdeal.nD Cert.ReferenceBwdDxIdeal.τ).loc Cert.ReferenceBwdDxIdeal.main_arg0)
      ∧ r.2.mem ((c.tc : Thread Cert.ReferenceBwdDxIdeal.nD Cert.ReferenceBwdDxIdeal.τ).loc Cert.ReferenceBwdDxIdeal.main_arg1) = m ((c.tc : Thread Cert.ReferenceBwdDxIdeal.nD Cert.ReferenceBwdDxIdeal.τ).loc Cert.ReferenceBwdDxIdeal.main_arg1)
      ∧ r.2.mem ((c.tc : Thread Cert.ReferenceBwdDxIdeal.nD Cert.ReferenceBwdDxIdeal.τ).loc Cert.ReferenceBwdDxIdeal.main_arg2) = m ((c.tc : Thread Cert.ReferenceBwdDxIdeal.nD Cert.ReferenceBwdDxIdeal.τ).loc Cert.ReferenceBwdDxIdeal.main_arg2)
      ∧ r.2.mem ((c.tc : Thread Cert.ReferenceBwdDxIdeal.nD Cert.ReferenceBwdDxIdeal.τ).loc Cert.ReferenceBwdDxIdeal.main_arg3) = m ((c.tc : Thread Cert.ReferenceBwdDxIdeal.nD Cert.ReferenceBwdDxIdeal.τ).loc Cert.ReferenceBwdDxIdeal.main_arg3))
      ∧ r.2.sem = fun _ => 0)

def quiescent_KernelQuantW [hKernelQuantW : Cert.KernelQuantW.Facts] : Prop :=
  ∀ (m : (ℓ : Loc Cert.KernelQuantW.nD Cert.KernelQuantW.τ Cert.KernelQuantW.sig) → Buf (Elt Bits) ℓ) (g : Dev Cert.KernelQuantW.nD → PrngReg), Pre_KernelQuantW m →
    θ_run (Cert.KernelQuantW.defs (F := Bits)) (onTc (τ := Cert.KernelQuantW.τ) (Cert.KernelQuantW.main (F := Bits))) ⟨m, fun _ => 0, g⟩ (fun r => (∀ c : Dev Cert.KernelQuantW.nD,
      r.2.mem ((c.tc : Thread Cert.KernelQuantW.nD Cert.KernelQuantW.τ).loc Cert.KernelQuantW.main_arg0) = m ((c.tc : Thread Cert.KernelQuantW.nD Cert.KernelQuantW.τ).loc Cert.KernelQuantW.main_arg0)
      ∧ r.2.mem ((c.tc : Thread Cert.KernelQuantW.nD Cert.KernelQuantW.τ).loc Cert.KernelQuantW.main_arg1) = m ((c.tc : Thread Cert.KernelQuantW.nD Cert.KernelQuantW.τ).loc Cert.KernelQuantW.main_arg1))
      ∧ r.2.sem = fun _ => 0)

def quiescent_KernelQuantWIdeal [hKernelQuantWIdeal : Cert.KernelQuantWIdeal.Facts] : Prop :=
  ∀ (m : (ℓ : Loc Cert.KernelQuantWIdeal.nD Cert.KernelQuantWIdeal.τ Cert.KernelQuantWIdeal.sig) → Buf (Elt Ideal) ℓ) (g : Dev Cert.KernelQuantWIdeal.nD → PrngReg), Pre_KernelQuantWIdeal m →
    θ_run (Cert.KernelQuantWIdeal.defs (F := Ideal)) (onTc (τ := Cert.KernelQuantWIdeal.τ) (Cert.KernelQuantWIdeal.main (F := Ideal))) ⟨m, fun _ => 0, g⟩ (fun r => (∀ c : Dev Cert.KernelQuantWIdeal.nD,
      r.2.mem ((c.tc : Thread Cert.KernelQuantWIdeal.nD Cert.KernelQuantWIdeal.τ).loc Cert.KernelQuantWIdeal.main_arg0) = m ((c.tc : Thread Cert.KernelQuantWIdeal.nD Cert.KernelQuantWIdeal.τ).loc Cert.KernelQuantWIdeal.main_arg0)
      ∧ r.2.mem ((c.tc : Thread Cert.KernelQuantWIdeal.nD Cert.KernelQuantWIdeal.τ).loc Cert.KernelQuantWIdeal.main_arg1) = m ((c.tc : Thread Cert.KernelQuantWIdeal.nD Cert.KernelQuantWIdeal.τ).loc Cert.KernelQuantWIdeal.main_arg1))
      ∧ r.2.sem = fun _ => 0)

def quiescent_ReferenceQuantWIdeal [hReferenceQuantWIdeal : Cert.ReferenceQuantWIdeal.Facts] : Prop :=
  ∀ (m : (ℓ : Loc Cert.ReferenceQuantWIdeal.nD Cert.ReferenceQuantWIdeal.τ Cert.ReferenceQuantWIdeal.sig) → Buf (Elt Ideal) ℓ) (g : Dev Cert.ReferenceQuantWIdeal.nD → PrngReg), Pre_ReferenceQuantWIdeal m →
    θ_run (Cert.ReferenceQuantWIdeal.defs (F := Ideal)) (onTc (τ := Cert.ReferenceQuantWIdeal.τ) (Cert.ReferenceQuantWIdeal.main (F := Ideal))) ⟨m, fun _ => 0, g⟩ (fun r => (∀ c : Dev Cert.ReferenceQuantWIdeal.nD,
      r.2.mem ((c.tc : Thread Cert.ReferenceQuantWIdeal.nD Cert.ReferenceQuantWIdeal.τ).loc Cert.ReferenceQuantWIdeal.main_arg0) = m ((c.tc : Thread Cert.ReferenceQuantWIdeal.nD Cert.ReferenceQuantWIdeal.τ).loc Cert.ReferenceQuantWIdeal.main_arg0)
      ∧ r.2.mem ((c.tc : Thread Cert.ReferenceQuantWIdeal.nD Cert.ReferenceQuantWIdeal.τ).loc Cert.ReferenceQuantWIdeal.main_arg1) = m ((c.tc : Thread Cert.ReferenceQuantWIdeal.nD Cert.ReferenceQuantWIdeal.τ).loc Cert.ReferenceQuantWIdeal.main_arg1))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1)
      ∧ r.2.mem ((c.tc : Thread Cert.KernelDw.nD Cert.KernelDw.τ).loc Cert.KernelDw.main_arg2) = m ((c.tc : Thread Cert.KernelDw.nD Cert.KernelDw.τ).loc Cert.KernelDw.main_arg2)
      ∧ r.2.mem ((c.tc : Thread Cert.KernelDw.nD Cert.KernelDw.τ).loc Cert.KernelDw.main_arg3) = m ((c.tc : Thread Cert.KernelDw.nD Cert.KernelDw.τ).loc Cert.KernelDw.main_arg3))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
      ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
      ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1)
      ∧ r.2.mem ((c.tc : Thread Cert.ReferenceDwIdeal.nD Cert.ReferenceDwIdeal.τ).loc Cert.ReferenceDwIdeal.main_arg2) = m ((c.tc : Thread Cert.ReferenceDwIdeal.nD Cert.ReferenceDwIdeal.τ).loc Cert.ReferenceDwIdeal.main_arg2)
      ∧ r.2.mem ((c.tc : Thread Cert.ReferenceDwIdeal.nD Cert.ReferenceDwIdeal.τ).loc Cert.ReferenceDwIdeal.main_arg3) = m ((c.tc : Thread Cert.ReferenceDwIdeal.nD Cert.ReferenceDwIdeal.τ).loc Cert.ReferenceDwIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v2_2)) (v5 : (c : Dev Cert.KernelIdeal.nD) → Buf (Elt Ideal) ((c.tc : Thread Cert.KernelIdeal.nD Cert.KernelIdeal.τ).loc Cert.KernelIdeal.main_v4_3)) (v6 : (c : Dev Cert.KernelIdeal.nD) → Buf (Elt Ideal) ((c.tc : Thread Cert.KernelIdeal.nD Cert.KernelIdeal.τ).loc Cert.KernelIdeal.main_v3_1)) (v7 : (c : Dev Cert.KernelIdeal.nD) → Buf (Elt Ideal) ((c.tc : Thread Cert.KernelIdeal.nD Cert.KernelIdeal.τ).loc Cert.KernelIdeal.main_v3_2)) (v8 : (c : Dev Cert.KernelIdeal.nD) → Buf (Elt Ideal) ((c.tc : Thread Cert.KernelIdeal.nD Cert.KernelIdeal.τ).loc Cert.KernelIdeal.main_v2_0)) (v9 : (c : Dev Cert.KernelIdeal.nD) → Buf (Elt Ideal) ((c.tc : Thread Cert.KernelIdeal.nD Cert.KernelIdeal.τ).loc Cert.KernelIdeal.main_v2_1)) (v10 : (c : Dev Cert.KernelIdeal.nD) → Buf (Elt Ideal) ((c.tc : Thread Cert.KernelIdeal.nD Cert.KernelIdeal.τ).loc Cert.KernelIdeal.main_v4_1)) (v11 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v2_2) = v4 c
          ∧ r.2.mem ((c.tc : Thread Cert.KernelIdeal.nD Cert.KernelIdeal.τ).loc Cert.KernelIdeal.main_v4_3) = v5 c
          ∧ r.2.mem ((c.tc : Thread Cert.KernelIdeal.nD Cert.KernelIdeal.τ).loc Cert.KernelIdeal.main_v3_1) = v6 c
          ∧ r.2.mem ((c.tc : Thread Cert.KernelIdeal.nD Cert.KernelIdeal.τ).loc Cert.KernelIdeal.main_v3_2) = v7 c
          ∧ r.2.mem ((c.tc : Thread Cert.KernelIdeal.nD Cert.KernelIdeal.τ).loc Cert.KernelIdeal.main_v2_0) = v8 c
          ∧ r.2.mem ((c.tc : Thread Cert.KernelIdeal.nD Cert.KernelIdeal.τ).loc Cert.KernelIdeal.main_v2_1) = v9 c
          ∧ r.2.mem ((c.tc : Thread Cert.KernelIdeal.nD Cert.KernelIdeal.τ).loc Cert.KernelIdeal.main_v4_1) = v10 c
          ∧ r.2.mem ((c.tc : Thread Cert.KernelIdeal.nD Cert.KernelIdeal.τ).loc Cert.KernelIdeal.main_v4_2) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_v2_8) = v8 c
          ∧ r.2.mem ((c.tc : Thread Cert.ReferenceIdeal.nD Cert.ReferenceIdeal.τ).loc Cert.ReferenceIdeal.main_v2_9) = v9 c
          ∧ r.2.mem ((c.tc : Thread Cert.ReferenceIdeal.nD Cert.ReferenceIdeal.τ).loc Cert.ReferenceIdeal.main_v2_10) = v10 c
          ∧ r.2.mem ((c.tc : Thread Cert.ReferenceIdeal.nD Cert.ReferenceIdeal.τ).loc Cert.ReferenceIdeal.main_v2_11) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)) →
    ∃ (v0 : (c : Dev Cert.KernelFwdIdeal.nD) → Buf (Elt Ideal) ((c.tc : Thread Cert.KernelFwdIdeal.nD Cert.KernelFwdIdeal.τ).loc Cert.KernelFwdIdeal.main_v0_0)) (v1 : (c : Dev Cert.KernelFwdIdeal.nD) → Buf (Elt Ideal) ((c.tc : Thread Cert.KernelFwdIdeal.nD Cert.KernelFwdIdeal.τ).loc Cert.KernelFwdIdeal.main_v0_1)) (v2 : (c : Dev Cert.KernelFwdIdeal.nD) → Buf (Elt Ideal) ((c.tc : Thread Cert.KernelFwdIdeal.nD Cert.KernelFwdIdeal.τ).loc Cert.KernelFwdIdeal.main_v0_2)) (v3 : (c : Dev Cert.KernelFwdIdeal.nD) → Buf (Elt Ideal) ((c.tc : Thread Cert.KernelFwdIdeal.nD Cert.KernelFwdIdeal.τ).loc Cert.KernelFwdIdeal.main_v0_3)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v0_0) = v0 c
          ∧ r.2.mem ((c.tc : Thread Cert.KernelFwdIdeal.nD Cert.KernelFwdIdeal.τ).loc Cert.KernelFwdIdeal.main_v0_1) = v1 c
          ∧ r.2.mem ((c.tc : Thread Cert.KernelFwdIdeal.nD Cert.KernelFwdIdeal.τ).loc Cert.KernelFwdIdeal.main_v0_2) = v2 c
          ∧ r.2.mem ((c.tc : Thread Cert.KernelFwdIdeal.nD Cert.KernelFwdIdeal.τ).loc Cert.KernelFwdIdeal.main_v0_3) = v3 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v0_0) = v0 c
          ∧ r.2.mem ((c.tc : Thread Cert.ReferenceFwdIdeal.nD Cert.ReferenceFwdIdeal.τ).loc Cert.ReferenceFwdIdeal.main_v0_1) = v1 c
          ∧ r.2.mem ((c.tc : Thread Cert.ReferenceFwdIdeal.nD Cert.ReferenceFwdIdeal.τ).loc Cert.ReferenceFwdIdeal.main_v0_2) = v2 c
          ∧ r.2.mem ((c.tc : Thread Cert.ReferenceFwdIdeal.nD Cert.ReferenceFwdIdeal.τ).loc Cert.ReferenceFwdIdeal.main_v0_3) = v3 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3))

def preserves_KernelBwdDx_KernelBwdDxIdeal : Prop :=
  True

def algebraic_KernelBwdDxIdeal_ReferenceBwdDxIdeal [hKernelBwdDxIdeal : Cert.KernelBwdDxIdeal.Facts] [hReferenceBwdDxIdeal : Cert.ReferenceBwdDxIdeal.Facts] : Prop :=
  ∀ (m : (ℓ : Loc Cert.KernelBwdDxIdeal.nD Cert.KernelBwdDxIdeal.τ Cert.KernelBwdDxIdeal.sig) → Buf (Elt Ideal) ℓ) (g : Dev Cert.KernelBwdDxIdeal.nD → PrngReg)
    (m' : (ℓ : Loc Cert.ReferenceBwdDxIdeal.nD Cert.ReferenceBwdDxIdeal.τ Cert.ReferenceBwdDxIdeal.sig) → Buf (Elt Ideal) ℓ) (g' : Dev Cert.ReferenceBwdDxIdeal.nD → PrngReg), Pre_KernelBwdDxIdeal m →
    (∀ c : Dev Cert.KernelBwdDxIdeal.nD,
      m' ((c.tc : Thread Cert.ReferenceBwdDxIdeal.nD Cert.ReferenceBwdDxIdeal.τ).loc Cert.ReferenceBwdDxIdeal.main_arg0) = m ((c.tc : Thread Cert.KernelBwdDxIdeal.nD Cert.KernelBwdDxIdeal.τ).loc Cert.KernelBwdDxIdeal.main_arg0)
      ∧ m' ((c.tc : Thread Cert.ReferenceBwdDxIdeal.nD Cert.ReferenceBwdDxIdeal.τ).loc Cert.ReferenceBwdDxIdeal.main_arg1) = m ((c.tc : Thread Cert.KernelBwdDxIdeal.nD Cert.KernelBwdDxIdeal.τ).loc Cert.KernelBwdDxIdeal.main_arg1)
      ∧ m' ((c.tc : Thread Cert.ReferenceBwdDxIdeal.nD Cert.ReferenceBwdDxIdeal.τ).loc Cert.ReferenceBwdDxIdeal.main_arg2) = m ((c.tc : Thread Cert.KernelBwdDxIdeal.nD Cert.KernelBwdDxIdeal.τ).loc Cert.KernelBwdDxIdeal.main_arg2)
      ∧ m' ((c.tc : Thread Cert.ReferenceBwdDxIdeal.nD Cert.ReferenceBwdDxIdeal.τ).loc Cert.ReferenceBwdDxIdeal.main_arg3) = m ((c.tc : Thread Cert.KernelBwdDxIdeal.nD Cert.KernelBwdDxIdeal.τ).loc Cert.KernelBwdDxIdeal.main_arg3)) →
    ∃ (v0 : (c : Dev Cert.KernelBwdDxIdeal.nD) → Buf (Elt Ideal) ((c.tc : Thread Cert.KernelBwdDxIdeal.nD Cert.KernelBwdDxIdeal.τ).loc Cert.KernelBwdDxIdeal.main_v0_0)) (v1 : (c : Dev Cert.KernelBwdDxIdeal.nD) → Buf (Elt Ideal) ((c.tc : Thread Cert.KernelBwdDxIdeal.nD Cert.KernelBwdDxIdeal.τ).loc Cert.KernelBwdDxIdeal.main_v0_1)) (v2 : (c : Dev Cert.KernelBwdDxIdeal.nD) → Buf (Elt Ideal) ((c.tc : Thread Cert.KernelBwdDxIdeal.nD Cert.KernelBwdDxIdeal.τ).loc Cert.KernelBwdDxIdeal.main_v0_2)) (v3 : (c : Dev Cert.KernelBwdDxIdeal.nD) → Buf (Elt Ideal) ((c.tc : Thread Cert.KernelBwdDxIdeal.nD Cert.KernelBwdDxIdeal.τ).loc Cert.KernelBwdDxIdeal.main_v0_3)),
      θ_run (Cert.KernelBwdDxIdeal.defs (F := Ideal)) (onTc (τ := Cert.KernelBwdDxIdeal.τ) (Cert.KernelBwdDxIdeal.main (F := Ideal))) ⟨m, fun _ => 0, g⟩ (fun r => ∀ c : Dev Cert.KernelBwdDxIdeal.nD,
          r.2.mem ((c.tc : Thread Cert.KernelBwdDxIdeal.nD Cert.KernelBwdDxIdeal.τ).loc Cert.KernelBwdDxIdeal.main_v0_0) = v0 c
          ∧ r.2.mem ((c.tc : Thread Cert.KernelBwdDxIdeal.nD Cert.KernelBwdDxIdeal.τ).loc Cert.KernelBwdDxIdeal.main_v0_1) = v1 c
          ∧ r.2.mem ((c.tc : Thread Cert.KernelBwdDxIdeal.nD Cert.KernelBwdDxIdeal.τ).loc Cert.KernelBwdDxIdeal.main_v0_2) = v2 c
          ∧ r.2.mem ((c.tc : Thread Cert.KernelBwdDxIdeal.nD Cert.KernelBwdDxIdeal.τ).loc Cert.KernelBwdDxIdeal.main_v0_3) = v3 c
          ∧ r.2.mem ((c.tc : Thread Cert.KernelBwdDxIdeal.nD Cert.KernelBwdDxIdeal.τ).loc Cert.KernelBwdDxIdeal.main_arg0) = m ((c.tc : Thread Cert.KernelBwdDxIdeal.nD Cert.KernelBwdDxIdeal.τ).loc Cert.KernelBwdDxIdeal.main_arg0)
          ∧ r.2.mem ((c.tc : Thread Cert.KernelBwdDxIdeal.nD Cert.KernelBwdDxIdeal.τ).loc Cert.KernelBwdDxIdeal.main_arg1) = m ((c.tc : Thread Cert.KernelBwdDxIdeal.nD Cert.KernelBwdDxIdeal.τ).loc Cert.KernelBwdDxIdeal.main_arg1)
          ∧ r.2.mem ((c.tc : Thread Cert.KernelBwdDxIdeal.nD Cert.KernelBwdDxIdeal.τ).loc Cert.KernelBwdDxIdeal.main_arg2) = m ((c.tc : Thread Cert.KernelBwdDxIdeal.nD Cert.KernelBwdDxIdeal.τ).loc Cert.KernelBwdDxIdeal.main_arg2)
          ∧ r.2.mem ((c.tc : Thread Cert.KernelBwdDxIdeal.nD Cert.KernelBwdDxIdeal.τ).loc Cert.KernelBwdDxIdeal.main_arg3) = m ((c.tc : Thread Cert.KernelBwdDxIdeal.nD Cert.KernelBwdDxIdeal.τ).loc Cert.KernelBwdDxIdeal.main_arg3))
      ∧ θ_run (Cert.ReferenceBwdDxIdeal.defs (F := Ideal)) (onTc (τ := Cert.ReferenceBwdDxIdeal.τ) (Cert.ReferenceBwdDxIdeal.main (F := Ideal))) ⟨m', fun _ => 0, g'⟩ (fun r => ∀ c : Dev Cert.ReferenceBwdDxIdeal.nD,
          r.2.mem ((c.tc : Thread Cert.ReferenceBwdDxIdeal.nD Cert.ReferenceBwdDxIdeal.τ).loc Cert.ReferenceBwdDxIdeal.main_v0_0) = v0 c
          ∧ r.2.mem ((c.tc : Thread Cert.ReferenceBwdDxIdeal.nD Cert.ReferenceBwdDxIdeal.τ).loc Cert.ReferenceBwdDxIdeal.main_v0_1) = v1 c
          ∧ r.2.mem ((c.tc : Thread Cert.ReferenceBwdDxIdeal.nD Cert.ReferenceBwdDxIdeal.τ).loc Cert.ReferenceBwdDxIdeal.main_v0_2) = v2 c
          ∧ r.2.mem ((c.tc : Thread Cert.ReferenceBwdDxIdeal.nD Cert.ReferenceBwdDxIdeal.τ).loc Cert.ReferenceBwdDxIdeal.main_v0_3) = v3 c
          ∧ r.2.mem ((c.tc : Thread Cert.ReferenceBwdDxIdeal.nD Cert.ReferenceBwdDxIdeal.τ).loc Cert.ReferenceBwdDxIdeal.main_arg0) = m' ((c.tc : Thread Cert.ReferenceBwdDxIdeal.nD Cert.ReferenceBwdDxIdeal.τ).loc Cert.ReferenceBwdDxIdeal.main_arg0)
          ∧ r.2.mem ((c.tc : Thread Cert.ReferenceBwdDxIdeal.nD Cert.ReferenceBwdDxIdeal.τ).loc Cert.ReferenceBwdDxIdeal.main_arg1) = m' ((c.tc : Thread Cert.ReferenceBwdDxIdeal.nD Cert.ReferenceBwdDxIdeal.τ).loc Cert.ReferenceBwdDxIdeal.main_arg1)
          ∧ r.2.mem ((c.tc : Thread Cert.ReferenceBwdDxIdeal.nD Cert.ReferenceBwdDxIdeal.τ).loc Cert.ReferenceBwdDxIdeal.main_arg2) = m' ((c.tc : Thread Cert.ReferenceBwdDxIdeal.nD Cert.ReferenceBwdDxIdeal.τ).loc Cert.ReferenceBwdDxIdeal.main_arg2)
          ∧ r.2.mem ((c.tc : Thread Cert.ReferenceBwdDxIdeal.nD Cert.ReferenceBwdDxIdeal.τ).loc Cert.ReferenceBwdDxIdeal.main_arg3) = m' ((c.tc : Thread Cert.ReferenceBwdDxIdeal.nD Cert.ReferenceBwdDxIdeal.τ).loc Cert.ReferenceBwdDxIdeal.main_arg3))

def preserves_KernelQuantW_KernelQuantWIdeal : Prop :=
  True

def algebraic_KernelQuantWIdeal_ReferenceQuantWIdeal [hKernelQuantWIdeal : Cert.KernelQuantWIdeal.Facts] [hReferenceQuantWIdeal : Cert.ReferenceQuantWIdeal.Facts] : Prop :=
  ∀ (m : (ℓ : Loc Cert.KernelQuantWIdeal.nD Cert.KernelQuantWIdeal.τ Cert.KernelQuantWIdeal.sig) → Buf (Elt Ideal) ℓ) (g : Dev Cert.KernelQuantWIdeal.nD → PrngReg)
    (m' : (ℓ : Loc Cert.ReferenceQuantWIdeal.nD Cert.ReferenceQuantWIdeal.τ Cert.ReferenceQuantWIdeal.sig) → Buf (Elt Ideal) ℓ) (g' : Dev Cert.ReferenceQuantWIdeal.nD → PrngReg), Pre_KernelQuantWIdeal m →
    (∀ c : Dev Cert.KernelQuantWIdeal.nD,
      m' ((c.tc : Thread Cert.ReferenceQuantWIdeal.nD Cert.ReferenceQuantWIdeal.τ).loc Cert.ReferenceQuantWIdeal.main_arg0) = m ((c.tc : Thread Cert.KernelQuantWIdeal.nD Cert.KernelQuantWIdeal.τ).loc Cert.KernelQuantWIdeal.main_arg0)
      ∧ m' ((c.tc : Thread Cert.ReferenceQuantWIdeal.nD Cert.ReferenceQuantWIdeal.τ).loc Cert.ReferenceQuantWIdeal.main_arg1) = m ((c.tc : Thread Cert.KernelQuantWIdeal.nD Cert.KernelQuantWIdeal.τ).loc Cert.KernelQuantWIdeal.main_arg1)) →
    ∃ (v0 : (c : Dev Cert.KernelQuantWIdeal.nD) → Buf (Elt Ideal) ((c.tc : Thread Cert.KernelQuantWIdeal.nD Cert.KernelQuantWIdeal.τ).loc Cert.KernelQuantWIdeal.main_v0_0)) (v1 : (c : Dev Cert.KernelQuantWIdeal.nD) → Buf (Elt Ideal) ((c.tc : Thread Cert.KernelQuantWIdeal.nD Cert.KernelQuantWIdeal.τ).loc Cert.KernelQuantWIdeal.main_v0_1)) (v2 : (c : Dev Cert.KernelQuantWIdeal.nD) → Buf (Elt Ideal) ((c.tc : Thread Cert.KernelQuantWIdeal.nD Cert.KernelQuantWIdeal.τ).loc Cert.KernelQuantWIdeal.main_v0_2)),
      θ_run (Cert.KernelQuantWIdeal.defs (F := Ideal)) (onTc (τ := Cert.KernelQuantWIdeal.τ) (Cert.KernelQuantWIdeal.main (F := Ideal))) ⟨m, fun _ => 0, g⟩ (fun r => ∀ c : Dev Cert.KernelQuantWIdeal.nD,
          r.2.mem ((c.tc : Thread Cert.KernelQuantWIdeal.nD Cert.KernelQuantWIdeal.τ).loc Cert.KernelQuantWIdeal.main_v0_0) = v0 c
          ∧ r.2.mem ((c.tc : Thread Cert.KernelQuantWIdeal.nD Cert.KernelQuantWIdeal.τ).loc Cert.KernelQuantWIdeal.main_v0_1) = v1 c
          ∧ r.2.mem ((c.tc : Thread Cert.KernelQuantWIdeal.nD Cert.KernelQuantWIdeal.τ).loc Cert.KernelQuantWIdeal.main_v0_2) = v2 c
          ∧ r.2.mem ((c.tc : Thread Cert.KernelQuantWIdeal.nD Cert.KernelQuantWIdeal.τ).loc Cert.KernelQuantWIdeal.main_arg0) = m ((c.tc : Thread Cert.KernelQuantWIdeal.nD Cert.KernelQuantWIdeal.τ).loc Cert.KernelQuantWIdeal.main_arg0)
          ∧ r.2.mem ((c.tc : Thread Cert.KernelQuantWIdeal.nD Cert.KernelQuantWIdeal.τ).loc Cert.KernelQuantWIdeal.main_arg1) = m ((c.tc : Thread Cert.KernelQuantWIdeal.nD Cert.KernelQuantWIdeal.τ).loc Cert.KernelQuantWIdeal.main_arg1))
      ∧ θ_run (Cert.ReferenceQuantWIdeal.defs (F := Ideal)) (onTc (τ := Cert.ReferenceQuantWIdeal.τ) (Cert.ReferenceQuantWIdeal.main (F := Ideal))) ⟨m', fun _ => 0, g'⟩ (fun r => ∀ c : Dev Cert.ReferenceQuantWIdeal.nD,
          r.2.mem ((c.tc : Thread Cert.ReferenceQuantWIdeal.nD Cert.ReferenceQuantWIdeal.τ).loc Cert.ReferenceQuantWIdeal.main_v0_0) = v0 c
          ∧ r.2.mem ((c.tc : Thread Cert.ReferenceQuantWIdeal.nD Cert.ReferenceQuantWIdeal.τ).loc Cert.ReferenceQuantWIdeal.main_v0_1) = v1 c
          ∧ r.2.mem ((c.tc : Thread Cert.ReferenceQuantWIdeal.nD Cert.ReferenceQuantWIdeal.τ).loc Cert.ReferenceQuantWIdeal.main_v0_2) = v2 c
          ∧ r.2.mem ((c.tc : Thread Cert.ReferenceQuantWIdeal.nD Cert.ReferenceQuantWIdeal.τ).loc Cert.ReferenceQuantWIdeal.main_arg0) = m' ((c.tc : Thread Cert.ReferenceQuantWIdeal.nD Cert.ReferenceQuantWIdeal.τ).loc Cert.ReferenceQuantWIdeal.main_arg0)
          ∧ r.2.mem ((c.tc : Thread Cert.ReferenceQuantWIdeal.nD Cert.ReferenceQuantWIdeal.τ).loc Cert.ReferenceQuantWIdeal.main_arg1) = m' ((c.tc : Thread Cert.ReferenceQuantWIdeal.nD Cert.ReferenceQuantWIdeal.τ).loc Cert.ReferenceQuantWIdeal.main_arg1))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)
      ∧ m' ((c.tc : Thread Cert.ReferenceDwIdeal.nD Cert.ReferenceDwIdeal.τ).loc Cert.ReferenceDwIdeal.main_arg2) = m ((c.tc : Thread Cert.KernelDwIdeal.nD Cert.KernelDwIdeal.τ).loc Cert.KernelDwIdeal.main_arg2)
      ∧ m' ((c.tc : Thread Cert.ReferenceDwIdeal.nD Cert.ReferenceDwIdeal.τ).loc Cert.ReferenceDwIdeal.main_arg3) = m ((c.tc : Thread Cert.KernelDwIdeal.nD Cert.KernelDwIdeal.τ).loc Cert.KernelDwIdeal.main_arg3)) →
    ∃ (v0 : (c : Dev Cert.KernelDwIdeal.nD) → Buf (Elt Ideal) ((c.tc : Thread Cert.KernelDwIdeal.nD Cert.KernelDwIdeal.τ).loc Cert.KernelDwIdeal.main_v0)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0) = v0 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1)
          ∧ r.2.mem ((c.tc : Thread Cert.KernelDwIdeal.nD Cert.KernelDwIdeal.τ).loc Cert.KernelDwIdeal.main_arg2) = m ((c.tc : Thread Cert.KernelDwIdeal.nD Cert.KernelDwIdeal.τ).loc Cert.KernelDwIdeal.main_arg2)
          ∧ r.2.mem ((c.tc : Thread Cert.KernelDwIdeal.nD Cert.KernelDwIdeal.τ).loc Cert.KernelDwIdeal.main_arg3) = m ((c.tc : Thread Cert.KernelDwIdeal.nD Cert.KernelDwIdeal.τ).loc Cert.KernelDwIdeal.main_arg3))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v0) = v0 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1)
          ∧ r.2.mem ((c.tc : Thread Cert.ReferenceDwIdeal.nD Cert.ReferenceDwIdeal.τ).loc Cert.ReferenceDwIdeal.main_arg2) = m' ((c.tc : Thread Cert.ReferenceDwIdeal.nD Cert.ReferenceDwIdeal.τ).loc Cert.ReferenceDwIdeal.main_arg2)
          ∧ r.2.mem ((c.tc : Thread Cert.ReferenceDwIdeal.nD Cert.ReferenceDwIdeal.τ).loc Cert.ReferenceDwIdeal.main_arg3) = m' ((c.tc : Thread Cert.ReferenceDwIdeal.nD Cert.ReferenceDwIdeal.τ).loc Cert.ReferenceDwIdeal.main_arg3))

def Claim : Prop :=
  ∃ (hKernel : Cert.Kernel.Facts) (hKernelIdeal : Cert.KernelIdeal.Facts) (hReferenceIdeal : Cert.ReferenceIdeal.Facts) (hKernelFwd : Cert.KernelFwd.Facts) (hKernelFwdIdeal : Cert.KernelFwdIdeal.Facts) (hReferenceFwdIdeal : Cert.ReferenceFwdIdeal.Facts) (hKernelBwdDx : Cert.KernelBwdDx.Facts) (hKernelBwdDxIdeal : Cert.KernelBwdDxIdeal.Facts) (hReferenceBwdDxIdeal : Cert.ReferenceBwdDxIdeal.Facts) (hKernelQuantW : Cert.KernelQuantW.Facts) (hKernelQuantWIdeal : Cert.KernelQuantWIdeal.Facts) (hReferenceQuantWIdeal : Cert.ReferenceQuantWIdeal.Facts) (hKernelDw : Cert.KernelDw.Facts) (hKernelDwIdeal : Cert.KernelDwIdeal.Facts) (hReferenceDwIdeal : Cert.ReferenceDwIdeal.Facts),
    quiescent_Kernel (hKernel := hKernel)
    ∧ quiescent_KernelIdeal (hKernelIdeal := hKernelIdeal)
    ∧ quiescent_ReferenceIdeal (hReferenceIdeal := hReferenceIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelBwdDx (hKernelBwdDx := hKernelBwdDx)
    ∧ quiescent_KernelBwdDxIdeal (hKernelBwdDxIdeal := hKernelBwdDxIdeal)
    ∧ quiescent_ReferenceBwdDxIdeal (hReferenceBwdDxIdeal := hReferenceBwdDxIdeal)
    ∧ quiescent_KernelQuantW (hKernelQuantW := hKernelQuantW)
    ∧ quiescent_KernelQuantWIdeal (hKernelQuantWIdeal := hKernelQuantWIdeal)
    ∧ quiescent_ReferenceQuantWIdeal (hReferenceQuantWIdeal := hReferenceQuantWIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ preserves_Kernel_KernelIdeal
    ∧ algebraic_KernelIdeal_ReferenceIdeal (hKernelIdeal := hKernelIdeal) (hReferenceIdeal := hReferenceIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelBwdDx_KernelBwdDxIdeal
    ∧ algebraic_KernelBwdDxIdeal_ReferenceBwdDxIdeal (hKernelBwdDxIdeal := hKernelBwdDxIdeal) (hReferenceBwdDxIdeal := hReferenceBwdDxIdeal)
    ∧ preserves_KernelQuantW_KernelQuantWIdeal
    ∧ algebraic_KernelQuantWIdeal_ReferenceQuantWIdeal (hKernelQuantWIdeal := hKernelQuantWIdeal) (hReferenceQuantWIdeal := hReferenceQuantWIdeal)
    ∧ preserves_KernelDw_KernelDwIdeal
    ∧ algebraic_KernelDwIdeal_ReferenceDwIdeal (hKernelDwIdeal := hKernelDwIdeal) (hReferenceDwIdeal := hReferenceDwIdeal)
-- ==== Kernel.lean ====
abbrev S4x2048x4096 : Shape := ⟨3, ![4, 2048, 4096]⟩
abbrev S4096x4096 : Shape := ⟨2, ![4096, 4096]⟩
abbrev S16 : Shape := ⟨1, ![16]⟩
abbrev S8192x4096 : Shape := ⟨2, ![8192, 4096]⟩
abbrev S1 : Shape := ⟨1, ![1]⟩
abbrev S256x4096 : Shape := ⟨2, ![256, 4096]⟩
abbrev S8x4096 : Shape := ⟨2, ![8, 4096]⟩
abbrev S32x8x4096 : Shape := ⟨3, ![32, 8, 4096]⟩
abbrev S1x8x4096 : Shape := ⟨3, ![1, 8, 4096]⟩
abbrev S1x1x1 : Shape := ⟨3, ![1, 1, 1]⟩
abbrev S512x4096 : Shape := ⟨2, ![512, 4096]⟩
abbrev S4096x512 : Shape := ⟨2, ![4096, 512]⟩
abbrev S512x512 : Shape := ⟨2, ![512, 512]⟩
abbrev S64x8x4096 : Shape := ⟨3, ![64, 8, 4096]⟩
abbrev S8192x512 : Shape := ⟨2, ![8192, 512]⟩
abbrev S8192x2048 : Shape := ⟨2, ![8192, 2048]⟩
abbrev S512x2048 : Shape := ⟨2, ![512, 2048]⟩

abbrev nBuf : Space → Nat
  | .hbm => 20
  | .vmem => 27
  | .smem => 13
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x4096, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S8192x4096, .f32⟩
  | .hbm, ⟨7, _⟩ => ⟨S8192x4096, .f32⟩
  | .hbm, ⟨8, _⟩ => ⟨S4096x4096, .fp8e4m3⟩
  | .hbm, ⟨9, _⟩ => ⟨S1, .f32⟩
  | .hbm, ⟨10, _⟩ => ⟨S16, .f32⟩
  | .hbm, ⟨11, _⟩ => ⟨S8192x4096, .f32⟩
  | .hbm, ⟨12, _⟩ => ⟨S8192x4096, .fp8e4m3⟩
  | .hbm, ⟨13, _⟩ => ⟨S1, .f32⟩
  | .hbm, ⟨14, _⟩ => ⟨S16, .f32⟩
  | .hbm, ⟨15, _⟩ => ⟨S8192x4096, .f32⟩
  | .hbm, ⟨16, _⟩ => ⟨S8192x4096, .fp8e5m2⟩
  | .hbm, ⟨17, _⟩ => ⟨S1, .f32⟩
  | .hbm, ⟨18, _⟩ => ⟨S16, .f32⟩
  | .hbm, ⟨19, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .fp8e4m3⟩
  | .local _ .vmem, ⟨3, _⟩ => ⟨S256x4096, .fp8e4m3⟩
  | .local _ .vmem, ⟨4, _⟩ => ⟨S8x4096, .f32⟩
  | .local _ .vmem, ⟨5, _⟩ => ⟨S512x4096, .f32⟩
  | .local _ .vmem, ⟨6, _⟩ => ⟨S512x4096, .f32⟩
  | .local _ .vmem, ⟨7, _⟩ => ⟨S4096x4096, .fp8e4m3⟩
  | .local _ .vmem, ⟨8, _⟩ => ⟨S512x4096, .f32⟩
  | .local _ .vmem, ⟨9, _⟩ => ⟨S512x4096, .f32⟩
  | .local _ .vmem, ⟨10, _⟩ => ⟨S512x4096, .fp8e4m3⟩
  | .local _ .vmem, ⟨11, _⟩ => ⟨S512x4096, .fp8e4m3⟩
  | .local _ .vmem, ⟨12, _⟩ => ⟨S8x4096, .f32⟩
  | .local _ .vmem, ⟨13, _⟩ => ⟨S512x4096, .f32⟩
  | .local _ .vmem, ⟨14, _⟩ => ⟨S512x4096, .f32⟩
  | .local _ .vmem, ⟨15, _⟩ => ⟨S4096x4096, .fp8e4m3⟩
  | .local _ .vmem, ⟨16, _⟩ => ⟨S512x4096, .f32⟩
  | .local _ .vmem, ⟨17, _⟩ => ⟨S512x4096, .f32⟩
  | .local _ .vmem, ⟨18, _⟩ => ⟨S512x4096, .fp8e5m2⟩
  | .local _ .vmem, ⟨19, _⟩ => ⟨S512x4096, .fp8e5m2⟩
  | .local _ .vmem, ⟨20, _⟩ => ⟨S8x4096, .f32⟩
  | .local _ .vmem, ⟨21, _⟩ => ⟨S8192x512, .fp8e4m3⟩
  | .local _ .vmem, ⟨22, _⟩ => ⟨S8192x512, .fp8e4m3⟩
  | .local _ .vmem, ⟨23, _⟩ => ⟨S8192x2048, .fp8e5m2⟩
  | .local _ .vmem, ⟨24, _⟩ => ⟨S8192x2048, .fp8e5m2⟩
  | .local _ .vmem, ⟨25, _⟩ => ⟨S512x2048, .f32⟩
  | .local _ .vmem, ⟨26, _⟩ => ⟨S512x2048, .f32⟩
  | .local _ .smem, ⟨0, _⟩ => ⟨S16, .f32⟩
  | .local _ .smem, ⟨1, _⟩ => ⟨S1, .f32⟩
  | .local _ .smem, ⟨2, _⟩ => ⟨S16, .f32⟩
  | .local _ .smem, ⟨3, _⟩ => ⟨S16, .f32⟩
  | .local _ .smem, ⟨4, _⟩ => ⟨S16, .f32⟩
  | .local _ .smem, ⟨5, _⟩ => ⟨S1, .f32⟩
  | .local _ .smem, ⟨6, _⟩ => ⟨S16, .f32⟩
  | .local _ .smem, ⟨7, _⟩ => ⟨S16, .f32⟩
  | .local _ .smem, ⟨8, _⟩ => ⟨S16, .f32⟩
  | .local _ .smem, ⟨9, _⟩ => ⟨S1, .f32⟩
  | .local _ .smem, ⟨10, _⟩ => ⟨S16, .f32⟩
  | .local _ .smem, ⟨11, _⟩ => ⟨S16, .f32⟩
  | .local _ .smem, ⟨12, _⟩ => ⟨S16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | .smem, ⟨12, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_scratch0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_scratch0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc0_stg0_0 : Ref sig .tc := ⟨.smem, 0, rfl⟩
abbrev cc0_stg3_0 : Ref sig .tc := ⟨.smem, 1, rfl⟩
abbrev cc0_stg4_0 : Ref sig .tc := ⟨.smem, 2, rfl⟩
abbrev cc1_stg0_0 : Ref sig .tc := ⟨.smem, 3, rfl⟩
abbrev cc1_stg1_0 : Ref sig .tc := ⟨.smem, 4, rfl⟩
abbrev cc1_stg6_0 : Ref sig .tc := ⟨.smem, 5, rfl⟩
abbrev cc1_stg7_0 : Ref sig .tc := ⟨.smem, 6, rfl⟩
abbrev cc2_stg0_0 : Ref sig .tc := ⟨.smem, 7, rfl⟩
abbrev cc2_stg1_0 : Ref sig .tc := ⟨.smem, 8, rfl⟩
abbrev cc2_stg6_0 : Ref sig .tc := ⟨.smem, 9, rfl⟩
abbrev cc2_stg7_0 : Ref sig .tc := ⟨.smem, 10, rfl⟩
abbrev cc3_stg0_0 : Ref sig .tc := ⟨.smem, 11, rfl⟩
abbrev cc3_stg1_0 : Ref sig .tc := ⟨.smem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc2_sem0_0 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem7_0 : DmaSem sig := 28
abbrev cc3_sem0_0 : DmaSem sig := 29
abbrev cc3_sem1_0 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v145 : BitVec 1 := Scalar.cmpi .eq arg0 c15_i32
  let v146 : BitVec 32 := Scalar.extui v145
  let c0_i32_61 : BitVec 32 := 0#32
  let v147 : BitVec 1 := Scalar.cmpi .ne v146 c0_i32_61
  v147

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

def k1_cond3 (i : grid1.Coords) : BitVec 1 :=
  let arg0 : BitVec 32 := BitVec.ofNat 32 (i 0).val
  let c15_i32 : BitVec 32 := 15#32
  let v327 : BitVec 1 := Scalar.cmpi .eq arg0 c15_i32
  let v328 : BitVec 32 := Scalar.extui v327
  let c0_i32_180 : BitVec 32 := 0#32
  let v329 : BitVec 1 := Scalar.cmpi .ne v328 c0_i32_180
  v329

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .smem S16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x4096 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x4096 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .smem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .smem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![16], ![false]⟩

def k2_cond3 (i : grid2.Coords) : BitVec 1 :=
  let arg0 : BitVec 32 := BitVec.ofNat 32 (i 0).val
  let c15_i32 : BitVec 32 := 15#32
  let v327 : BitVec 1 := Scalar.cmpi .eq arg0 c15_i32
  let v328 : BitVec 32 := Scalar.extui v327
  let c0_i32_180 : BitVec 32 := 0#32
  let v329 : BitVec 1 := Scalar.cmpi .ne v328 c0_i32_180
  v329

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 1 → Memref sig .tc .smem S16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4096x4096 .fp8e4m3 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x4096 .fp8e5m2 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .smem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .smem S16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨2, ![2, 8], ![false, false]⟩

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 1 → Memref sig .tc .smem S16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .smem S16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S8192x512 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S8192x2048 .fp8e5m2 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== ReferenceIdeal.lean ====
abbrev S4x2048x4096 : Shape := ⟨3, ![4, 2048, 4096]⟩
abbrev S4096x4096 : Shape := ⟨2, ![4096, 4096]⟩
abbrev S16 : Shape := ⟨1, ![16]⟩
abbrev S8192x4096 : Shape := ⟨2, ![8192, 4096]⟩
abbrev S1 : Shape := ⟨1, ![1]⟩
abbrev S1x16 : Shape := ⟨2, ![1, 16]⟩
abbrev S1x1 : Shape := ⟨2, ![1, 1]⟩
abbrev S2x127 : Shape := ⟨2, ![2, 127]⟩
abbrev S1x2x127 : Shape := ⟨3, ![1, 2, 127]⟩
abbrev S1x1x1 : Shape := ⟨3, ![1, 1, 1]⟩
abbrev S15 : Shape := ⟨1, ![15]⟩
abbrev S1x8192x4096 : Shape := ⟨3, ![1, 8192, 4096]⟩
abbrev S1x4096x4096 : Shape := ⟨3, ![1, 4096, 4096]⟩

abbrev nBuf : Space → Nat
  | .hbm => 20
  | .vmem => 15
  | .smem => 3
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x4096, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S4096x4096, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S8192x4096, .fp8e4m3⟩
  | .hbm, ⟨15, _⟩ => ⟨S1, .f32⟩
  | .hbm, ⟨16, _⟩ => ⟨S4096x4096, .fp8e4m3⟩
  | .hbm, ⟨17, _⟩ => ⟨S1, .f32⟩
  | .hbm, ⟨18, _⟩ => ⟨S8192x4096, .fp8e5m2⟩
  | .hbm, ⟨19, _⟩ => ⟨S1, .f32⟩
  | .local _ .vmem, ⟨0, _⟩ => ⟨S8192x4096, .f32⟩
  | .local _ .vmem, ⟨1, _⟩ => ⟨S4096x4096, .f32⟩
  | .local _ .vmem, ⟨2, _⟩ => ⟨S8192x4096, .f32⟩
  | .local _ .vmem, ⟨3, _⟩ => ⟨S16, .f32⟩
  | .local _ .vmem, ⟨4, _⟩ => ⟨S16, .f32⟩
  | .local _ .vmem, ⟨5, _⟩ => ⟨S16, .f32⟩
  | .local _ .vmem, ⟨6, _⟩ => ⟨S8192x4096, .f32⟩
  | .local _ .vmem, ⟨7, _⟩ => ⟨S8192x4096, .f32⟩
  | .local _ .vmem, ⟨8, _⟩ => ⟨S4096x4096, .f32⟩
  | .local _ .vmem, ⟨9, _⟩ => ⟨S16, .f32⟩
  | .local _ .vmem, ⟨10, _⟩ => ⟨S16, .f32⟩
  | .local _ .vmem, ⟨11, _⟩ => ⟨S16, .f32⟩
  | .local _ .vmem, ⟨12, _⟩ => ⟨S8192x4096, .fp8e4m3⟩
  | .local _ .vmem, ⟨13, _⟩ => ⟨S4096x4096, .fp8e4m3⟩
  | .local _ .vmem, ⟨14, _⟩ => ⟨S8192x4096, .fp8e5m2⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v2_7 : Ref sig .tc := ⟨.hbm, 15, rfl⟩
abbrev main_v2_8 : Ref sig .tc := ⟨.hbm, 16, rfl⟩
abbrev main_v2_9 : Ref sig .tc := ⟨.hbm, 17, rfl⟩
abbrev main_v2_10 : Ref sig .tc := ⟨.hbm, 18, rfl⟩
abbrev main_v2_11 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg14_0 : Ref sig .tc := ⟨.vmem, 13, rfl⟩
abbrev cc0_stg16_0 : Ref sig .tc := ⟨.vmem, 14, rfl⟩
abbrev cc0_stg13_0 : Ref sig .tc := ⟨.smem, 0, rfl⟩
abbrev cc0_stg15_0 : Ref sig .tc := ⟨.smem, 1, rfl⟩
abbrev cc0_stg17_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S8192x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x4096 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x4096 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .smem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8192x4096 .fp8e5m2 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .smem S1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== KernelFwd.lean ====
abbrev S8192x4096 : Shape := ⟨2, ![8192, 4096]⟩
abbrev S4096x4096 : Shape := ⟨2, ![4096, 4096]⟩
abbrev S16 : Shape := ⟨1, ![16]⟩
abbrev S1 : Shape := ⟨1, ![1]⟩
abbrev S512x4096 : Shape := ⟨2, ![512, 4096]⟩
abbrev S8x4096 : Shape := ⟨2, ![8, 4096]⟩
abbrev S4096x512 : Shape := ⟨2, ![4096, 512]⟩
abbrev S512x512 : Shape := ⟨2, ![512, 512]⟩
abbrev S64x8x4096 : Shape := ⟨3, ![64, 8, 4096]⟩
abbrev S1x8x4096 : Shape := ⟨3, ![1, 8, 4096]⟩
abbrev S1x1x1 : Shape := ⟨3, ![1, 1, 1]⟩

abbrev nBuf : Space → Nat
  | .hbm => 8
  | .vmem => 8
  | .smem => 4
  | _ => 0

abbrev bufTy : (tb : Table) → Fin (tcTables nBuf tb) → BufTy
  | .hbm, ⟨0, _⟩ => ⟨S8192x4096, .f32⟩
  | .hbm, ⟨1, _⟩ => ⟨S4096x4096, .fp8e4m3⟩
  | .hbm, ⟨2, _⟩ => ⟨S16, .f32⟩
  | .hbm, ⟨3, _⟩ => ⟨S16, .f32⟩
  | .hbm, ⟨4, _⟩ => ⟨S8192x4096, .f32⟩
  | .hbm, ⟨5, _⟩ => ⟨S8192x4096, .fp8e4m3⟩
  | .hbm, ⟨6, _⟩ => ⟨S1, .f32⟩
  | .hbm, ⟨7, _⟩ => ⟨S16, .f32⟩
  | .local _ .vmem, ⟨0, _⟩ => ⟨S512x4096, .f32⟩
  | .local _ .vmem, ⟨1, _⟩ => ⟨S512x4096, .f32⟩
  | .local _ .vmem, ⟨2, _⟩ => ⟨S4096x4096, .fp8e4m3⟩
  | .local _ .vmem, ⟨3, _⟩ => ⟨S512x4096, .f32⟩
  | .local _ .vmem, ⟨4, _⟩ => ⟨S512x4096, .f32⟩
  | .local _ .vmem, ⟨5, _⟩ => ⟨S512x4096, .fp8e4m3⟩
  | .local _ .vmem, ⟨6, _⟩ => ⟨S512x4096, .fp8e4m3⟩
  | .local _ .vmem, ⟨7, _⟩ => ⟨S8x4096, .f32⟩
  | .local _ .smem, ⟨0, _⟩ => ⟨S16, .f32⟩
  | .local _ .smem, ⟨1, _⟩ => ⟨S16, .f32⟩
  | .local _ .smem, ⟨2, _⟩ => ⟨S1, .f32⟩
  | .local _ .smem, ⟨3, _⟩ => ⟨S16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg1_0 : Ref sig .tc := ⟨.smem, 1, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v318 : BitVec 1 := Scalar.cmpi .eq arg0 c15_i32
  let v319 : BitVec 32 := Scalar.extui v318
  let c0_i32_180 : BitVec 32 := 0#32
  let v320 : BitVec 1 := Scalar.cmpi .ne v319 c0_i32_180
  v320

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceFwdIdeal.lean ====
abbrev S8192x4096 : Shape := ⟨2, ![8192, 4096]⟩
abbrev S4096x4096 : Shape := ⟨2, ![4096, 4096]⟩
abbrev S16 : Shape := ⟨1, ![16]⟩
abbrev S1 : Shape := ⟨1, ![1]⟩
abbrev S1x16 : Shape := ⟨2, ![1, 16]⟩
abbrev S1x1 : Shape := ⟨2, ![1, 1]⟩
abbrev S2x127 : Shape := ⟨2, ![2, 127]⟩
abbrev S1x2x127 : Shape := ⟨3, ![1, 2, 127]⟩
abbrev S1x1x1 : Shape := ⟨3, ![1, 1, 1]⟩
abbrev S15 : Shape := ⟨1, ![15]⟩
abbrev S1x8192x4096 : Shape := ⟨3, ![1, 8192, 4096]⟩

abbrev nBuf : Space → Nat
  | .hbm => 8
  | .vmem => 7
  | .smem => 1
  | _ => 0

abbrev bufTy : (tb : Table) → Fin (tcTables nBuf tb) → BufTy
  | .hbm, ⟨0, _⟩ => ⟨S8192x4096, .f32⟩
  | .hbm, ⟨1, _⟩ => ⟨S4096x4096, .fp8e4m3⟩
  | .hbm, ⟨2, _⟩ => ⟨S16, .f32⟩
  | .hbm, ⟨3, _⟩ => ⟨S16, .f32⟩
  | .hbm, ⟨4, _⟩ => ⟨S8192x4096, .f32⟩
  | .hbm, ⟨5, _⟩ => ⟨S8192x4096, .fp8e4m3⟩
  | .hbm, ⟨6, _⟩ => ⟨S1, .f32⟩
  | .hbm, ⟨7, _⟩ => ⟨S16, .f32⟩
  | .local _ .vmem, ⟨0, _⟩ => ⟨S16, .f32⟩
  | .local _ .vmem, ⟨1, _⟩ => ⟨S16, .f32⟩
  | .local _ .vmem, ⟨2, _⟩ => ⟨S8192x4096, .f32⟩
  | .local _ .vmem, ⟨3, _⟩ => ⟨S4096x4096, .fp8e4m3⟩
  | .local _ .vmem, ⟨4, _⟩ => ⟨S8192x4096, .f32⟩
  | .local _ .vmem, ⟨5, _⟩ => ⟨S8192x4096, .fp8e4m3⟩
  | .local _ .vmem, ⟨6, _⟩ => ⟨S16, .f32⟩
  | .local _ .smem, ⟨0, _⟩ => ⟨S1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_stg6_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelBwdDx.lean ====
abbrev S8192x4096 : Shape := ⟨2, ![8192, 4096]⟩
abbrev S4096x4096 : Shape := ⟨2, ![4096, 4096]⟩
abbrev S16 : Shape := ⟨1, ![16]⟩
abbrev S1 : Shape := ⟨1, ![1]⟩
abbrev S512x4096 : Shape := ⟨2, ![512, 4096]⟩
abbrev S8x4096 : Shape := ⟨2, ![8, 4096]⟩
abbrev S512x512 : Shape := ⟨2, ![512, 512]⟩
abbrev S64x8x4096 : Shape := ⟨3, ![64, 8, 4096]⟩
abbrev S1x8x4096 : Shape := ⟨3, ![1, 8, 4096]⟩
abbrev S1x1x1 : Shape := ⟨3, ![1, 1, 1]⟩

abbrev nBuf : Space → Nat
  | .hbm => 8
  | .vmem => 8
  | .smem => 4
  | _ => 0

abbrev bufTy : (tb : Table) → Fin (tcTables nBuf tb) → BufTy
  | .hbm, ⟨0, _⟩ => ⟨S8192x4096, .f32⟩
  | .hbm, ⟨1, _⟩ => ⟨S4096x4096, .fp8e4m3⟩
  | .hbm, ⟨2, _⟩ => ⟨S16, .f32⟩
  | .hbm, ⟨3, _⟩ => ⟨S16, .f32⟩
  | .hbm, ⟨4, _⟩ => ⟨S8192x4096, .f32⟩
  | .hbm, ⟨5, _⟩ => ⟨S8192x4096, .fp8e5m2⟩
  | .hbm, ⟨6, _⟩ => ⟨S1, .f32⟩
  | .hbm, ⟨7, _⟩ => ⟨S16, .f32⟩
  | .local _ .vmem, ⟨0, _⟩ => ⟨S512x4096, .f32⟩
  | .local _ .vmem, ⟨1, _⟩ => ⟨S512x4096, .f32⟩
  | .local _ .vmem, ⟨2, _⟩ => ⟨S4096x4096, .fp8e4m3⟩
  | .local _ .vmem, ⟨3, _⟩ => ⟨S512x4096, .f32⟩
  | .local _ .vmem, ⟨4, _⟩ => ⟨S512x4096, .f32⟩
  | .local _ .vmem, ⟨5, _⟩ => ⟨S512x4096, .fp8e5m2⟩
  | .local _ .vmem, ⟨6, _⟩ => ⟨S512x4096, .fp8e5m2⟩
  | .local _ .vmem, ⟨7, _⟩ => ⟨S8x4096, .f32⟩
  | .local _ .smem, ⟨0, _⟩ => ⟨S16, .f32⟩
  | .local _ .smem, ⟨1, _⟩ => ⟨S16, .f32⟩
  | .local _ .smem, ⟨2, _⟩ => ⟨S1, .f32⟩
  | .local _ .smem, ⟨3, _⟩ => ⟨S16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg1_0 : Ref sig .tc := ⟨.smem, 1, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v318 : BitVec 1 := Scalar.cmpi .eq arg0 c15_i32
  let v319 : BitVec 32 := Scalar.extui v318
  let c0_i32_180 : BitVec 32 := 0#32
  let v320 : BitVec 1 := Scalar.cmpi .ne v319 c0_i32_180
  v320

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceBwdDxIdeal.lean ====
abbrev S8192x4096 : Shape := ⟨2, ![8192, 4096]⟩
abbrev S4096x4096 : Shape := ⟨2, ![4096, 4096]⟩
abbrev S16 : Shape := ⟨1, ![16]⟩
abbrev S1 : Shape := ⟨1, ![1]⟩
abbrev S1x16 : Shape := ⟨2, ![1, 16]⟩
abbrev S1x1 : Shape := ⟨2, ![1, 1]⟩
abbrev S2x127 : Shape := ⟨2, ![2, 127]⟩
abbrev S1x2x127 : Shape := ⟨3, ![1, 2, 127]⟩
abbrev S1x1x1 : Shape := ⟨3, ![1, 1, 1]⟩
abbrev S15 : Shape := ⟨1, ![15]⟩
abbrev S1x8192x4096 : Shape := ⟨3, ![1, 8192, 4096]⟩

abbrev nBuf : Space → Nat
  | .hbm => 8
  | .vmem => 7
  | .smem => 1
  | _ => 0

abbrev bufTy : (tb : Table) → Fin (tcTables nBuf tb) → BufTy
  | .hbm, ⟨0, _⟩ => ⟨S8192x4096, .f32⟩
  | .hbm, ⟨1, _⟩ => ⟨S4096x4096, .fp8e4m3⟩
  | .hbm, ⟨2, _⟩ => ⟨S16, .f32⟩
  | .hbm, ⟨3, _⟩ => ⟨S16, .f32⟩
  | .hbm, ⟨4, _⟩ => ⟨S8192x4096, .f32⟩
  | .hbm, ⟨5, _⟩ => ⟨S8192x4096, .fp8e5m2⟩
  | .hbm, ⟨6, _⟩ => ⟨S1, .f32⟩
  | .hbm, ⟨7, _⟩ => ⟨S16, .f32⟩
  | .local _ .vmem, ⟨0, _⟩ => ⟨S16, .f32⟩
  | .local _ .vmem, ⟨1, _⟩ => ⟨S16, .f32⟩
  | .local _ .vmem, ⟨2, _⟩ => ⟨S8192x4096, .f32⟩
  | .local _ .vmem, ⟨3, _⟩ => ⟨S4096x4096, .fp8e4m3⟩
  | .local _ .vmem, ⟨4, _⟩ => ⟨S8192x4096, .f32⟩
  | .local _ .vmem, ⟨5, _⟩ => ⟨S8192x4096, .fp8e5m2⟩
  | .local _ .vmem, ⟨6, _⟩ => ⟨S16, .f32⟩
  | .local _ .smem, ⟨0, _⟩ => ⟨S1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_stg6_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x4096 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KernelQuantW.lean ====
abbrev S4096x4096 : Shape := ⟨2, ![4096, 4096]⟩
abbrev S16 : Shape := ⟨1, ![16]⟩
abbrev S1 : Shape := ⟨1, ![1]⟩
abbrev S256x4096 : Shape := ⟨2, ![256, 4096]⟩
abbrev S8x4096 : Shape := ⟨2, ![8, 4096]⟩
abbrev S32x8x4096 : Shape := ⟨3, ![32, 8, 4096]⟩
abbrev S1x8x4096 : Shape := ⟨3, ![1, 8, 4096]⟩
abbrev S1x1x1 : Shape := ⟨3, ![1, 1, 1]⟩

abbrev nBuf : Space → Nat
  | .hbm => 5
  | .vmem => 5
  | .smem => 3
  | _ => 0

abbrev bufTy : (tb : Table) → Fin (tcTables nBuf tb) → BufTy
  | .hbm, ⟨0, _⟩ => ⟨S4096x4096, .f32⟩
  | .hbm, ⟨1, _⟩ => ⟨S16, .f32⟩
  | .hbm, ⟨2, _⟩ => ⟨S4096x4096, .fp8e4m3⟩
  | .hbm, ⟨3, _⟩ => ⟨S1, .f32⟩
  | .hbm, ⟨4, _⟩ => ⟨S16, .f32⟩
  | .local _ .vmem, ⟨0, _⟩ => ⟨S256x4096, .f32⟩
  | .local _ .vmem, ⟨1, _⟩ => ⟨S256x4096, .f32⟩
  | .local _ .vmem, ⟨2, _⟩ => ⟨S256x4096, .fp8e4m3⟩
  | .local _ .vmem, ⟨3, _⟩ => ⟨S256x4096, .fp8e4m3⟩
  | .local _ .vmem, ⟨4, _⟩ => ⟨S8x4096, .f32⟩
  | .local _ .smem, ⟨0, _⟩ => ⟨S16, .f32⟩
  | .local _ .smem, ⟨1, _⟩ => ⟨S1, .f32⟩
  | .local _ .smem, ⟨2, _⟩ => ⟨S16, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v145 : BitVec 1 := Scalar.cmpi .eq arg0 c15_i32
  let v146 : BitVec 32 := Scalar.extui v145
  let c0_i32_61 : BitVec 32 := 0#32
  let v147 : BitVec 1 := Scalar.cmpi .ne v146 c0_i32_61
  v147

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceQuantWIdeal.lean ====
abbrev S4096x4096 : Shape := ⟨2, ![4096, 4096]⟩
abbrev S16 : Shape := ⟨1, ![16]⟩
abbrev S1 : Shape := ⟨1, ![1]⟩
abbrev S1x16 : Shape := ⟨2, ![1, 16]⟩
abbrev S1x1 : Shape := ⟨2, ![1, 1]⟩
abbrev S2x127 : Shape := ⟨2, ![2, 127]⟩
abbrev S1x2x127 : Shape := ⟨3, ![1, 2, 127]⟩
abbrev S1x1x1 : Shape := ⟨3, ![1, 1, 1]⟩
abbrev S15 : Shape := ⟨1, ![15]⟩
abbrev S1x4096x4096 : Shape := ⟨3, ![1, 4096, 4096]⟩

abbrev nBuf : Space → Nat
  | .hbm => 5
  | .vmem => 4
  | .smem => 1
  | _ => 0

abbrev bufTy : (tb : Table) → Fin (tcTables nBuf tb) → BufTy
  | .hbm, ⟨0, _⟩ => ⟨S4096x4096, .f32⟩
  | .hbm, ⟨1, _⟩ => ⟨S16, .f32⟩
  | .hbm, ⟨2, _⟩ => ⟨S4096x4096, .fp8e4m3⟩
  | .hbm, ⟨3, _⟩ => ⟨S1, .f32⟩
  | .hbm, ⟨4, _⟩ => ⟨S16, .f32⟩
  | .local _ .vmem, ⟨0, _⟩ => ⟨S16, .f32⟩
  | .local _ .vmem, ⟨1, _⟩ => ⟨S4096x4096, .f32⟩
  | .local _ .vmem, ⟨2, _⟩ => ⟨S4096x4096, .fp8e4m3⟩
  | .local _ .vmem, ⟨3, _⟩ => ⟨S16, .f32⟩
  | .local _ .smem, ⟨0, _⟩ => ⟨S1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelDw.lean ====
abbrev S8192x4096 : Shape := ⟨2, ![8192, 4096]⟩
abbrev S16 : Shape := ⟨1, ![16]⟩
abbrev S4096x4096 : Shape := ⟨2, ![4096, 4096]⟩
abbrev S8192x512 : Shape := ⟨2, ![8192, 512]⟩
abbrev S8192x2048 : Shape := ⟨2, ![8192, 2048]⟩
abbrev S512x2048 : Shape := ⟨2, ![512, 2048]⟩
abbrev S1 : Shape := ⟨1, ![1]⟩

abbrev nBuf : Space → Nat
  | .hbm => 5
  | .vmem => 6
  | .smem => 2
  | _ => 0

abbrev bufTy : (tb : Table) → Fin (tcTables nBuf tb) → BufTy
  | .hbm, ⟨0, _⟩ => ⟨S8192x4096, .fp8e4m3⟩
  | .hbm, ⟨1, _⟩ => ⟨S8192x4096, .fp8e5m2⟩
  | .hbm, ⟨2, _⟩ => ⟨S16, .f32⟩
  | .hbm, ⟨3, _⟩ => ⟨S16, .f32⟩
  | .hbm, ⟨4, _⟩ => ⟨S4096x4096, .f32⟩
  | .local _ .vmem, ⟨0, _⟩ => ⟨S8192x512, .fp8e4m3⟩
  | .local _ .vmem, ⟨1, _⟩ => ⟨S8192x512, .fp8e4m3⟩
  | .local _ .vmem, ⟨2, _⟩ => ⟨S8192x2048, .fp8e5m2⟩
  | .local _ .vmem, ⟨3, _⟩ => ⟨S8192x2048, .fp8e5m2⟩
  | .local _ .vmem, ⟨4, _⟩ => ⟨S512x2048, .f32⟩
  | .local _ .vmem, ⟨5, _⟩ => ⟨S512x2048, .f32⟩
  | .local _ .smem, ⟨0, _⟩ => ⟨S16, .f32⟩
  | .local _ .smem, ⟨1, _⟩ => ⟨S16, .f32⟩
  | _, _ => ⟨S8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x2048 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDwIdeal.lean ====
abbrev S8192x4096 : Shape := ⟨2, ![8192, 4096]⟩
abbrev S16 : Shape := ⟨1, ![16]⟩
abbrev S4096x4096 : Shape := ⟨2, ![4096, 4096]⟩
abbrev S1x16 : Shape := ⟨2, ![1, 16]⟩
abbrev S1 : Shape := ⟨1, ![1]⟩
abbrev S1x1 : Shape := ⟨2, ![1, 1]⟩
abbrev S2x127 : Shape := ⟨2, ![2, 127]⟩
abbrev S1x2x127 : Shape := ⟨3, ![1, 2, 127]⟩
abbrev S1x1x1 : Shape := ⟨3, ![1, 1, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .fp8e4m3⟩
  | .hbm, ⟨1, _⟩ => ⟨S8192x4096, .fp8e5m2⟩
  | .hbm, ⟨2, _⟩ => ⟨S16, .f32⟩
  | .hbm, ⟨3, _⟩ => ⟨S16, .f32⟩
  | .hbm, ⟨4, _⟩ => ⟨S4096x4096, .f32⟩
  | .local _ .vmem, ⟨0, _⟩ => ⟨S16, .f32⟩
  | .local _ .vmem, ⟨1, _⟩ => ⟨S16, .f32⟩
  | .local _ .vmem, ⟨2, _⟩ => ⟨S8192x4096, .fp8e4m3⟩
  | .local _ .vmem, ⟨3, _⟩ => ⟨S8192x4096, .fp8e5m2⟩
  | .local _ .vmem, ⟨4, _⟩ => ⟨S4096x4096, .f32⟩
  | _, _ => ⟨S8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4096 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Whole.Rest.lean ====
/- The scoped buffers of `KernelIdeal` that no window of a call stages, one by one. -/
module

public import proofs.«01_k».proof.Proof.Gen.KernelIdeal.Launch

@[expose] public section

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg4_0), ((c : Thread nD τ).loc cc1_stg4_0) ↦{fullShare} f) ∗ (∃ f : Buf Val ((c : Thread nD τ).loc cc1_stg4_1), ((c : Thread nD τ).loc cc1_stg4_1) ↦{fullShare} f) ∗ (∃ f : Buf Val ((c : Thread nD τ).loc cc1_stg5_0), ((c : Thread nD τ).loc cc1_stg5_0) ↦{fullShare} f) ∗ (∃ f : Buf Val ((c : Thread nD τ).loc cc1_stg5_1), ((c : Thread nD τ).loc cc1_stg5_1) ↦{fullShare} f) ∗ (∃ f : Buf Val ((c : Thread nD τ).loc cc1_scratch0), ((c : Thread nD τ).loc cc1_scratch0) ↦{fullShare} f) ∗ (∃ f : Buf Val ((c : Thread nD τ).loc cc2_stg2_0), ((c : Thread nD τ).loc cc2_stg2_0) ↦{fullShare} f) ∗ (∃ f : Buf Val ((c : Thread nD τ).loc cc2_stg2_1), ((c : Thread nD τ).loc cc2_stg2_1) ↦{fullShare} f) ∗ (∃ f : Buf Val ((c : Thread nD τ).loc cc2_stg3_0), ((c : Thread nD τ).loc cc2_stg3_0) ↦{fullShare} f) ∗ (∃ f : Buf Val ((c : Thread nD τ).loc cc2_stg4_0), ((c : Thread nD τ).loc cc2_stg4_0) ↦{fullShare} f) ∗ (∃ f : Buf Val ((c : Thread nD τ).loc cc2_stg4_1), ((c : Thread nD τ).loc cc2_stg4_1) ↦{fullShare} f) ∗ (∃ f : Buf Val ((c : Thread nD τ).loc cc2_stg5_0), ((c : Thread nD τ).loc cc2_stg5_0) ↦{fullShare} f) ∗ (∃ f : Buf Val ((c : Thread nD τ).loc cc2_stg5_1), ((c : Thread nD τ).loc cc2_stg5_1) ↦{fullShare} f) ∗ (∃ f : Buf Val ((c : Thread nD τ).loc cc2_scratch0), ((c : Thread nD τ).loc cc2_scratch0) ↦{fullShare} f) ∗ (∃ f : Buf Val ((c : Thread nD τ).loc cc3_stg2_0), ((c : Thread nD τ).loc cc3_stg2_0) ↦{fullShare} f) ∗ (∃ f : Buf Val ((c : Thread nD τ).loc cc3_stg2_1), ((c : Thread nD τ).loc cc3_stg2_1) ↦{fullShare} f) ∗ (∃ f : Buf Val ((c : Thread nD τ).loc cc3_stg3_0), ((c : Thread nD τ).loc cc3_stg3_0) ↦{fullShare} f) ∗ (∃ f : Buf Val ((c : Thread nD τ).loc cc3_stg3_1), ((c : Thread nD τ).loc cc3_stg3_1) ↦{fullShare} f) ∗ (∃ f : Buf Val ((c : Thread nD τ).loc cc3_stg4_0), ((c : Thread nD τ).loc cc3_stg4_0) ↦{fullShare} f) ∗ (∃ f : Buf Val ((c : Thread nD τ).loc cc3_stg4_1), ((c : Thread nD τ).loc cc3_stg4_1) ↦{fullShare} f) ∗ (∃ f : Buf Val ((c : Thread nD τ).loc cc1_stg0_0), ((c : Thread nD τ).loc cc1_stg0_0) ↦{fullShare} f) ∗ (∃ f : Buf Val ((c : Thread nD τ).loc cc1_stg1_0), ((c : Thread nD τ).loc cc1_stg1_0) ↦{fullShare} f) ∗ (∃ f : Buf Val ((c : Thread nD τ).loc cc1_stg6_0), ((c : Thread nD τ).loc cc1_stg6_0) ↦{fullShare} f) ∗ (∃ f : Buf Val ((c : Thread nD τ).loc cc1_stg7_0), ((c : Thread nD τ).loc cc1_stg7_0) ↦{fullShare} f) ∗ (∃ f : Buf Val ((c : Thread nD τ).loc cc2_stg0_0), ((c : Thread nD τ).loc cc2_stg0_0) ↦{fullShare} f) ∗ (∃ f : Buf Val ((c : Thread nD τ).loc cc2_stg1_0), ((c : Thread nD τ).loc cc2_stg1_0) ↦{fullShare} f) ∗ (∃ f : Buf Val ((c : Thread nD τ).loc cc2_stg6_0), ((c : Thread nD τ).loc cc2_stg6_0) ↦{fullShare} f) ∗ (∃ f : Buf Val ((c : Thread nD τ).loc cc2_stg7_0), ((c : Thread nD τ).loc cc2_stg7_0) ↦{fullShare} f) ∗ (∃ f : Buf Val ((c : Thread nD τ).loc cc3_stg0_0), ((c : Thread nD τ).loc cc3_stg0_0) ↦{fullShare} f) ∗ (∃ f : Buf Val ((c : Thread nD τ).loc cc3_stg1_0), ((c : Thread nD τ).loc cc3_stg1_0) ↦{fullShare} f)) :=
  Pipeline.scopedRest_eq_of_list spec0 c [cc0_scratch0, cc1_stg2_0, cc1_stg2_1, cc1_stg3_0, cc1_stg4_0, cc1_stg4_1, cc1_stg5_0, cc1_stg5_1, cc1_scratch0, cc2_stg2_0, cc2_stg2_1, cc2_stg3_0, cc2_stg4_0, cc2_stg4_1, cc2_stg5_0, cc2_stg5_1, cc2_scratch0, cc3_stg2_0, cc3_stg2_1, cc3_stg3_0, cc3_stg3_1, cc3_stg4_0, cc3_stg4_1, cc1_stg0_0, cc1_stg1_0, cc1_stg6_0, cc1_stg7_0, cc2_stg0_0, cc2_stg1_0, cc2_stg6_0, cc2_stg7_0, cc3_stg0_0, cc3_stg1_0] (by decide) (by decide)

theorem scopedRest1_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_scratch0), ((c : Thread nD τ).loc cc0_scratch0) ↦{fullShare} f) ∗ (∃ f : Buf Val ((c : Thread nD τ).loc cc1_scratch0), ((c : Thread nD τ).loc cc1_scratch0) ↦{fullShare} f) ∗ (∃ f : Buf Val ((c : Thread nD τ).loc cc2_stg2_0), ((c : Thread nD τ).loc cc2_stg2_0) ↦{fullShare} f) ∗ (∃ f : Buf Val ((c : Thread nD τ).loc cc2_stg2_1), ((c : Thread nD τ).loc cc2_stg2_1) ↦{fullShare} f) ∗ (∃ f : Buf Val ((c : Thread nD τ).loc cc2_stg3_0), ((c : Thread nD τ).loc cc2_stg3_0) ↦{fullShare} f) ∗ (∃ f : Buf Val ((c : Thread nD τ).loc cc2_stg4_0), ((c : Thread nD τ).loc cc2_stg4_0) ↦{fullShare} f) ∗ (∃ f : Buf Val ((c : Thread nD τ).loc cc2_stg4_1), ((c : Thread nD τ).loc cc2_stg4_1) ↦{fullShare} f) ∗ (∃ f : Buf Val ((c : Thread nD τ).loc cc2_stg5_0), ((c : Thread nD τ).loc cc2_stg5_0) ↦{fullShare} f) ∗ (∃ f : Buf Val ((c : Thread nD τ).loc cc2_stg5_1), ((c : Thread nD τ).loc cc2_stg5_1) ↦{fullShare} f) ∗ (∃ f : Buf Val ((c : Thread nD τ).loc cc2_scratch0), ((c : Thread nD τ).loc cc2_scratch0) ↦{fullShare} f) ∗ (∃ f : Buf Val ((c : Thread nD τ).loc cc3_stg2_0), ((c : Thread nD τ).loc cc3_stg2_0) ↦{fullShare} f) ∗ (∃ f : Buf Val ((c : Thread nD τ).loc cc3_stg2_1), ((c : Thread nD τ).loc cc3_stg2_1) ↦{fullShare} f) ∗ (∃ f : Buf Val ((c : Thread nD τ).loc cc3_stg3_0), ((c : Thread nD τ).loc cc3_stg3_0) ↦{fullShare} f) ∗ (∃ f : Buf Val ((c : Thread nD τ).loc cc3_stg3_1), ((c : Thread nD τ).loc cc3_stg3_1) ↦{fullShare} f) ∗ (∃ f : Buf Val ((c : Thread nD τ).loc cc3_stg4_0), ((c : Thread nD τ).loc cc3_stg4_0) ↦{fullShare} f) ∗ (∃ f : Buf Val ((c : Thread nD τ).loc cc3_stg4_1), ((c : Thread nD τ).loc cc3_stg4_1) ↦{fullShare} f) ∗ (∃ f : Buf Val ((c : Thread nD τ).loc cc0_stg0_0), ((c : Thread nD τ).loc cc0_stg0_0) ↦{fullShare} f) ∗ (∃ f : Buf Val ((c : Thread nD τ).loc cc0_stg3_0), ((c : Thread nD τ).loc cc0_stg3_0) ↦{fullShare} f) ∗ (∃ f : Buf Val ((c : Thread nD τ).loc cc0_stg4_0), ((c : Thread nD τ).loc cc0_stg4_0) ↦{fullShare} f) ∗ (∃ f : Buf Val ((c : Thread nD τ).loc cc2_stg0_0), ((c : Thread nD τ).loc cc2_stg0_0) ↦{fullShare} f) ∗ (∃ f : Buf Val ((c : Thread nD τ).loc cc2_stg1_0), ((c : Thread nD τ).loc cc2_stg1_0) ↦{fullShare} f) ∗ (∃ f : Buf Val ((c : Thread nD τ).loc cc2_stg6_0), ((c : Thread nD τ).loc cc2_stg6_0) ↦{fullShare} f) ∗ (∃ f : Buf Val ((c : Thread nD τ).loc cc2_stg7_0), ((c : Thread nD τ).loc cc2_stg7_0) ↦{fullShare} f) ∗ (∃ f : Buf Val ((c : Thread nD τ).loc cc3_stg0_0), ((c : Thread nD τ).loc cc3_stg0_0) ↦{fullShare} f) ∗ (∃ f : Buf Val ((c : Thread nD τ).loc cc3_stg1_0), ((c : Thread nD τ).loc cc3_stg1_0) ↦{fullShare} f)) :=
  Pipeline.scopedRest_eq_of_list spec1 c [cc0_stg1_0, cc0_stg1_1, cc0_stg2_0, cc0_stg2_1, cc0_scratch0, cc1_scratch0, cc2_stg2_0, cc2_stg2_1, cc2_stg3_0, cc2_stg4_0, cc2_stg4_1, cc2_stg5_0, cc2_stg5_1, cc2_scratch0, cc3_stg2_0, cc3_stg2_1, cc3_stg3_0, cc3_stg3_1, cc3_stg4_0, cc3_stg4_1, cc0_stg0_0, cc0_stg3_0, cc0_stg4_0, cc2_stg0_0, cc2_stg1_0, cc2_stg6_0, cc2_stg7_0, cc3_stg0_0, cc3_stg1_0] (by decide) (by decide)

theorem scopedRest2_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop((∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_scratch0), ((c : Thread nD τ).loc cc0_scratch0) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg4_0), ((c : Thread nD τ).loc cc1_stg4_0) ↦{fullShare} f) ∗ (∃ f : Buf Val ((c : Thread nD τ).loc cc1_stg4_1), ((c : Thread nD τ).loc cc1_stg4_1) ↦{fullShare} f) ∗ (∃ f : Buf Val ((c : Thread nD τ).loc cc1_stg5_0), ((c : Thread nD τ).loc cc1_stg5_0) ↦{fullShare} f) ∗ (∃ f : Buf Val ((c : Thread nD τ).loc cc1_stg5_1), ((c : Thread nD τ).loc cc1_stg5_1) ↦{fullShare} f) ∗ (∃ f : Buf Val ((c : Thread nD τ).loc cc1_scratch0), ((c : Thread nD τ).loc cc1_scratch0) ↦{fullShare} f) ∗ (∃ f : Buf Val ((c : Thread nD τ).loc cc2_scratch0), ((c : Thread nD τ).loc cc2_scratch0) ↦{fullShare} f) ∗ (∃ f : Buf Val ((c : Thread nD τ).loc cc3_stg2_0), ((c : Thread nD τ).loc cc3_stg2_0) ↦{fullShare} f) ∗ (∃ f : Buf Val ((c : Thread nD τ).loc cc3_stg2_1), ((c : Thread nD τ).loc cc3_stg2_1) ↦{fullShare} f) ∗ (∃ f : Buf Val ((c : Thread nD τ).loc cc3_stg3_0), ((c : Thread nD τ).loc cc3_stg3_0) ↦{fullShare} f) ∗ (∃ f : Buf Val ((c : Thread nD τ).loc cc3_stg3_1), ((c : Thread nD τ).loc cc3_stg3_1) ↦{fullShare} f) ∗ (∃ f : Buf Val ((c : Thread nD τ).loc cc3_stg4_0), ((c : Thread nD τ).loc cc3_stg4_0) ↦{fullShare} f) ∗ (∃ f : Buf Val ((c : Thread nD τ).loc cc3_stg4_1), ((c : Thread nD τ).loc cc3_stg4_1) ↦{fullShare} f) ∗ (∃ f : Buf Val ((c : Thread nD τ).loc cc0_stg0_0), ((c : Thread nD τ).loc cc0_stg0_0) ↦{fullShare} f) ∗ (∃ f : Buf Val ((c : Thread nD τ).loc cc0_stg3_0), ((c : Thread nD τ).loc cc0_stg3_0) ↦{fullShare} f) ∗ (∃ f : Buf Val ((c : Thread nD τ).loc cc0_stg4_0), ((c : Thread nD τ).loc cc0_stg4_0) ↦{fullShare} f) ∗ (∃ f : Buf Val ((c : Thread nD τ).loc cc1_stg0_0), ((c : Thread nD τ).loc cc1_stg0_0) ↦{fullShare} f) ∗ (∃ f : Buf Val ((c : Thread nD τ).loc cc1_stg1_0), ((c : Thread nD τ).loc cc1_stg1_0) ↦{fullShare} f) ∗ (∃ f : Buf Val ((c : Thread nD τ).loc cc1_stg6_0), ((c : Thread nD τ).loc cc1_stg6_0) ↦{fullShare} f) ∗ (∃ f : Buf Val ((c : Thread nD τ).loc cc1_stg7_0), ((c : Thread nD τ).loc cc1_stg7_0) ↦{fullShare} f) ∗ (∃ f : Buf Val ((c : Thread nD τ).loc cc3_stg0_0), ((c : Thread nD τ).loc cc3_stg0_0) ↦{fullShare} f) ∗ (∃ f : Buf Val ((c : Thread nD τ).loc cc3_stg1_0), ((c : Thread nD τ).loc cc3_stg1_0) ↦{fullShare} f)) :=
  Pipeline.scopedRest_eq_of_list spec2 c [cc0_stg1_0, cc0_stg1_1, cc0_stg2_0, cc0_stg2_1, cc0_scratch0, cc1_stg2_0, cc1_stg2_1, cc1_stg3_0, cc1_stg4_0, cc1_stg4_1, cc1_stg5_0, cc1_stg5_1, cc1_scratch0, cc2_scratch0, cc3_stg2_0, cc3_stg2_1, cc3_stg3_0, cc3_stg3_1, cc3_stg4_0, cc3_stg4_1, cc0_stg0_0, cc0_stg3_0, cc0_stg4_0, cc1_stg0_0, cc1_stg1_0, cc1_stg6_0, cc1_stg7_0, cc3_stg0_0, cc3_stg1_0] (by decide) (by decide)

theorem scopedRest3_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop((∃ f : Buf Val ((c : Thread nD τ).loc cc0_stg1_0), ((c : Thread nD τ).loc cc0_stg1_0) ↦{fullShare} f) ∗ (∃ f : Buf Val ((c : Thread nD τ).loc cc0_stg1_1), ((c : Thread nD τ).loc cc0_stg1_1) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_scratch0), ((c : Thread nD τ).loc cc0_scratch0) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg4_0), ((c : Thread nD τ).loc cc1_stg4_0) ↦{fullShare} f) ∗ (∃ f : Buf Val ((c : Thread nD τ).loc cc1_stg4_1), ((c : Thread nD τ).loc cc1_stg4_1) ↦{fullShare} f) ∗ (∃ f : Buf Val ((c : Thread nD τ).loc cc1_stg5_0), ((c : Thread nD τ).loc cc1_stg5_0) ↦{fullShare} f) ∗ (∃ f : Buf Val ((c : Thread nD τ).loc cc1_stg5_1), ((c : Thread nD τ).loc cc1_stg5_1) ↦{fullShare} f) ∗ (∃ f : Buf Val ((c : Thread nD τ).loc cc1_scratch0), ((c : Thread nD τ).loc cc1_scratch0) ↦{fullShare} f) ∗ (∃ f : Buf Val ((c : Thread nD τ).loc cc2_stg2_0), ((c : Thread nD τ).loc cc2_stg2_0) ↦{fullShare} f) ∗ (∃ f : Buf Val ((c : Thread nD τ).loc cc2_stg2_1), ((c : Thread nD τ).loc cc2_stg2_1) ↦{fullShare} f) ∗ (∃ f : Buf Val ((c : Thread nD τ).loc cc2_stg3_0), ((c : Thread nD τ).loc cc2_stg3_0) ↦{fullShare} f) ∗ (∃ f : Buf Val ((c : Thread nD τ).loc cc2_stg4_0), ((c : Thread nD τ).loc cc2_stg4_0) ↦{fullShare} f) ∗ (∃ f : Buf Val ((c : Thread nD τ).loc cc2_stg4_1), ((c : Thread nD τ).loc cc2_stg4_1) ↦{fullShare} f) ∗ (∃ f : Buf Val ((c : Thread nD τ).loc cc2_stg5_0), ((c : Thread nD τ).loc cc2_stg5_0) ↦{fullShare} f) ∗ (∃ f : Buf Val ((c : Thread nD τ).loc cc2_stg5_1), ((c : Thread nD τ).loc cc2_stg5_1) ↦{fullShare} f) ∗ (∃ f : Buf Val ((c : Thread nD τ).loc cc2_scratch0), ((c : Thread nD τ).loc cc2_scratch0) ↦{fullShare} f) ∗ (∃ f : Buf Val ((c : Thread nD τ).loc cc0_stg0_0), ((c : Thread nD τ).loc cc0_stg0_0) ↦{fullShare} f) ∗ (∃ f : Buf Val ((c : Thread nD τ).loc cc0_stg3_0), ((c : Thread nD τ).loc cc0_stg3_0) ↦{fullShare} f) ∗ (∃ f : Buf Val ((c : Thread nD τ).loc cc0_stg4_0), ((c : Thread nD τ).loc cc0_stg4_0) ↦{fullShare} f) ∗ (∃ f : Buf Val ((c : Thread nD τ).loc cc1_stg0_0), ((c : Thread nD τ).loc cc1_stg0_0) ↦{fullShare} f) ∗ (∃ f : Buf Val ((c : Thread nD τ).loc cc1_stg1_0), ((c : Thread nD τ).loc cc1_stg1_0) ↦{fullShare} f) ∗ (∃ f : Buf Val ((c : Thread nD τ).loc cc1_stg6_0), ((c : Thread nD τ).loc cc1_stg6_0) ↦{fullShare} f) ∗ (∃ f : Buf Val ((c : Thread nD τ).loc cc1_stg7_0), ((c : Thread nD τ).loc cc1_stg7_0) ↦{fullShare} f) ∗ (∃ f : Buf Val ((c : Thread nD τ).loc cc2_stg0_0), ((c : Thread nD τ).loc cc2_stg0_0) ↦{fullShare} f) ∗ (∃ f : Buf Val ((c : Thread nD τ).loc cc2_stg1_0), ((c : Thread nD τ).loc cc2_stg1_0) ↦{fullShare} f) ∗ (∃ f : Buf Val ((c : Thread nD τ).loc cc2_stg6_0), ((c : Thread nD τ).loc cc2_stg6_0) ↦{fullShare} f) ∗ (∃ f : Buf Val ((c : Thread nD τ).loc cc2_stg7_0), ((c : Thread nD τ).loc cc2_stg7_0) ↦{fullShare} f)) :=
  Pipeline.scopedRest_eq_of_list spec3 c [cc0_stg1_0, cc0_stg1_1, cc0_stg2_0, cc0_stg2_1, cc0_scratch0, cc1_stg2_0, cc1_stg2_1, cc1_stg3_0, cc1_stg4_0, cc1_stg4_1, cc1_stg5_0, cc1_stg5_1, cc1_scratch0, cc2_stg2_0, cc2_stg2_1, cc2_stg3_0, cc2_stg4_0, cc2_stg4_1, cc2_stg5_0, cc2_stg5_1, cc2_scratch0, cc0_stg0_0, cc0_stg3_0, cc0_stg4_0, cc1_stg0_0, cc1_stg1_0, cc1_stg6_0, cc1_stg7_0, cc2_stg0_0, cc2_stg1_0, cc2_stg6_0, cc2_stg7_0] (by decide) (by decide)

end Cert.KernelIdeal.Gen

end
-- ==== Proof.Whole.Region0.lean ====
/- `KernelIdeal`, call 0 (`_quant_w`): its region at the entry contents `V`. -/
module

public import proofs.«01_k».proof.Proof.Whole.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

abbrev cond0_1 (i : grid0.Coords) : Prop := (Scalar.cmpi .ne (Scalar.extui (Scalar.cmpi .sgt (BitVec.ofNat 32 (i 0).val) 0#32)) 0#32) = 1#1

theorem hcond0_1 : ∀ t : Fin cfg0.N, cond0_1 (grid0.coords t) ↔ 1 ≤ t.val :=
  (by decide +kernel : ∀ t : Fin grid0.N, cond0_1 (grid0.coords t) ↔ 1 ≤ t.val)

abbrev cond0_2 (i : grid0.Coords) : Prop := k0_cond3 i = 1#1

theorem hcond0_2 : ∀ t : Fin cfg0.N, cond0_2 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_2, k0_cond3, e0]
    word_cmp
   : ∀ t : Fin grid0.N, cond0_2 (grid0.coords t) ↔ t.val % 16 = 15)

theorem liveAt0_0 : ∀ t : Fin cfg0.N, cfg0.idle 0 (grid0.coords t) = false := fun _ => rfl

theorem liveAt0_1 : ∀ t : Fin cfg0.N, cfg0.idle 1 (grid0.coords t) = false := fun _ => rfl

theorem liveAt0_2 : ∀ t : Fin cfg0.N, cfg0.idle 2 (grid0.coords t) = false := fun _ => rfl

theorem liveAt0_3 : ∀ t : Fin cfg0.N, cfg0.idle 3 (grid0.coords t) = false := fun _ => rfl

theorem idleAt0_4_A : ∀ t : Fin cfg0.N, cond0_0 (grid0.coords t) → ¬cond0_1 (grid0.coords t) → ¬cond0_2 (grid0.coords t) → cfg0.idle 4 (grid0.coords t) = true := by decide +kernel

theorem noFlush0_4_A : ∀ t : Fin cfg0.N, cond0_0 (grid0.coords t) → ¬cond0_1 (grid0.coords t) → ¬cond0_2 (grid0.coords t) → (cfg0.win 4).flush t = false := by decide +kernel

theorem idleAt0_4_B : ∀ t : Fin cfg0.N, ¬cond0_0 (grid0.coords t) → cond0_1 (grid0.coords t) → ¬cond0_2 (grid0.coords t) → cfg0.idle 4 (grid0.coords t) = true := by decide +kernel

theorem noFlush0_4_B : ∀ t : Fin cfg0.N, ¬cond0_0 (grid0.coords t) → cond0_1 (grid0.coords t) → ¬cond0_2 (grid0.coords t) → (cfg0.win 4).flush t = false := by decide +kernel

theorem liveAt0_4_C : ∀ t : Fin cfg0.N, ¬cond0_0 (grid0.coords t) → cond0_1 (grid0.coords t) → cond0_2 (grid0.coords t) → cfg0.idle 4 (grid0.coords t) = false := by decide +kernel

abbrev VO0_2 : View sig .tc .vmem S256x4096 .fp8e4m3 := (Memref.whole cc0_stg2_0 : Memref sig .tc .vmem S256x4096 .fp8e4m3).view

abbrev VO0_3 : View sig .tc .smem S1 .f32 := (Memref.whole cc0_stg3_0 : Memref sig .tc .smem S1 .f32).view

abbrev VO0_4 : View sig .tc .smem S16 .f32 := (Memref.whole cc0_stg4_0 : Memref sig .tc .smem S16 .f32).view

abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S16 .f32 := win0_4.stage (cfg0.slots t 4)
abbrev hs0_4 (t : Fin cfg0.N) : (ms0_4 t).IsWhole := hstage0_4 ((cfg0.slots t 4).cast nbuf0_4)

abbrev scM0_0 : Memref sig .tc .vmem S8x4096 .f32 := Memref.whole cc0_scratch0

abbrev VS0_0 : View sig .tc .vmem S8x4096 .f32 := scM0_0.view

theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r)) := by
  unfold Pipeline.ΦA; rw [scopedRest0_eq]; simp only [scM0_0, owns_whole]; try rfl

set_option maxHeartbeats 1000000 in

noncomputable def kernelRun0_A (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : cond0_0 i) (hc1 : ¬cond0_1 i) (hc2 : ¬cond0_2 i)
    (x0 : Vec F S16 .f32) (x1 : Vec F S256x4096 .f32) :
    Σ' (L2 : List (View.Piece (Elt F) S256x4096 .fp8e4m3)), Σ' (L3 : List (View.Piece (Elt F) S1 .f32)), Σ' (L4 : List (View.Piece (Elt F) S16 .f32)), { LS0 : List (View.Piece (Elt F) S8x4096 .f32) //
      ∀ (xi4 : Vec F S16 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0_quant_w i arg1 harg1 arg2 harg2 arg3 harg3 arg4 harg4 arg5 harg5 arg6 harg6) K } := by
  refine ⟨?_, ?_, [], ?_, fun xi4 E K => ?run⟩
  case run =>
    simp only [cc0_quant_w_eq_skeleton]; unfold cc0_quant_w_skel
    simp only [k0_part2_eq_skeleton, k0_part3_eq_skeleton, k0_part4_eq_skeleton, k0_part5_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%ds0, %fs0, -, HS0⟩, Hk⟩
    obtain rfl := harg1.eq_unread hf0; obtain rfl := harg2.eq_unread hf1; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    iexists _; iexact HS0

theorem cover0_A_2 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : cond0_0 i) (hc1 : ¬cond0_1 i) (hc2 : ¬cond0_2 i)
    (x0 : Vec F S16 .f32) (x1 : Vec F S256x4096 .f32) (y : S256x4096.Idx) :
    ∃ pc ∈ (kernelRun0_A c i arg1 harg1 arg2 harg2 arg3 harg3 arg4 harg4 arg5 harg5 arg6 harg6 hc0 hc1 hc2 x0 x1).1, y ∈ pc.1.set :=
  View.cover_of_tiledL (kernelRun0_A c i arg1 harg1 arg2 harg2 arg3 harg3 arg4 harg4 arg5 harg5 arg6 harg6 hc0 hc1 hc2 x0 x1).1 S256x4096.size (by sl_kernel_rfl) y

def out0_A_2 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : cond0_0 i) (hc1 : ¬cond0_1 i) (hc2 : ¬cond0_2 i)
    (x0 : Vec F S16 .f32) (x1 : Vec F S256x4096 .f32) : Vec F S256x4096 .fp8e4m3 :=
  VO0_2.read (Elt F) (VO0_2.writes (Elt F) VO0_2.junk (kernelRun0_A c i arg1 harg1 arg2 harg2 arg3 harg3 arg4 harg4 arg5 harg5 arg6 harg6 hc0 hc1 hc2 x0 x1).1)

theorem cover0_A_3 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : cond0_0 i) (hc1 : ¬cond0_1 i) (hc2 : ¬cond0_2 i)
    (x0 : Vec F S16 .f32) (x1 : Vec F S256x4096 .f32) (y : S1.Idx) :
    ∃ pc ∈ (kernelRun0_A c i arg1 harg1 arg2 harg2 arg3 harg3 arg4 harg4 arg5 harg5 arg6 harg6 hc0 hc1 hc2 x0 x1).2.1, y ∈ pc.1.set :=
  View.cover_of_tiledL (kernelRun0_A c i arg1 harg1 arg2 harg2 arg3 harg3 arg4 harg4 arg5 harg5 arg6 harg6 hc0 hc1 hc2 x0 x1).2.1 S1.size (by sl_kernel_rfl) y

def out0_A_3 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : cond0_0 i) (hc1 : ¬cond0_1 i) (hc2 : ¬cond0_2 i)
    (x0 : Vec F S16 .f32) (x1 : Vec F S256x4096 .f32) : Vec F S1 .f32 :=
  VO0_3.read (Elt F) (VO0_3.writes (Elt F) VO0_3.junk (kernelRun0_A c i arg1 harg1 arg2 harg2 arg3 harg3 arg4 harg4 arg5 harg5 arg6 harg6 hc0 hc1 hc2 x0 x1).2.1)

def out0_A_4 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : cond0_0 i) (hc1 : ¬cond0_1 i) (hc2 : ¬cond0_2 i)
    (x0 : Vec F S16 .f32) (x1 : Vec F S256x4096 .f32) : Vec F S16 .f32 :=
  VO0_4.read (Elt F) (VO0_4.writes (Elt F) VO0_4.junk (kernelRun0_A c i arg1 harg1 arg2 harg2 arg3 harg3 arg4 harg4 arg5 harg5 arg6 harg6 hc0 hc1 hc2 x0 x1).2.2.1)

theorem scover0_A_0 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : cond0_0 i) (hc1 : ¬cond0_1 i) (hc2 : ¬cond0_2 i)
    (x0 : Vec F S16 .f32) (x1 : Vec F S256x4096 .f32) (y : S8x4096.Idx) :
    ∃ pc ∈ (kernelRun0_A c i arg1 harg1 arg2 harg2 arg3 harg3 arg4 harg4 arg5 harg5 arg6 harg6 hc0 hc1 hc2 x0 x1).2.2.2.1, y ∈ pc.1.set :=
  View.cover_of_tiledL (kernelRun0_A c i arg1 harg1 arg2 harg2 arg3 harg3 arg4 harg4 arg5 harg5 arg6 harg6 hc0 hc1 hc2 x0 x1).2.2.2.1 S8x4096.size (by sl_kernel_rfl) y

def sout0_A_0 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : cond0_0 i) (hc1 : ¬cond0_1 i) (hc2 : ¬cond0_2 i)
    (x0 : Vec F S16 .f32) (x1 : Vec F S256x4096 .f32) : Vec F S8x4096 .f32 :=
  VS0_0.read (Elt F) (VS0_0.writes (Elt F) VS0_0.junk (kernelRun0_A c i arg1 harg1 arg2 harg2 arg3 harg3 arg4 harg4 arg5 harg5 arg6 harg6 hc0 hc1 hc2 x0 x1).2.2.2.1)

set_option maxHeartbeats 1000000 in

noncomputable def kernelRun0_B (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : ¬cond0_2 i)
    (x0 : Vec F S16 .f32) (x1 : Vec F S256x4096 .f32) (xs0 : Vec F S8x4096 .f32) :
    Σ' (L2 : List (View.Piece (Elt F) S256x4096 .fp8e4m3)), Σ' (L3 : List (View.Piece (Elt F) S1 .f32)), Σ' (L4 : List (View.Piece (Elt F) S16 .f32)), { LS0 : List (View.Piece (Elt F) S8x4096 .f32) //
      ∀ (xi4 : Vec F S16 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xi4 ∗ owns (c : Thread nD τ) arg6 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0_quant_w i arg1 harg1 arg2 harg2 arg3 harg3 arg4 harg4 arg5 harg5 arg6 harg6) K } := by
  refine ⟨?_, ?_, [], ?_, fun xi4 E K => ?run⟩
  case run =>
    simp only [cc0_quant_w_eq_skeleton]; unfold cc0_quant_w_skel
    simp only [k0_part2_eq_skeleton, k0_part3_eq_skeleton, k0_part4_eq_skeleton, k0_part5_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%fs0, %hfs0, HS0⟩, Hk⟩
    obtain rfl := harg1.eq_unread hf0; obtain rfl := harg2.eq_unread hf1; obtain rfl := harg5.eq_unread hf4; obtain rfl := harg6.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]
    · iexists _; isplitr; · ipureintro; exact harg5.read_unread _
      iexact H4
    iexists _; iexact HS0

theorem cover0_B_2 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : ¬cond0_2 i)
    (x0 : Vec F S16 .f32) (x1 : Vec F S256x4096 .f32) (xs0 : Vec F S8x4096 .f32) (y : S256x4096.Idx) :
    ∃ pc ∈ (kernelRun0_B c i arg1 harg1 arg2 harg2 arg3 harg3 arg4 harg4 arg5 harg5 arg6 harg6 hc0 hc1 hc2 x0 x1 xs0).1, y ∈ pc.1.set :=
  View.cover_of_tiledL (kernelRun0_B c i arg1 harg1 arg2 harg2 arg3 harg3 arg4 harg4 arg5 harg5 arg6 harg6 hc0 hc1 hc2 x0 x1 xs0).1 S256x4096.size (by sl_kernel_rfl) y

def out0_B_2 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : ¬cond0_2 i)
    (x0 : Vec F S16 .f32) (x1 : Vec F S256x4096 .f32) (xs0 : Vec F S8x4096 .f32) : Vec F S256x4096 .fp8e4m3 :=
  VO0_2.read (Elt F) (VO0_2.writes (Elt F) VO0_2.junk (kernelRun0_B c i arg1 harg1 arg2 harg2 arg3 harg3 arg4 harg4 arg5 harg5 arg6 harg6 hc0 hc1 hc2 x0 x1 xs0).1)

theorem cover0_B_3 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : ¬cond0_2 i)
    (x0 : Vec F S16 .f32) (x1 : Vec F S256x4096 .f32) (xs0 : Vec F S8x4096 .f32) (y : S1.Idx) :
    ∃ pc ∈ (kernelRun0_B c i arg1 harg1 arg2 harg2 arg3 harg3 arg4 harg4 arg5 harg5 arg6 harg6 hc0 hc1 hc2 x0 x1 xs0).2.1, y ∈ pc.1.set :=
  View.cover_of_tiledL (kernelRun0_B c i arg1 harg1 arg2 harg2 arg3 harg3 arg4 harg4 arg5 harg5 arg6 harg6 hc0 hc1 hc2 x0 x1 xs0).2.1 S1.size (by sl_kernel_rfl) y

def out0_B_3 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : ¬cond0_2 i)
    (x0 : Vec F S16 .f32) (x1 : Vec F S256x4096 .f32) (xs0 : Vec F S8x4096 .f32) : Vec F S1 .f32 :=
  VO0_3.read (Elt F) (VO0_3.writes (Elt F) VO0_3.junk (kernelRun0_B c i arg1 harg1 arg2 harg2 arg3 harg3 arg4 harg4 arg5 harg5 arg6 harg6 hc0 hc1 hc2 x0 x1 xs0).2.1)

def out0_B_4 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : ¬cond0_2 i)
    (x0 : Vec F S16 .f32) (x1 : Vec F S256x4096 .f32) (xs0 : Vec F S8x4096 .f32) : Vec F S16 .f32 :=
  VO0_4.read (Elt F) (VO0_4.writes (Elt F) VO0_4.junk (kernelRun0_B c i arg1 harg1 arg2 harg2 arg3 harg3 arg4 harg4 arg5 harg5 arg6 harg6 hc0 hc1 hc2 x0 x1 xs0).2.2.1)

theorem scover0_B_0 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : ¬cond0_2 i)
    (x0 : Vec F S16 .f32) (x1 : Vec F S256x4096 .f32) (xs0 : Vec F S8x4096 .f32) (y : S8x4096.Idx) :
    ∃ pc ∈ (kernelRun0_B c i arg1 harg1 arg2 harg2 arg3 harg3 arg4 harg4 arg5 harg5 arg6 harg6 hc0 hc1 hc2 x0 x1 xs0).2.2.2.1, y ∈ pc.1.set :=
  View.cover_of_tiledL (kernelRun0_B c i arg1 harg1 arg2 harg2 arg3 harg3 arg4 harg4 arg5 harg5 arg6 harg6 hc0 hc1 hc2 x0 x1 xs0).2.2.2.1 S8x4096.size (by sl_kernel_rfl) y

def sout0_B_0 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : ¬cond0_2 i)
    (x0 : Vec F S16 .f32) (x1 : Vec F S256x4096 .f32) (xs0 : Vec F S8x4096 .f32) : Vec F S8x4096 .f32 :=
  VS0_0.read (Elt F) (VS0_0.writes (Elt F) VS0_0.junk (kernelRun0_B c i arg1 harg1 arg2 harg2 arg3 harg3 arg4 harg4 arg5 harg5 arg6 harg6 hc0 hc1 hc2 x0 x1 xs0).2.2.2.1)

set_option maxHeartbeats 1000000 in

noncomputable def kernelRun0_C (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : cond0_2 i)
    (x0 : Vec F S16 .f32) (x1 : Vec F S256x4096 .f32) (xs0 : Vec F S8x4096 .f32) :
    Σ' (L2 : List (View.Piece (Elt F) S256x4096 .fp8e4m3)), Σ' (L3 : List (View.Piece (Elt F) S1 .f32)), Σ' (L4 : List (View.Piece (Elt F) S16 .f32)), { LS0 : List (View.Piece (Elt F) S8x4096 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0_quant_w i arg1 harg1 arg2 harg2 arg3 harg3 arg4 harg4 arg5 harg5 arg6 harg6) K } := by
  refine ⟨?_, ?_, ?_, ?_, fun E K => ?run⟩
  case run =>
    simp only [cc0_quant_w_eq_skeleton]; unfold cc0_quant_w_skel
    simp only [k0_part2_eq_skeleton, k0_part3_eq_skeleton, k0_part4_eq_skeleton, k0_part5_eq_skeleton, k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg6.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS0

theorem cover0_C_2 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : cond0_2 i)
    (x0 : Vec F S16 .f32) (x1 : Vec F S256x4096 .f32) (xs0 : Vec F S8x4096 .f32) (y : S256x4096.Idx) :
    ∃ pc ∈ (kernelRun0_C c i arg1 harg1 arg2 harg2 arg3 harg3 arg4 harg4 arg5 harg5 arg6 harg6 hc0 hc1 hc2 x0 x1 xs0).1, y ∈ pc.1.set :=
  View.cover_of_tiledL (kernelRun0_C c i arg1 harg1 arg2 harg2 arg3 harg3 arg4 harg4 arg5 harg5 arg6 harg6 hc0 hc1 hc2 x0 x1 xs0).1 S256x4096.size (by sl_kernel_rfl) y

def out0_C_2 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : cond0_2 i)
    (x0 : Vec F S16 .f32) (x1 : Vec F S256x4096 .f32) (xs0 : Vec F S8x4096 .f32) : Vec F S256x4096 .fp8e4m3 :=
  VO0_2.read (Elt F) (VO0_2.writes (Elt F) VO0_2.junk (kernelRun0_C c i arg1 harg1 arg2 harg2 arg3 harg3 arg4 harg4 arg5 harg5 arg6 harg6 hc0 hc1 hc2 x0 x1 xs0).1)

theorem cover0_C_3 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : cond0_2 i)
    (x0 : Vec F S16 .f32) (x1 : Vec F S256x4096 .f32) (xs0 : Vec F S8x4096 .f32) (y : S1.Idx) :
    ∃ pc ∈ (kernelRun0_C c i arg1 harg1 arg2 harg2 arg3 harg3 arg4 harg4 arg5 harg5 arg6 harg6 hc0 hc1 hc2 x0 x1 xs0).2.1, y ∈ pc.1.set :=
  View.cover_of_tiledL (kernelRun0_C c i arg1 harg1 arg2 harg2 arg3 harg3 arg4 harg4 arg5 harg5 arg6 harg6 hc0 hc1 hc2 x0 x1 xs0).2.1 S1.size (by sl_kernel_rfl) y

def out0_C_3 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : cond0_2 i)
    (x0 : Vec F S16 .f32) (x1 : Vec F S256x4096 .f32) (xs0 : Vec F S8x4096 .f32) : Vec F S1 .f32 :=
  VO0_3.read (Elt F) (VO0_3.writes (Elt F) VO0_3.junk (kernelRun0_C c i arg1 harg1 arg2 harg2 arg3 harg3 arg4 harg4 arg5 harg5 arg6 harg6 hc0 hc1 hc2 x0 x1 xs0).2.1)

theorem cover0_C_4 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : cond0_2 i)
    (x0 : Vec F S16 .f32) (x1 : Vec F S256x4096 .f32) (xs0 : Vec F S8x4096 .f32) (y : S16.Idx) :
    ∃ pc ∈ (kernelRun0_C c i arg1 harg1 arg2 harg2 arg3 harg3 arg4 harg4 arg5 harg5 arg6 harg6 hc0 hc1 hc2 x0 x1 xs0).2.2.1, y ∈ pc.1.set :=
  View.cover_of_tiledL (kernelRun0_C c i arg1 harg1 arg2 harg2 arg3 harg3 arg4 harg4 arg5 harg5 arg6 harg6 hc0 hc1 hc2 x0 x1 xs0).2.2.1 S1.size (by sl_kernel_rfl) y

def out0_C_4 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : cond0_2 i)
    (x0 : Vec F S16 .f32) (x1 : Vec F S256x4096 .f32) (xs0 : Vec F S8x4096 .f32) : Vec F S16 .f32 :=
  VO0_4.read (Elt F) (VO0_4.writes (Elt F) VO0_4.junk (kernelRun0_C c i arg1 harg1 arg2 harg2 arg3 harg3 arg4 harg4 arg5 harg5 arg6 harg6 hc0 hc1 hc2 x0 x1 xs0).2.2.1)

theorem scover0_C_0 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : cond0_2 i)
    (x0 : Vec F S16 .f32) (x1 : Vec F S256x4096 .f32) (xs0 : Vec F S8x4096 .f32) (y : S8x4096.Idx) :
    ∃ pc ∈ (kernelRun0_C c i arg1 harg1 arg2 harg2 arg3 harg3 arg4 harg4 arg5 harg5 arg6 harg6 hc0 hc1 hc2 x0 x1 xs0).2.2.2.1, y ∈ pc.1.set :=
  View.cover_of_tiledL (kernelRun0_C c i arg1 harg1 arg2 harg2 arg3 harg3 arg4 harg4 arg5 harg5 arg6 harg6 hc0 hc1 hc2 x0 x1 xs0).2.2.2.1 S8x4096.size (by sl_kernel_rfl) y

def sout0_C_0 (c : Dev nD) (i : grid0.Coords) (arg1 : Memref sig .tc .smem S16 .f32) (harg1 : arg1.IsWhole) (arg2 : Memref sig .tc .vmem S256x4096 .f32) (harg2 : arg2.IsWhole) (arg3 : Memref sig .tc .vmem S256x4096 .fp8e4m3) (harg3 : arg3.IsWhole) (arg4 : Memref sig .tc .smem S1 .f32) (harg4 : arg4.IsWhole) (arg5 : Memref sig .tc .smem S16 .f32) (harg5 : arg5.IsWhole) (arg6 : Memref sig .tc .vmem S8x4096 .f32) (harg6 : arg6.IsWhole) (hc0 : ¬cond0_0 i) (hc1 : cond0_1 i) (hc2 : cond0_2 i)
    (x0 : Vec F S16 .f32) (x1 : Vec F S256x4096 .f32) (xs0 : Vec F S8x4096 .f32) : Vec F S8x4096 .f32 :=
  VS0_0.read (Elt F) (VS0_0.writes (Elt F) VS0_0.junk (kernelRun0_C c i arg1 harg1 arg2 harg2 arg3 harg3 arg4 harg4 arg5 harg5 arg6 harg6 hc0 hc1 hc2 x0 x1 xs0).2.2.2.1)

def outsAt0 (c : Dev nD) : (n : ℕ) → n < cfg0.N → Vec F S256x4096 .fp8e4m3 × Vec F S1 .f32 × Vec F S16 .f32 × Vec F S8x4096 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩))
  | n + 1, hn =>
    if h0 : (n + 1) % 16 = 0 then
      if h1 : 1 ≤ (n + 1) then
        False.elim (by have hN : n + 1 < 16 := lt_of_lt_of_eq hn (show cfg0.N = 16 from N_0); omega)
      else
        if h2 : (n + 1) % 16 = 15 then
          False.elim (by have hN : n + 1 < 16 := lt_of_lt_of_eq hn (show cfg0.N = 16 from N_0); omega)
        else
          (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩))
    else
      if h1 : 1 ≤ (n + 1) then
        if h2 : (n + 1) % 16 = 15 then
          (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2.2.2)
        else
          (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2.2.2)
      else
        False.elim (by have hN : n + 1 < 16 := lt_of_lt_of_eq hn (show cfg0.N = 16 from N_0); omega)

theorem outsAt0_A (c : Dev nD) (t : Fin cfg0.N) (h0 : t.val % 16 = 0) (h1 : ¬1 ≤ t.val) (h2 : ¬t.val % 16 = 15) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (iblk0 V c 0 t) (iblk0 V c 1 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (fun h => h2 ((hcond0_2 t).mp h)) (iblk0 V c 0 t) (iblk0 V c 1 t)) := by
  obtain ⟨n, hn⟩ := t
  cases n with
  | zero => exact rfl
  | succ n => exact (dif_pos h0).trans ((dif_neg h1).trans ((dif_neg h2).trans rfl))

theorem outsAt0_B (c : Dev nD) (t : Fin cfg0.N) (h0 : ¬t.val % 16 = 0) (h1 : 1 ≤ t.val) (h2 : ¬t.val % 16 = 15) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt0_C (c : Dev nD) (t : Fin cfg0.N) (h0 : ¬t.val % 16 = 0) (h1 : 1 ≤ t.val) (h2 : t.val % 16 = 15) :
    outsAt0 V c t.val t.isLt = (out0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

def PhiSR0 (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 V c n hn).2.2.2) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r))

theorem PhiS_zeroR0 (c : Dev nD) (n : ℕ) (h : n ≤ cfg0.N) (hz : n = 0) : PhiSR0 V c n h = Pipeline.ΦA spec0 c := by
  subst hz; rfl

theorem PhiS_succR0 (c : Dev nD) (n : ℕ) (hn : n < cfg0.N) :
    PhiSR0 V c (n + 1) hn = iprop(iprop(owns (c : Thread nD τ) scM0_0 fullShare ((outsAt0 V c n hn).2.2.2) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r)) := rfl

theorem PhiS_posR0 (c : Dev nD) (n : ℕ) (h : n ≤ cfg0.N) (hz : n ≠ 0) :
    PhiSR0 V c n h = iprop(iprop(owns (c : Thread nD τ) scM0_0 fullShare ((outsAt0 V c (n - 1) (by omega)).2.2.2) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiSR0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSuccR0 (c : Dev nD) (t : Fin cfg0.N) :
    (dat0 V c).Φ t.castSucc = PhiSR0 V c t.val (Nat.le_of_lt t.isLt) := by
  dsimp only [dat0]; exact Pipeline.Dat.Φ_castSucc (PhiSR0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp (MT nD τ sig Unit (Elt F) ℕ (UR sig nD τ) ℕ) :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiSR0 V c (t.val + 1) t.isLt from rfl, PhiS_succR0]
  have hN : t.val < 16 := lt_of_lt_of_eq t.isLt (show cfg0.N = 16 from N_0)
  by_cases h0 : t.val % 16 = 0
  · by_cases h1 : 1 ≤ t.val
    · exfalso; omega
    · by_cases h2 : t.val % 16 = 15
      · exfalso; omega
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3 t], after0_3]
        rw [Dat.leavesExact_idle (dat0 V c) 4 t (idleAt0_4_A t ((hcond0_0 t).mpr h0) (fun h => h1 ((hcond0_1 t).mp h)) (fun h => h2 ((hcond0_2 t).mp h))) (noFlush0_4_A t ((hcond0_0 t).mpr h0) (fun h => h1 ((hcond0_1 t).mp h)) (fun h => h2 ((hcond0_2 t).mp h)))]
        by_cases hz : t.val = 0
        · rw [PhiS_castSuccR0 V c t, PhiS_zeroR0 V c _ _ hz, PhiA0_eq]
          rw [outsAt0_A V c t h0 h1 h2]
          unfold out0_A_2 out0_A_3 sout0_A_0; (try dsimp only)
          iintro ⟨⟨⟨HS0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32⟩, Hg⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ ((hcond0_0 t).mpr h0) (fun h => h1 ((hcond0_1 t).mp h)) (fun h => h2 ((hcond0_2 t).mp h)) (iblk0 V c 0 t) (iblk0 V c 1 t)).2.2.2.2 _ Set.univ _)
          isplitl [H0]; · iexact H0
          isplitl [H1]; · iexact H1
          isplitl [H2]; · iexists _; iexact H2
          isplitl [H3]; · iexists _; iexact H3
          isplitl [H4]; · iexact H4
          isplitl [HS0]; · iexact HS0
          iintro ⟨H0, H1, ⟨%e2, H2⟩, ⟨%e3, H3⟩, H4, ⟨%es0, HS0⟩⟩
          isplitl [HS0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 Hg]
          · isplitl [HS0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32]
            · isplitl [HS0]
              · unfold owns; iexists _; isplitr
                swap; · iexact HS0
                ipureintro; exact View.read_writes_of_cover _ _ _ _ _ (scover0_A_0 c _ _ _ _ _ _ _ _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              isplitl [HR19]
              · iexact HR19
              isplitl [HR20]
              · iexact HR20
              isplitl [HR21]
              · iexact HR21
              isplitl [HR22]
              · iexact HR22
              isplitl [HR23]
              · iexact HR23
              isplitl [HR24]
              · iexact HR24
              isplitl [HR25]
              · iexact HR25
              isplitl [HR26]
              · iexact HR26
              isplitl [HR27]
              · iexact HR27
              isplitl [HR28]
              · iexact HR28
              isplitl [HR29]
              · iexact HR29
              isplitl [HR30]
              · iexact HR30
              isplitl [HR31]
              · iexact HR31
              iexact HR32
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_A_2 c _ _ _ _ _ _ _ _ _ _ _ _ _ _ _ _ _ _)
          isplitl [H3]
          · unfold owns; iexists _; isplitr
            swap; · iexact H3
            ipureintro; exact View.read_writes_of_cover _ _ _ _ _ (cover0_A_3 c _ _ _ _ _ _ _ _ _ _ _ _ _ _ _ _ _ _)
          iexists _; iexact H4
        · exfalso; have hN : t.val < 16 := lt_of_lt_of_eq t.isLt (show cfg0.N = 16 from N_0); omega
  · by_cases h1 : 1 ≤ t.val
    · by_cases h2 : t.val % 16 = 15
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3 t], after0_3]
        rw [show (dat0 V c).leavesExact 4 t = owns (c : Thread nD τ) (ms0_4 t) fullShare ((dat0 V c).after 4 t) from by
      unfold Dat.leavesExact; rw [liveAt0_4_C t (fun h => h0 ((hcond0_0 t).mp h)) ((hcond0_1 t).mpr h1) ((hcond0_2 t).mpr h2)], after0_4]
        by_cases hz : t.val = 0
        · exfalso; have hN : t.val < 16 := lt_of_lt_of_eq t.isLt (show cfg0.N = 16 from N_0); omega
        · rw [PhiS_castSuccR0 V c t, PhiS_posR0 V c _ _ hz]
          rw [outsAt0_C V c t h0 h1 h2]
          unfold out0_C_2 out0_C_3 out0_C_4 sout0_C_0; (try dsimp only)
          iintro ⟨⟨⟨HS0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32⟩, Hg⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ (fun h => h0 ((hcond0_0 t).mp h)) ((hcond0_1 t).mpr h1) ((hcond0_2 t).mpr h2) (iblk0 V c 0 t) (iblk0 V c 1 t) _).2.2.2.2 Set.univ _)
          isplitl [H0]; · iexact H0
          isplitl [H1]; · iexact H1
          isplitl [H2]; · iexists _; iexact H2
          isplitl [H3]; · iexists _; iexact H3
          isplitl [H4]; · iexists _; iexact H4
          isplitl [HS0]; · iexact HS0
          iintro ⟨H0, H1, ⟨%e2, H2⟩, ⟨%e3, H3⟩, ⟨%e4, H4⟩, ⟨%es0, HS0⟩⟩
          isplitl [HS0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 Hg]
          · isplitl [HS0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32]
            · isplitl [HS0]
              · unfold owns; iexists _; isplitr
                swap; · iexact HS0
                ipureintro; exact View.read_writes_of_cover _ _ _ _ _ (scover0_C_0 c _ _ _ _ _ _ _ _ _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              isplitl [HR19]
              · iexact HR19
              isplitl [HR20]
              · iexact HR20
              isplitl [HR21]
              · iexact HR21
              isplitl [HR22]
              · iexact HR22
              isplitl [HR23]
              · iexact HR23
              isplitl [HR24]
              · iexact HR24
              isplitl [HR25]
              · iexact HR25
              isplitl [HR26]
              · iexact HR26
              isplitl [HR27]
              · iexact HR27
              isplitl [HR28]
              · iexact HR28
              isplitl [HR29]
              · iexact HR29
              isplitl [HR30]
              · iexact HR30
              isplitl [HR31]
              · iexact HR31
              iexact HR32
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_C_2 c _ _ _ _ _ _ _ _ _ _ _ _ _ _ _ _ _ _ _)
          isplitl [H3]
          · unfold owns; iexists _; isplitr
            swap; · iexact H3
            ipureintro; exact View.read_writes_of_cover _ _ _ _ _ (cover0_C_3 c _ _ _ _ _ _ _ _ _ _ _ _ _ _ _ _ _ _ _)
          unfold owns; iexists _; isplitr
          swap; · iexact H4
          ipureintro; exact View.read_writes_of_cover _ _ _ _ _ (cover0_C_4 c _ _ _ _ _ _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2 t], after0_2]
        rw [show (dat0 V c).leavesExact 3 t = owns (c : Thread nD τ) (ms0_3 t) fullShare ((dat0 V c).after 3 t) from by
      unfold Dat.leavesExact; rw [liveAt0_3 t], after0_3]
        rw [Dat.leavesExact_idle (dat0 V c) 4 t (idleAt0_4_B t (fun h => h0 ((hcond0_0 t).mp h)) ((hcond0_1 t).mpr h1) (fun h => h2 ((hcond0_2 t).mp h))) (noFlush0_4_B t (fun h => h0 ((hcond0_0 t).mp h)) ((hcond0_1 t).mpr h1) (fun h => h2 ((hcond0_2 t).mp h)))]
        by_cases hz : t.val = 0
        · exfalso; have hN : t.val < 16 := lt_of_lt_of_eq t.isLt (show cfg0.N = 16 from N_0); omega
        · rw [PhiS_castSuccR0 V c t, PhiS_posR0 V c _ _ hz]
          rw [outsAt0_B V c t h0 h1 h2]
          unfold out0_B_2 out0_B_3 sout0_B_0; (try dsimp only)
          iintro ⟨⟨⟨HS0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32⟩, Hg⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ (fun h => h0 ((hcond0_0 t).mp h)) ((hcond0_1 t).mpr h1) (fun h => h2 ((hcond0_2 t).mp h)) (iblk0 V c 0 t) (iblk0 V c 1 t) _).2.2.2.2 _ Set.univ _)
          isplitl [H0]; · iexact H0
          isplitl [H1]; · iexact H1
          isplitl [H2]; · iexists _; iexact H2
          isplitl [H3]; · iexists _; iexact H3
          isplitl [H4]; · iexact H4
          isplitl [HS0]; · iexact HS0
          iintro ⟨H0, H1, ⟨%e2, H2⟩, ⟨%e3, H3⟩, H4, ⟨%es0, HS0⟩⟩
          isplitl [HS0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32 Hg]
          · isplitl [HS0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32]
            · isplitl [HS0]
              · unfold owns; iexists _; isplitr
                swap; · iexact HS0
                ipureintro; exact View.read_writes_of_cover _ _ _ _ _ (scover0_B_0 c _ _ _ _ _ _ _ _ _ _ _ _ _ _ _ _ _ _ _)
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              isplitl [HR19]
              · iexact HR19
              isplitl [HR20]
              · iexact HR20
              isplitl [HR21]
              · iexact HR21
              isplitl [HR22]
              · iexact HR22
              isplitl [HR23]
              · iexact HR23
              isplitl [HR24]
              · iexact HR24
              isplitl [HR25]
              · iexact HR25
              isplitl [HR26]
              · iexact HR26
              isplitl [HR27]
              · iexact HR27
              isplitl [HR28]
              · iexact HR28
              isplitl [HR29]
              · iexact HR29
              isplitl [HR30]
              · iexact HR30
              isplitl [HR31]
              · iexact HR31
              iexact HR32
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_B_2 c _ _ _ _ _ _ _ _ _ _ _ _ _ _ _ _ _ _ _)
          isplitl [H3]
          · unfold owns; iexists _; isplitr
            swap; · iexact H3
            ipureintro; exact View.read_writes_of_cover _ _ _ _ _ (cover0_B_3 c _ _ _ _ _ _ _ _ _ _ _ _ _ _ _ _ _ _ _)
          iexists _; iexact H4
    · exfalso; omega

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hinR0 (c : Dev nD) : Pipeline.ΦA spec0 c ⊢ (dat0 V c).Φ 0 := by
  rw [show (dat0 V c).Φ 0 = PhiSR0 V c 0 (Nat.zero_le _) from rfl, PhiS_zeroR0 V c 0 _ rfl]
  try exact Idealize.SL.BI.Entails.refl _

theorem Phi_outR0 (c : Dev nD) (t : Fin (cfg0.N + 1)) (ht : t.val ≠ 0) : (dat0 V c).Φ t ⊢ Pipeline.ΦA spec0 c := by
  rw [show (dat0 V c).Φ t = PhiSR0 V c t.val (Nat.le_of_lt_succ t.isLt) from rfl, PhiS_posR0 V c _ _ ht, PhiA0_eq]
  iintro ⟨⟨HS0, HR1, HR2, HR3, HR4, HR5, HR6, HR7, HR8, HR9, HR10, HR11, HR12, HR13, HR14, HR15, HR16, HR17, HR18, HR19, HR20, HR21, HR22, HR23, HR24, HR25, HR26, HR27, HR28, HR29, HR30, HR31, HR32⟩, Hg⟩
  isplitl [HS0 HR1 HR2 HR3 HR4 HR5 HR6 HR7 HR8 HR9 HR10 HR11 HR12 HR13 HR14 HR15 HR16 HR17 HR18 HR19 HR20 HR21 HR22 HR23 HR24 HR25 HR26 HR27 HR28 HR29 HR30 HR31 HR32]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    isplitl [HR22]
    · iexact HR22
    isplitl [HR23]
    · iexact HR23
    isplitl [HR24]
    · iexact HR24
    isplitl [HR25]
    · iexact HR25
    isplitl [HR26]
    · iexact HR26
    isplitl [HR27]
    · iexact HR27
    isplitl [HR28]
    · iexact HR28
    isplitl [HR29]
    · iexact HR29
    isplitl [HR30]
    · iexact HR30
    isplitl [HR31]
    · iexact HR31
    iexact HR32
  iexact Hg

theorem houtR0 (c : Dev nD) : (dat0 V c).Φ (Fin.last cfg0.N) ⊢ Pipeline.ΦA spec0 c :=
  Phi_outR0 V c _ (by rw [Fin.val_last]; have : cfg0.N = 16 := N_0; omega)

end Regions

end Cert.KernelIdeal.Gen

end
-- ==== Proof.Whole.Region1.lean ====
/- `KernelIdeal`, call 1 (`_quant_matmul` of x and w): its region at the entry contents `V`. -/
module

public import proofs.«01_k».proof.Proof.Whole.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

abbrev cond1_1 (i : grid1.Coords) : Prop := (Scalar.cmpi .ne (Scalar.extui (Scalar.cmpi .sgt (BitVec.ofNat 32 (i 0).val) 0#32)) 0#32) = 1#1

theorem hcond1_1 : ∀ t : Fin cfg1.N, cond1_1 (grid1.coords t) ↔ 1 ≤ t.val :=
  (by decide +kernel : ∀ t : Fin grid1.N, cond1_1 (grid1.coords t) ↔ 1 ≤ t.val)

abbrev cond1_2 (i : grid1.Coords) : Prop := k1_cond3 i = 1#1

theorem hcond1_2 : ∀ t : Fin cfg1.N, cond1_2 (grid1.coords t) ↔ t.val % 16 = 15 :=
  (fun t => by
    have ht : t.val < 16 := Nat.lt_of_lt_of_eq t.isLt N_1
    have e0 : (grid1.coords t 0).val = t.val / 1 % 16 := Pipeline.Grid.coords_val t 0 (by decide) rfl
    simp only [cond1_2, k1_cond3, e0]
    word_cmp
   : ∀ t : Fin grid1.N, cond1_2 (grid1.coords t) ↔ t.val % 16 = 15)

theorem liveAt1_0 : ∀ t : Fin cfg1.N, cfg1.idle 0 (grid1.coords t) = false := fun _ => rfl

theorem liveAt1_1 : ∀ t : Fin cfg1.N, cfg1.idle 1 (grid1.coords t) = false := fun _ => rfl

theorem liveAt1_2 : ∀ t : Fin cfg1.N, cfg1.idle 2 (grid1.coords t) = false := fun _ => rfl

theorem liveAt1_3 : ∀ t : Fin cfg1.N, cfg1.idle 3 (grid1.coords t) = false := fun _ => rfl

theorem liveAt1_4 : ∀ t : Fin cfg1.N, cfg1.idle 4 (grid1.coords t) = false := fun _ => rfl

theorem liveAt1_5 : ∀ t : Fin cfg1.N, cfg1.idle 5 (grid1.coords t) = false := fun _ => rfl

theorem liveAt1_6 : ∀ t : Fin cfg1.N, cfg1.idle 6 (grid1.coords t) = false := fun _ => rfl

theorem idleAt1_7_A : ∀ t : Fin cfg1.N, cond1_0 (grid1.coords t) → ¬cond1_1 (grid1.coords t) → ¬cond1_2 (grid1.coords t) → cfg1.idle 7 (grid1.coords t) = true := by decide +kernel

theorem noFlush1_7_A : ∀ t : Fin cfg1.N, cond1_0 (grid1.coords t) → ¬cond1_1 (grid1.coords t) → ¬cond1_2 (grid1.coords t) → (cfg1.win 7).flush t = false := by decide +kernel

theorem idleAt1_7_B : ∀ t : Fin cfg1.N, ¬cond1_0 (grid1.coords t) → cond1_1 (grid1.coords t) → ¬cond1_2 (grid1.coords t) → cfg1.idle 7 (grid1.coords t) = true := by decide +kernel

theorem noFlush1_7_B : ∀ t : Fin cfg1.N, ¬cond1_0 (grid1.coords t) → cond1_1 (grid1.coords t) → ¬cond1_2 (grid1.coords t) → (cfg1.win 7).flush t = false := by decide +kernel

theorem liveAt1_7_C : ∀ t : Fin cfg1.N, ¬cond1_0 (grid1.coords t) → cond1_1 (grid1.coords t) → cond1_2 (grid1.coords t) → cfg1.idle 7 (grid1.coords t) = false := by decide +kernel

abbrev VO1_4 : View sig .tc .vmem S512x4096 .f32 := (Memref.whole cc1_stg4_0 : Memref sig .tc .vmem S512x4096 .f32).view

abbrev VO1_5 : View sig .tc .vmem S512x4096 .fp8e4m3 := (Memref.whole cc1_stg5_0 : Memref sig .tc .vmem S512x4096 .fp8e4m3).view

abbrev VO1_6 : View sig .tc .smem S1 .f32 := (Memref.whole cc1_stg6_0 : Memref sig .tc .smem S1 .f32).view

abbrev VO1_7 : View sig .tc .smem S16 .f32 := (Memref.whole cc1_stg7_0 : Memref sig .tc .smem S16 .f32).view

abbrev ms1_0 (t : Fin cfg1.N) : Memref sig .tc .smem S16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .smem S16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x4096 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x4096 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .smem S1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .smem S16 .f32 := win1_7.stage (cfg1.slots t 7)
abbrev hs1_7 (t : Fin cfg1.N) : (ms1_7 t).IsWhole := hstage1_7 ((cfg1.slots t 7).cast nbuf1_7)

abbrev scM1_0 : Memref sig .tc .vmem S8x4096 .f32 := Memref.whole cc1_scratch0

abbrev VS1_0 : View sig .tc .vmem S8x4096 .f32 := scM1_0.view

theorem PhiA1_eq (c : Dev nD) :
    (Pipeline.ΦA spec1 c : sProp (MT nD τ sig Unit (Elt F) ℕ (UR sig nD τ) ℕ))
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r)) := by
  unfold Pipeline.ΦA; rw [scopedRest1_eq]; simp only [scM1_0, owns_whole]; try rfl

set_option maxHeartbeats 1000000 in

noncomputable def kernelRun1_A (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond1_0 i) (hc1 : ¬cond1_1 i) (hc2 : ¬cond1_2 i)
    (x0 : Vec F S16 .f32) (x1 : Vec F S16 .f32) (x2 : Vec F S512x4096 .f32) (x3 : Vec F S4096x4096 .fp8e4m3) :
    Σ' (L4 : List (View.Piece (Elt F) S512x4096 .f32)), Σ' (L5 : List (View.Piece (Elt F) S512x4096 .fp8e4m3)), Σ' (L6 : List (View.Piece (Elt F) S1 .f32)), Σ' (L7 : List (View.Piece (Elt F) S16 .f32)), { LS0 : List (View.Piece (Elt F) S8x4096 .f32) //
      ∀ (xi7 : Vec F S16 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1_fwd i arg1 harg1 arg2 harg2 arg3 harg3 arg4 harg4 arg5 harg5 arg6 harg6 arg7 harg7 arg8 harg8 arg9 harg9) K } := by
  refine ⟨?_, ?_, ?_, [], ?_, fun xi7 E K => ?run⟩
  case run =>
    simp only [cc1_fwd_eq_skeleton]; unfold cc1_fwd_skel
    simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg8.eq_unread hf7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]
    · iexists _; isplitr; · ipureintro; exact harg8.read_unread _
      iexact H7
    iexists _; iexact HS0

theorem cover1_A_4 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond1_0 i) (hc1 : ¬cond1_1 i) (hc2 : ¬cond1_2 i)
    (x0 : Vec F S16 .f32) (x1 : Vec F S16 .f32) (x2 : Vec F S512x4096 .f32) (x3 : Vec F S4096x4096 .fp8e4m3) (y : S512x4096.Idx) :
    ∃ pc ∈ (kernelRun1_A c i arg1 harg1 arg2 harg2 arg3 harg3 arg4 harg4 arg5 harg5 arg6 harg6 arg7 harg7 arg8 harg8 arg9 harg9 hc0 hc1 hc2 x0 x1 x2 x3).1, y ∈ pc.1.set :=
  View.cover_of_tiledL (kernelRun1_A c i arg1 harg1 arg2 harg2 arg3 harg3 arg4 harg4 arg5 harg5 arg6 harg6 arg7 harg7 arg8 harg8 arg9 harg9 hc0 hc1 hc2 x0 x1 x2 x3).1 S512x512.size (by sl_kernel_rfl) y

def out1_A_4 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond1_0 i) (hc1 : ¬cond1_1 i) (hc2 : ¬cond1_2 i)
    (x0 : Vec F S16 .f32) (x1 : Vec F S16 .f32) (x2 : Vec F S512x4096 .f32) (x3 : Vec F S4096x4096 .fp8e4m3) : Vec F S512x4096 .f32 :=
  VO1_4.read (Elt F) (VO1_4.writes (Elt F) VO1_4.junk (kernelRun1_A c i arg1 harg1 arg2 harg2 arg3 harg3 arg4 harg4 arg5 harg5 arg6 harg6 arg7 harg7 arg8 harg8 arg9 harg9 hc0 hc1 hc2 x0 x1 x2 x3).1)

theorem cover1_A_5 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond1_0 i) (hc1 : ¬cond1_1 i) (hc2 : ¬cond1_2 i)
    (x0 : Vec F S16 .f32) (x1 : Vec F S16 .f32) (x2 : Vec F S512x4096 .f32) (x3 : Vec F S4096x4096 .fp8e4m3) (y : S512x4096.Idx) :
    ∃ pc ∈ (kernelRun1_A c i arg1 harg1 arg2 harg2 arg3 harg3 arg4 harg4 arg5 harg5 arg6 harg6 arg7 harg7 arg8 harg8 arg9 harg9 hc0 hc1 hc2 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 hc0 hc1 hc2 x0 x1 x2 x3).2.1 S512x4096.size (by sl_kernel_rfl) y

def out1_A_5 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond1_0 i) (hc1 : ¬cond1_1 i) (hc2 : ¬cond1_2 i)
    (x0 : Vec F S16 .f32) (x1 : Vec F S16 .f32) (x2 : Vec F S512x4096 .f32) (x3 : Vec F S4096x4096 .fp8e4m3) : Vec F S512x4096 .fp8e4m3 :=
  VO1_5.read (Elt F) (VO1_5.writes (Elt F) VO1_5.junk (kernelRun1_A c i arg1 harg1 arg2 harg2 arg3 harg3 arg4 harg4 arg5 harg5 arg6 harg6 arg7 harg7 arg8 harg8 arg9 harg9 hc0 hc1 hc2 x0 x1 x2 x3).2.1)

theorem cover1_A_6 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond1_0 i) (hc1 : ¬cond1_1 i) (hc2 : ¬cond1_2 i)
    (x0 : Vec F S16 .f32) (x1 : Vec F S16 .f32) (x2 : Vec F S512x4096 .f32) (x3 : Vec F S4096x4096 .fp8e4m3) (y : S1.Idx) :
    ∃ pc ∈ (kernelRun1_A c i arg1 harg1 arg2 harg2 arg3 harg3 arg4 harg4 arg5 harg5 arg6 harg6 arg7 harg7 arg8 harg8 arg9 harg9 hc0 hc1 hc2 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 hc0 hc1 hc2 x0 x1 x2 x3).2.2.1 S1.size (by sl_kernel_rfl) y

def out1_A_6 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond1_0 i) (hc1 : ¬cond1_1 i) (hc2 : ¬cond1_2 i)
    (x0 : Vec F S16 .f32) (x1 : Vec F S16 .f32) (x2 : Vec F S512x4096 .f32) (x3 : Vec F S4096x4096 .fp8e4m3) : Vec F S1 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 hc1 hc2 x0 x1 x2 x3).2.2.1)

def out1_A_7 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond1_0 i) (hc1 : ¬cond1_1 i) (hc2 : ¬cond1_2 i)
    (x0 : Vec F S16 .f32) (x1 : Vec F S16 .f32) (x2 : Vec F S512x4096 .f32) (x3 : Vec F S4096x4096 .fp8e4m3) : Vec F S16 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 hc0 hc1 hc2 x0 x1 x2 x3).2.2.2.1)

theorem scover1_A_0 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond1_0 i) (hc1 : ¬cond1_1 i) (hc2 : ¬cond1_2 i)
    (x0 : Vec F S16 .f32) (x1 : Vec F S16 .f32) (x2 : Vec F S512x4096 .f32) (x3 : Vec F S4096x4096 .fp8e4m3) (y : S8x4096.Idx) :
    ∃ pc ∈ (kernelRun1_A c i arg1 harg1 arg2 harg2 arg3 harg3 arg4 harg4 arg5 harg5 arg6 harg6 arg7 harg7 arg8 harg8 arg9 harg9 hc0 hc1 hc2 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 hc0 hc1 hc2 x0 x1 x2 x3).2.2.2.2.1 S8x4096.size (by sl_kernel_rfl) y

def sout1_A_0 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond1_0 i) (hc1 : ¬cond1_1 i) (hc2 : ¬cond1_2 i)
    (x0 : Vec F S16 .f32) (x1 : Vec F S16 .f32) (x2 : Vec F S512x4096 .f32) (x3 : Vec F S4096x4096 .fp8e4m3) : Vec F S8x4096 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 hc1 hc2 x0 x1 x2 x3).2.2.2.2.1)

set_option maxHeartbeats 1000000 in

noncomputable def kernelRun1_B (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : ¬cond1_2 i)
    (x0 : Vec F S16 .f32) (x1 : Vec F S16 .f32) (x2 : Vec F S512x4096 .f32) (x3 : Vec F S4096x4096 .fp8e4m3) (xs0 : Vec F S8x4096 .f32) :
    Σ' (L4 : List (View.Piece (Elt F) S512x4096 .f32)), Σ' (L5 : List (View.Piece (Elt F) S512x4096 .fp8e4m3)), Σ' (L6 : List (View.Piece (Elt F) S1 .f32)), Σ' (L7 : List (View.Piece (Elt F) S16 .f32)), { LS0 : List (View.Piece (Elt F) S8x4096 .f32) //
      ∀ (xi7 : Vec F S16 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc1_fwd i arg1 harg1 arg2 harg2 arg3 harg3 arg4 harg4 arg5 harg5 arg6 harg6 arg7 harg7 arg8 harg8 arg9 harg9) K } := by
  refine ⟨?_, ?_, ?_, [], ?_, fun xi7 E K => ?run⟩
  case run =>
    simp only [cc1_fwd_eq_skeleton]; unfold cc1_fwd_skel
    simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg8.eq_unread hf7; obtain rfl := harg9.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]
    · iexists _; isplitr; · ipureintro; exact harg8.read_unread _
      iexact H7
    iexists _; iexact HS0

theorem cover1_B_4 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : ¬cond1_2 i)
    (x0 : Vec F S16 .f32) (x1 : Vec F S16 .f32) (x2 : Vec F S512x4096 .f32) (x3 : Vec F S4096x4096 .fp8e4m3) (xs0 : Vec F S8x4096 .f32) (y : S512x4096.Idx) :
    ∃ pc ∈ (kernelRun1_B c i arg1 harg1 arg2 harg2 arg3 harg3 arg4 harg4 arg5 harg5 arg6 harg6 arg7 harg7 arg8 harg8 arg9 harg9 hc0 hc1 hc2 x0 x1 x2 x3 xs0).1, y ∈ pc.1.set :=
  View.cover_of_tiledL (kernelRun1_B c i arg1 harg1 arg2 harg2 arg3 harg3 arg4 harg4 arg5 harg5 arg6 harg6 arg7 harg7 arg8 harg8 arg9 harg9 hc0 hc1 hc2 x0 x1 x2 x3 xs0).1 S512x512.size (by sl_kernel_rfl) y

def out1_B_4 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : ¬cond1_2 i)
    (x0 : Vec F S16 .f32) (x1 : Vec F S16 .f32) (x2 : Vec F S512x4096 .f32) (x3 : Vec F S4096x4096 .fp8e4m3) (xs0 : Vec F S8x4096 .f32) : Vec F S512x4096 .f32 :=
  VO1_4.read (Elt F) (VO1_4.writes (Elt F) VO1_4.junk (kernelRun1_B c i arg1 harg1 arg2 harg2 arg3 harg3 arg4 harg4 arg5 harg5 arg6 harg6 arg7 harg7 arg8 harg8 arg9 harg9 hc0 hc1 hc2 x0 x1 x2 x3 xs0).1)

theorem cover1_B_5 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : ¬cond1_2 i)
    (x0 : Vec F S16 .f32) (x1 : Vec F S16 .f32) (x2 : Vec F S512x4096 .f32) (x3 : Vec F S4096x4096 .fp8e4m3) (xs0 : Vec F S8x4096 .f32) (y : S512x4096.Idx) :
    ∃ pc ∈ (kernelRun1_B c i arg1 harg1 arg2 harg2 arg3 harg3 arg4 harg4 arg5 harg5 arg6 harg6 arg7 harg7 arg8 harg8 arg9 harg9 hc0 hc1 hc2 x0 x1 x2 x3 xs0).2.1, y ∈ pc.1.set :=
  View.cover_of_tiledL (kernelRun1_B c i arg1 harg1 arg2 harg2 arg3 harg3 arg4 harg4 arg5 harg5 arg6 harg6 arg7 harg7 arg8 harg8 arg9 harg9 hc0 hc1 hc2 x0 x1 x2 x3 xs0).2.1 S512x4096.size (by sl_kernel_rfl) y

def out1_B_5 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : ¬cond1_2 i)
    (x0 : Vec F S16 .f32) (x1 : Vec F S16 .f32) (x2 : Vec F S512x4096 .f32) (x3 : Vec F S4096x4096 .fp8e4m3) (xs0 : Vec F S8x4096 .f32) : Vec F S512x4096 .fp8e4m3 :=
  VO1_5.read (Elt F) (VO1_5.writes (Elt F) VO1_5.junk (kernelRun1_B c i arg1 harg1 arg2 harg2 arg3 harg3 arg4 harg4 arg5 harg5 arg6 harg6 arg7 harg7 arg8 harg8 arg9 harg9 hc0 hc1 hc2 x0 x1 x2 x3 xs0).2.1)

theorem cover1_B_6 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : ¬cond1_2 i)
    (x0 : Vec F S16 .f32) (x1 : Vec F S16 .f32) (x2 : Vec F S512x4096 .f32) (x3 : Vec F S4096x4096 .fp8e4m3) (xs0 : Vec F S8x4096 .f32) (y : S1.Idx) :
    ∃ pc ∈ (kernelRun1_B c i arg1 harg1 arg2 harg2 arg3 harg3 arg4 harg4 arg5 harg5 arg6 harg6 arg7 harg7 arg8 harg8 arg9 harg9 hc0 hc1 hc2 x0 x1 x2 x3 xs0).2.2.1, y ∈ pc.1.set :=
  View.cover_of_tiledL (kernelRun1_B c i arg1 harg1 arg2 harg2 arg3 harg3 arg4 harg4 arg5 harg5 arg6 harg6 arg7 harg7 arg8 harg8 arg9 harg9 hc0 hc1 hc2 x0 x1 x2 x3 xs0).2.2.1 S1.size (by sl_kernel_rfl) y

def out1_B_6 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : ¬cond1_2 i)
    (x0 : Vec F S16 .f32) (x1 : Vec F S16 .f32) (x2 : Vec F S512x4096 .f32) (x3 : Vec F S4096x4096 .fp8e4m3) (xs0 : Vec F S8x4096 .f32) : Vec F S1 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 hc1 hc2 x0 x1 x2 x3 xs0).2.2.1)

def out1_B_7 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : ¬cond1_2 i)
    (x0 : Vec F S16 .f32) (x1 : Vec F S16 .f32) (x2 : Vec F S512x4096 .f32) (x3 : Vec F S4096x4096 .fp8e4m3) (xs0 : Vec F S8x4096 .f32) : Vec F S16 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 hc0 hc1 hc2 x0 x1 x2 x3 xs0).2.2.2.1)

theorem scover1_B_0 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : ¬cond1_2 i)
    (x0 : Vec F S16 .f32) (x1 : Vec F S16 .f32) (x2 : Vec F S512x4096 .f32) (x3 : Vec F S4096x4096 .fp8e4m3) (xs0 : Vec F S8x4096 .f32) (y : S8x4096.Idx) :
    ∃ pc ∈ (kernelRun1_B c i arg1 harg1 arg2 harg2 arg3 harg3 arg4 harg4 arg5 harg5 arg6 harg6 arg7 harg7 arg8 harg8 arg9 harg9 hc0 hc1 hc2 x0 x1 x2 x3 xs0).2.2.2.2.1, y ∈ pc.1.set :=
  View.cover_of_tiledL (kernelRun1_B c i arg1 harg1 arg2 harg2 arg3 harg3 arg4 harg4 arg5 harg5 arg6 harg6 arg7 harg7 arg8 harg8 arg9 harg9 hc0 hc1 hc2 x0 x1 x2 x3 xs0).2.2.2.2.1 S8x4096.size (by sl_kernel_rfl) y

def sout1_B_0 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : ¬cond1_2 i)
    (x0 : Vec F S16 .f32) (x1 : Vec F S16 .f32) (x2 : Vec F S512x4096 .f32) (x3 : Vec F S4096x4096 .fp8e4m3) (xs0 : Vec F S8x4096 .f32) : Vec F S8x4096 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 hc1 hc2 x0 x1 x2 x3 xs0).2.2.2.2.1)

set_option maxHeartbeats 1128000 in

noncomputable def kernelRun1_C (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : cond1_2 i)
    (x0 : Vec F S16 .f32) (x1 : Vec F S16 .f32) (x2 : Vec F S512x4096 .f32) (x3 : Vec F S4096x4096 .fp8e4m3) (xs0 : Vec F S8x4096 .f32) :
    Σ' (L4 : List (View.Piece (Elt F) S512x4096 .f32)), Σ' (L5 : List (View.Piece (Elt F) S512x4096 .fp8e4m3)), Σ' (L6 : List (View.Piece (Elt F) S1 .f32)), Σ' (L7 : List (View.Piece (Elt F) S16 .f32)), { LS0 : List (View.Piece (Elt F) S8x4096 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1_fwd i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1_fwd_eq_skeleton]; unfold cc1_fwd_skel
    simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg9.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _; iexact HS0

theorem cover1_C_4 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : cond1_2 i)
    (x0 : Vec F S16 .f32) (x1 : Vec F S16 .f32) (x2 : Vec F S512x4096 .f32) (x3 : Vec F S4096x4096 .fp8e4m3) (xs0 : Vec F S8x4096 .f32) (y : S512x4096.Idx) :
    ∃ pc ∈ (kernelRun1_C c i arg1 harg1 arg2 harg2 arg3 harg3 arg4 harg4 arg5 harg5 arg6 harg6 arg7 harg7 arg8 harg8 arg9 harg9 hc0 hc1 hc2 x0 x1 x2 x3 xs0).1, y ∈ pc.1.set :=
  View.cover_of_tiledL (kernelRun1_C c i arg1 harg1 arg2 harg2 arg3 harg3 arg4 harg4 arg5 harg5 arg6 harg6 arg7 harg7 arg8 harg8 arg9 harg9 hc0 hc1 hc2 x0 x1 x2 x3 xs0).1 S512x512.size (by sl_kernel_rfl) y

def out1_C_4 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : cond1_2 i)
    (x0 : Vec F S16 .f32) (x1 : Vec F S16 .f32) (x2 : Vec F S512x4096 .f32) (x3 : Vec F S4096x4096 .fp8e4m3) (xs0 : Vec F S8x4096 .f32) : Vec F S512x4096 .f32 :=
  VO1_4.read (Elt F) (VO1_4.writes (Elt F) VO1_4.junk (kernelRun1_C c i arg1 harg1 arg2 harg2 arg3 harg3 arg4 harg4 arg5 harg5 arg6 harg6 arg7 harg7 arg8 harg8 arg9 harg9 hc0 hc1 hc2 x0 x1 x2 x3 xs0).1)

theorem cover1_C_5 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : cond1_2 i)
    (x0 : Vec F S16 .f32) (x1 : Vec F S16 .f32) (x2 : Vec F S512x4096 .f32) (x3 : Vec F S4096x4096 .fp8e4m3) (xs0 : Vec F S8x4096 .f32) (y : S512x4096.Idx) :
    ∃ pc ∈ (kernelRun1_C c i arg1 harg1 arg2 harg2 arg3 harg3 arg4 harg4 arg5 harg5 arg6 harg6 arg7 harg7 arg8 harg8 arg9 harg9 hc0 hc1 hc2 x0 x1 x2 x3 xs0).2.1, y ∈ pc.1.set :=
  View.cover_of_tiledL (kernelRun1_C c i arg1 harg1 arg2 harg2 arg3 harg3 arg4 harg4 arg5 harg5 arg6 harg6 arg7 harg7 arg8 harg8 arg9 harg9 hc0 hc1 hc2 x0 x1 x2 x3 xs0).2.1 S512x4096.size (by sl_kernel_rfl) y

def out1_C_5 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : cond1_2 i)
    (x0 : Vec F S16 .f32) (x1 : Vec F S16 .f32) (x2 : Vec F S512x4096 .f32) (x3 : Vec F S4096x4096 .fp8e4m3) (xs0 : Vec F S8x4096 .f32) : Vec F S512x4096 .fp8e4m3 :=
  VO1_5.read (Elt F) (VO1_5.writes (Elt F) VO1_5.junk (kernelRun1_C c i arg1 harg1 arg2 harg2 arg3 harg3 arg4 harg4 arg5 harg5 arg6 harg6 arg7 harg7 arg8 harg8 arg9 harg9 hc0 hc1 hc2 x0 x1 x2 x3 xs0).2.1)

theorem cover1_C_6 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : cond1_2 i)
    (x0 : Vec F S16 .f32) (x1 : Vec F S16 .f32) (x2 : Vec F S512x4096 .f32) (x3 : Vec F S4096x4096 .fp8e4m3) (xs0 : Vec F S8x4096 .f32) (y : S1.Idx) :
    ∃ pc ∈ (kernelRun1_C c i arg1 harg1 arg2 harg2 arg3 harg3 arg4 harg4 arg5 harg5 arg6 harg6 arg7 harg7 arg8 harg8 arg9 harg9 hc0 hc1 hc2 x0 x1 x2 x3 xs0).2.2.1, y ∈ pc.1.set :=
  View.cover_of_tiledL (kernelRun1_C c i arg1 harg1 arg2 harg2 arg3 harg3 arg4 harg4 arg5 harg5 arg6 harg6 arg7 harg7 arg8 harg8 arg9 harg9 hc0 hc1 hc2 x0 x1 x2 x3 xs0).2.2.1 S1.size (by sl_kernel_rfl) y

def out1_C_6 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : cond1_2 i)
    (x0 : Vec F S16 .f32) (x1 : Vec F S16 .f32) (x2 : Vec F S512x4096 .f32) (x3 : Vec F S4096x4096 .fp8e4m3) (xs0 : Vec F S8x4096 .f32) : Vec F S1 .f32 :=
  VO1_6.read (Elt F) (VO1_6.writes (Elt F) VO1_6.junk (kernelRun1_C c i arg1 harg1 arg2 harg2 arg3 harg3 arg4 harg4 arg5 harg5 arg6 harg6 arg7 harg7 arg8 harg8 arg9 harg9 hc0 hc1 hc2 x0 x1 x2 x3 xs0).2.2.1)

theorem cover1_C_7 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : cond1_2 i)
    (x0 : Vec F S16 .f32) (x1 : Vec F S16 .f32) (x2 : Vec F S512x4096 .f32) (x3 : Vec F S4096x4096 .fp8e4m3) (xs0 : Vec F S8x4096 .f32) (y : S16.Idx) :
    ∃ pc ∈ (kernelRun1_C c i arg1 harg1 arg2 harg2 arg3 harg3 arg4 harg4 arg5 harg5 arg6 harg6 arg7 harg7 arg8 harg8 arg9 harg9 hc0 hc1 hc2 x0 x1 x2 x3 xs0).2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 hc2 x0 x1 x2 x3 xs0).2.2.2.1 S1.size (by sl_kernel_rfl) y

def out1_C_7 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : cond1_2 i)
    (x0 : Vec F S16 .f32) (x1 : Vec F S16 .f32) (x2 : Vec F S512x4096 .f32) (x3 : Vec F S4096x4096 .fp8e4m3) (xs0 : Vec F S8x4096 .f32) : Vec F S16 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 hc0 hc1 hc2 x0 x1 x2 x3 xs0).2.2.2.1)

theorem scover1_C_0 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : cond1_2 i)
    (x0 : Vec F S16 .f32) (x1 : Vec F S16 .f32) (x2 : Vec F S512x4096 .f32) (x3 : Vec F S4096x4096 .fp8e4m3) (xs0 : Vec F S8x4096 .f32) (y : S8x4096.Idx) :
    ∃ pc ∈ (kernelRun1_C c i arg1 harg1 arg2 harg2 arg3 harg3 arg4 harg4 arg5 harg5 arg6 harg6 arg7 harg7 arg8 harg8 arg9 harg9 hc0 hc1 hc2 x0 x1 x2 x3 xs0).2.2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 hc2 x0 x1 x2 x3 xs0).2.2.2.2.1 S8x4096.size (by sl_kernel_rfl) y

def sout1_C_0 (c : Dev nD) (i : grid1.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e4m3) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond1_0 i) (hc1 : cond1_1 i) (hc2 : cond1_2 i)
    (x0 : Vec F S16 .f32) (x1 : Vec F S16 .f32) (x2 : Vec F S512x4096 .f32) (x3 : Vec F S4096x4096 .fp8e4m3) (xs0 : Vec F S8x4096 .f32) : Vec F S8x4096 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 hc0 hc1 hc2 x0 x1 x2 x3 xs0).2.2.2.2.1)

def outsAt1 (c : Dev nD) : (n : ℕ) → n < cfg1.N → Vec F S512x4096 .f32 × Vec F S512x4096 .fp8e4m3 × Vec F S1 .f32 × Vec F S16 .f32 × Vec F S8x4096 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : 1 ≤ (n + 1) then
        False.elim (by have hN : n + 1 < 16 := lt_of_lt_of_eq hn (show cfg1.N = 16 from N_1); omega)
      else
        if h2 : (n + 1) % 16 = 15 then
          False.elim (by have hN : n + 1 < 16 := lt_of_lt_of_eq hn (show cfg1.N = 16 from N_1); omega)
        else
          (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : 1 ≤ (n + 1) then
        if h2 : (n + 1) % 16 = 15 then
          (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2)
        else
          (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2)
      else
        False.elim (by have hN : n + 1 < 16 := lt_of_lt_of_eq hn (show cfg1.N = 16 from N_1); omega)

theorem outsAt1_A (c : Dev nD) (t : Fin cfg1.N) (h0 : t.val % 16 = 0) (h1 : ¬1 ≤ t.val) (h2 : ¬t.val % 16 = 15) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans ((dif_neg h2).trans rfl))

theorem outsAt1_B (c : Dev nD) (t : Fin cfg1.N) (h0 : ¬t.val % 16 = 0) (h1 : 1 ≤ t.val) (h2 : ¬t.val % 16 = 15) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt1_C (c : Dev nD) (t : Fin cfg1.N) (h0 : ¬t.val % 16 = 0) (h1 : 1 ≤ t.val) (h2 : t.val % 16 = 15) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).2.2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).2.2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

def PhiSR1 (c : Dev nD) : (n : ℕ) → n ≤ cfg1.N → sProp (MT nD τ sig Unit (Elt F) ℕ (UR sig nD τ) ℕ)
  | 0, _ => Pipeline.ΦA spec1 c
  | n + 1, hn => iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2.2.2) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r))

theorem PhiS_zeroR1 (c : Dev nD) (n : ℕ) (h : n ≤ cfg1.N) (hz : n = 0) : PhiSR1 V c n h = Pipeline.ΦA spec1 c := by
  subst hz; rfl

theorem PhiS_succR1 (c : Dev nD) (n : ℕ) (hn : n < cfg1.N) :
    PhiSR1 V c (n + 1) hn = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2.2.2) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r)) := rfl

theorem PhiS_posR1 (c : Dev nD) (n : ℕ) (h : n ≤ cfg1.N) (hz : n ≠ 0) :
    PhiSR1 V c n h = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2.2.2.2) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg7_0), ((c : Thread nD τ).loc cc2_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
  Φ t := PhiSR1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSuccR1 (c : Dev nD) (t : Fin cfg1.N) :
    (dat1 V c).Φ t.castSucc = PhiSR1 V c t.val (Nat.le_of_lt t.isLt) := by
  dsimp only [dat1]; exact Pipeline.Dat.Φ_castSucc (PhiSR1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp (MT nD τ sig Unit (Elt F) ℕ (UR sig nD τ) ℕ) :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 9600000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiSR1 V c (t.val + 1) t.isLt from rfl, PhiS_succR1]
  have hN : t.val < 16 := lt_of_lt_of_eq t.isLt (show cfg1.N = 16 from N_1)
  by_cases h0 : t.val % 16 = 0
  · by_cases h1 : 1 ≤ t.val
    · exfalso; omega
    · by_cases h2 : t.val % 16 = 15
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [show (dat1 V c).leavesExact 5 t = owns (c : Thread nD τ) (ms1_5 t) fullShare ((dat1 V c).after 5 t) from by
      unfold Dat.leavesExact; rw [liveAt1_5 t], after1_5]
        rw [show (dat1 V c).leavesExact 6 t = owns (c : Thread nD τ) (ms1_6 t) fullShare ((dat1 V c).after 6 t) from by
      unfold Dat.leavesExact; rw [liveAt1_6 t], after1_6]
        rw [Dat.leavesExact_idle (dat1 V c) 7 t (idleAt1_7_A t ((hcond1_0 t).mpr h0) (fun h => h1 ((hcond1_1 t).mp h)) (fun h => h2 ((hcond1_2 t).mp h))) (noFlush1_7_A t ((hcond1_0 t).mpr h0) (fun h => h1 ((hcond1_1 t).mp h)) (fun h => h2 ((hcond1_2 t).mp h)))]
        by_cases hz : t.val = 0
        · rw [PhiS_castSuccR1 V c t, PhiS_zeroR1 V c _ _ hz, PhiA1_eq]
          rw [outsAt1_A V c t h0 h1 h2]
          unfold out1_A_4 out1_A_5 out1_A_6 sout1_A_0; (try dsimp only)
          iintro ⟨⟨⟨HR0, HR1, HR2, HR3, HR4, HS0, HR6, HR7, HR8, HR9, HR10, HR11, HR12, HR13, HR14, HR15, HR16, HR17, HR18, HR19, HR20, HR21, HR22, HR23, HR24, HR25, HR26, HR27, HR28⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun1_A c (grid1.coords t) _ _ _ _ _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t)).2.2.2.2.2 _ Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexact H7
          isplitl [HS0]; · iexact HS0
          iintro ⟨H0, H1, H2, H3, ⟨%e4, H4⟩, ⟨%e5, H5⟩, ⟨%e6, H6⟩, H7, ⟨%es0, HS0⟩⟩
          isplitl [HR0 HR1 HR2 HR3 HR4 HS0 HR6 HR7 HR8 HR9 HR10 HR11 HR12 HR13 HR14 HR15 HR16 HR17 HR18 HR19 HR20 HR21 HR22 HR23 HR24 HR25 HR26 HR27 HR28 Hg]
          · isplitl [HR0 HR1 HR2 HR3 HR4 HS0 HR6 HR7 HR8 HR9 HR10 HR11 HR12 HR13 HR14 HR15 HR16 HR17 HR18 HR19 HR20 HR21 HR22 HR23 HR24 HR25 HR26 HR27 HR28]
            · isplitl [HR0]
              · iexact HR0
              isplitl [HR1]
              · iexact HR1
              isplitl [HR2]
              · iexact HR2
              isplitl [HR3]
              · iexact HR3
              isplitl [HR4]
              · iexact HR4
              isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _)
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              isplitl [HR19]
              · iexact HR19
              isplitl [HR20]
              · iexact HR20
              isplitl [HR21]
              · iexact HR21
              isplitl [HR22]
              · iexact HR22
              isplitl [HR23]
              · iexact HR23
              isplitl [HR24]
              · iexact HR24
              isplitl [HR25]
              · iexact HR25
              isplitl [HR26]
              · iexact HR26
              isplitl [HR27]
              · iexact HR27
              iexact HR28
            iexact Hg
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover1_A_4 c _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover1_A_5 c _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover1_A_6 c _ _ _ _ _ _ _ _ _ _ _ _ _ _ _ _ _ _ _ _ _ _ _ _ _ _)
          iexists _; iexact H7
        · exfalso; have hN : t.val < 16 := lt_of_lt_of_eq t.isLt (show cfg1.N = 16 from N_1); omega
  · by_cases h1 : 1 ≤ t.val
    · by_cases h2 : t.val % 16 = 15
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [show (dat1 V c).leavesExact 5 t = owns (c : Thread nD τ) (ms1_5 t) fullShare ((dat1 V c).after 5 t) from by
      unfold Dat.leavesExact; rw [liveAt1_5 t], after1_5]
        rw [show (dat1 V c).leavesExact 6 t = owns (c : Thread nD τ) (ms1_6 t) fullShare ((dat1 V c).after 6 t) from by
      unfold Dat.leavesExact; rw [liveAt1_6 t], after1_6]
        rw [show (dat1 V c).leavesExact 7 t = owns (c : Thread nD τ) (ms1_7 t) fullShare ((dat1 V c).after 7 t) from by
      unfold Dat.leavesExact; rw [liveAt1_7_C t (fun h => h0 ((hcond1_0 t).mp h)) ((hcond1_1 t).mpr h1) ((hcond1_2 t).mpr h2)], after1_7]
        by_cases hz : t.val = 0
        · exfalso; have hN : t.val < 16 := lt_of_lt_of_eq t.isLt (show cfg1.N = 16 from N_1); omega
        · rw [PhiS_castSuccR1 V c t, PhiS_posR1 V c _ _ hz]
          rw [outsAt1_C V c t h0 h1 h2]
          unfold out1_C_4 out1_C_5 out1_C_6 out1_C_7 sout1_C_0; (try dsimp only)
          iintro ⟨⟨⟨HR0, HR1, HR2, HR3, HR4, HS0, HR6, HR7, HR8, HR9, HR10, HR11, HR12, HR13, HR14, HR15, HR16, HR17, HR18, HR19, HR20, HR21, HR22, HR23, HR24, HR25, HR26, HR27, HR28⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun1_C c (grid1.coords t) _ _ _ _ _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) _).2.2.2.2.2 Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexists _; iexact H7
          isplitl [HS0]; · iexact HS0
          iintro ⟨H0, H1, H2, H3, ⟨%e4, H4⟩, ⟨%e5, H5⟩, ⟨%e6, H6⟩, ⟨%e7, H7⟩, ⟨%es0, HS0⟩⟩
          isplitl [HR0 HR1 HR2 HR3 HR4 HS0 HR6 HR7 HR8 HR9 HR10 HR11 HR12 HR13 HR14 HR15 HR16 HR17 HR18 HR19 HR20 HR21 HR22 HR23 HR24 HR25 HR26 HR27 HR28 Hg]
          · isplitl [HR0 HR1 HR2 HR3 HR4 HS0 HR6 HR7 HR8 HR9 HR10 HR11 HR12 HR13 HR14 HR15 HR16 HR17 HR18 HR19 HR20 HR21 HR22 HR23 HR24 HR25 HR26 HR27 HR28]
            · isplitl [HR0]
              · iexact HR0
              isplitl [HR1]
              · iexact HR1
              isplitl [HR2]
              · iexact HR2
              isplitl [HR3]
              · iexact HR3
              isplitl [HR4]
              · iexact HR4
              isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _ _ _ _)
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              isplitl [HR19]
              · iexact HR19
              isplitl [HR20]
              · iexact HR20
              isplitl [HR21]
              · iexact HR21
              isplitl [HR22]
              · iexact HR22
              isplitl [HR23]
              · iexact HR23
              isplitl [HR24]
              · iexact HR24
              isplitl [HR25]
              · iexact HR25
              isplitl [HR26]
              · iexact HR26
              isplitl [HR27]
              · iexact HR27
              iexact HR28
            iexact Hg
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover1_C_4 c _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover1_C_5 c _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover1_C_6 c _ _ _ _ _ _ _ _ _ _ _ _ _ _ _ _ _ _ _ _ _ _ _ _ _ _ _)
          unfold owns; iexists _; isplitr
          swap; · iexact H7
          ipureintro; exact View.read_writes_of_cover _ _ _ _ _ (cover1_C_7 c _ _ _ _ _ _ _ _ _ _ _ _ _ _ _ _ _ _ _ _ _ _ _ _ _ _ _)
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [show (dat1 V c).leavesExact 5 t = owns (c : Thread nD τ) (ms1_5 t) fullShare ((dat1 V c).after 5 t) from by
      unfold Dat.leavesExact; rw [liveAt1_5 t], after1_5]
        rw [show (dat1 V c).leavesExact 6 t = owns (c : Thread nD τ) (ms1_6 t) fullShare ((dat1 V c).after 6 t) from by
      unfold Dat.leavesExact; rw [liveAt1_6 t], after1_6]
        rw [Dat.leavesExact_idle (dat1 V c) 7 t (idleAt1_7_B t (fun h => h0 ((hcond1_0 t).mp h)) ((hcond1_1 t).mpr h1) (fun h => h2 ((hcond1_2 t).mp h))) (noFlush1_7_B t (fun h => h0 ((hcond1_0 t).mp h)) ((hcond1_1 t).mpr h1) (fun h => h2 ((hcond1_2 t).mp h)))]
        by_cases hz : t.val = 0
        · exfalso; have hN : t.val < 16 := lt_of_lt_of_eq t.isLt (show cfg1.N = 16 from N_1); omega
        · rw [PhiS_castSuccR1 V c t, PhiS_posR1 V c _ _ hz]
          rw [outsAt1_B V c t h0 h1 h2]
          unfold out1_B_4 out1_B_5 out1_B_6 sout1_B_0; (try dsimp only)
          iintro ⟨⟨⟨HR0, HR1, HR2, HR3, HR4, HS0, HR6, HR7, HR8, HR9, HR10, HR11, HR12, HR13, HR14, HR15, HR16, HR17, HR18, HR19, HR20, HR21, HR22, HR23, HR24, HR25, HR26, HR27, HR28⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun1_B c (grid1.coords t) _ _ _ _ _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) _).2.2.2.2.2 _ Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexact H7
          isplitl [HS0]; · iexact HS0
          iintro ⟨H0, H1, H2, H3, ⟨%e4, H4⟩, ⟨%e5, H5⟩, ⟨%e6, H6⟩, H7, ⟨%es0, HS0⟩⟩
          isplitl [HR0 HR1 HR2 HR3 HR4 HS0 HR6 HR7 HR8 HR9 HR10 HR11 HR12 HR13 HR14 HR15 HR16 HR17 HR18 HR19 HR20 HR21 HR22 HR23 HR24 HR25 HR26 HR27 HR28 Hg]
          · isplitl [HR0 HR1 HR2 HR3 HR4 HS0 HR6 HR7 HR8 HR9 HR10 HR11 HR12 HR13 HR14 HR15 HR16 HR17 HR18 HR19 HR20 HR21 HR22 HR23 HR24 HR25 HR26 HR27 HR28]
            · isplitl [HR0]
              · iexact HR0
              isplitl [HR1]
              · iexact HR1
              isplitl [HR2]
              · iexact HR2
              isplitl [HR3]
              · iexact HR3
              isplitl [HR4]
              · iexact HR4
              isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _ _ _ _ _)
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HR13]
              · iexact HR13
              isplitl [HR14]
              · iexact HR14
              isplitl [HR15]
              · iexact HR15
              isplitl [HR16]
              · iexact HR16
              isplitl [HR17]
              · iexact HR17
              isplitl [HR18]
              · iexact HR18
              isplitl [HR19]
              · iexact HR19
              isplitl [HR20]
              · iexact HR20
              isplitl [HR21]
              · iexact HR21
              isplitl [HR22]
              · iexact HR22
              isplitl [HR23]
              · iexact HR23
              isplitl [HR24]
              · iexact HR24
              isplitl [HR25]
              · iexact HR25
              isplitl [HR26]
              · iexact HR26
              isplitl [HR27]
              · iexact HR27
              iexact HR28
            iexact Hg
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover1_B_4 c _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover1_B_5 c _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover1_B_6 c _ _ _ _ _ _ _ _ _ _ _ _ _ _ _ _ _ _ _ _ _ _ _ _ _ _ _)
          iexists _; iexact H7
    · exfalso; omega

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

theorem hinR1 (c : Dev nD) : Pipeline.ΦA spec1 c ⊢ (dat1 V c).Φ 0 := by
  rw [show (dat1 V c).Φ 0 = PhiSR1 V c 0 (Nat.zero_le _) from rfl, PhiS_zeroR1 V c 0 _ rfl]
  try exact Idealize.SL.BI.Entails.refl _

theorem Phi_outR1 (c : Dev nD) (t : Fin (cfg1.N + 1)) (ht : t.val ≠ 0) : (dat1 V c).Φ t ⊢ Pipeline.ΦA spec1 c := by
  rw [show (dat1 V c).Φ t = PhiSR1 V c t.val (Nat.le_of_lt_succ t.isLt) from rfl, PhiS_posR1 V c _ _ ht, PhiA1_eq]
  iintro ⟨⟨HR0, HR1, HR2, HR3, HR4, HS0, HR6, HR7, HR8, HR9, HR10, HR11, HR12, HR13, HR14, HR15, HR16, HR17, HR18, HR19, HR20, HR21, HR22, HR23, HR24, HR25, HR26, HR27, HR28⟩, Hg⟩
  isplitl [HR0 HR1 HR2 HR3 HR4 HS0 HR6 HR7 HR8 HR9 HR10 HR11 HR12 HR13 HR14 HR15 HR16 HR17 HR18 HR19 HR20 HR21 HR22 HR23 HR24 HR25 HR26 HR27 HR28]
  · isplitl [HR0]
    · iexact HR0
    isplitl [HR1]
    · iexact HR1
    isplitl [HR2]
    · iexact HR2
    isplitl [HR3]
    · iexact HR3
    isplitl [HR4]
    · iexact HR4
    isplitl [HS0]
    · iexists _; iexact HS0
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    isplitl [HR22]
    · iexact HR22
    isplitl [HR23]
    · iexact HR23
    isplitl [HR24]
    · iexact HR24
    isplitl [HR25]
    · iexact HR25
    isplitl [HR26]
    · iexact HR26
    isplitl [HR27]
    · iexact HR27
    iexact HR28
  iexact Hg

theorem houtR1 (c : Dev nD) : (dat1 V c).Φ (Fin.last cfg1.N) ⊢ Pipeline.ΦA spec1 c :=
  Phi_outR1 V c _ (by rw [Fin.val_last]; have : cfg1.N = 16 := N_1; omega)

end Regions

end Cert.KernelIdeal.Gen

end
-- ==== Proof.Whole.Region2.lean ====
/- `KernelIdeal`, call 2 (`_quant_matmul` of dy and w): its region at the entry contents `V`. -/
module

public import proofs.«01_k».proof.Proof.Whole.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val % 16 = 0 :=
  (fun t => by
    have ht : t.val < 16 := Nat.lt_of_lt_of_eq t.isLt N_2
    have e0 : (grid2.coords t 0).val = t.val / 1 % 16 := Pipeline.Grid.coords_val t 0 (by decide) rfl
    simp only [cond2_0, e0]
    word_cmp
   : ∀ t : Fin grid2.N, cond2_0 (grid2.coords t) ↔ t.val % 16 = 0)

abbrev cond2_1 (i : grid2.Coords) : Prop := (Scalar.cmpi .ne (Scalar.extui (Scalar.cmpi .sgt (BitVec.ofNat 32 (i 0).val) 0#32)) 0#32) = 1#1

theorem hcond2_1 : ∀ t : Fin cfg2.N, cond2_1 (grid2.coords t) ↔ 1 ≤ t.val :=
  (by decide +kernel : ∀ t : Fin grid2.N, cond2_1 (grid2.coords t) ↔ 1 ≤ t.val)

abbrev cond2_2 (i : grid2.Coords) : Prop := k2_cond3 i = 1#1

theorem hcond2_2 : ∀ t : Fin cfg2.N, cond2_2 (grid2.coords t) ↔ t.val % 16 = 15 :=
  (fun t => by
    have ht : t.val < 16 := Nat.lt_of_lt_of_eq t.isLt N_2
    have e0 : (grid2.coords t 0).val = t.val / 1 % 16 := Pipeline.Grid.coords_val t 0 (by decide) rfl
    simp only [cond2_2, k2_cond3, e0]
    word_cmp
   : ∀ t : Fin grid2.N, cond2_2 (grid2.coords t) ↔ t.val % 16 = 15)

theorem liveAt2_0 : ∀ t : Fin cfg2.N, cfg2.idle 0 (grid2.coords t) = false := fun _ => rfl

theorem liveAt2_1 : ∀ t : Fin cfg2.N, cfg2.idle 1 (grid2.coords t) = false := fun _ => rfl

theorem liveAt2_2 : ∀ t : Fin cfg2.N, cfg2.idle 2 (grid2.coords t) = false := fun _ => rfl

theorem liveAt2_3 : ∀ t : Fin cfg2.N, cfg2.idle 3 (grid2.coords t) = false := fun _ => rfl

theorem liveAt2_4 : ∀ t : Fin cfg2.N, cfg2.idle 4 (grid2.coords t) = false := fun _ => rfl

theorem liveAt2_5 : ∀ t : Fin cfg2.N, cfg2.idle 5 (grid2.coords t) = false := fun _ => rfl

theorem liveAt2_6 : ∀ t : Fin cfg2.N, cfg2.idle 6 (grid2.coords t) = false := fun _ => rfl

theorem idleAt2_7_A : ∀ t : Fin cfg2.N, cond2_0 (grid2.coords t) → ¬cond2_1 (grid2.coords t) → ¬cond2_2 (grid2.coords t) → cfg2.idle 7 (grid2.coords t) = true := by decide +kernel

theorem noFlush2_7_A : ∀ t : Fin cfg2.N, cond2_0 (grid2.coords t) → ¬cond2_1 (grid2.coords t) → ¬cond2_2 (grid2.coords t) → (cfg2.win 7).flush t = false := by decide +kernel

theorem idleAt2_7_B : ∀ t : Fin cfg2.N, ¬cond2_0 (grid2.coords t) → cond2_1 (grid2.coords t) → ¬cond2_2 (grid2.coords t) → cfg2.idle 7 (grid2.coords t) = true := by decide +kernel

theorem noFlush2_7_B : ∀ t : Fin cfg2.N, ¬cond2_0 (grid2.coords t) → cond2_1 (grid2.coords t) → ¬cond2_2 (grid2.coords t) → (cfg2.win 7).flush t = false := by decide +kernel

theorem liveAt2_7_C : ∀ t : Fin cfg2.N, ¬cond2_0 (grid2.coords t) → cond2_1 (grid2.coords t) → cond2_2 (grid2.coords t) → cfg2.idle 7 (grid2.coords t) = false := by decide +kernel

abbrev VO2_4 : View sig .tc .vmem S512x4096 .f32 := (Memref.whole cc2_stg4_0 : Memref sig .tc .vmem S512x4096 .f32).view

abbrev VO2_5 : View sig .tc .vmem S512x4096 .fp8e5m2 := (Memref.whole cc2_stg5_0 : Memref sig .tc .vmem S512x4096 .fp8e5m2).view

abbrev VO2_6 : View sig .tc .smem S1 .f32 := (Memref.whole cc2_stg6_0 : Memref sig .tc .smem S1 .f32).view

abbrev VO2_7 : View sig .tc .smem S16 .f32 := (Memref.whole cc2_stg7_0 : Memref sig .tc .smem S16 .f32).view

abbrev ms2_0 (t : Fin cfg2.N) : Memref sig .tc .smem S16 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x4096 .fp8e4m3 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x4096 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x4096 .fp8e5m2 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .smem S1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .smem S16 .f32 := win2_7.stage (cfg2.slots t 7)
abbrev hs2_7 (t : Fin cfg2.N) : (ms2_7 t).IsWhole := hstage2_7 ((cfg2.slots t 7).cast nbuf2_7)

abbrev scM2_0 : Memref sig .tc .vmem S8x4096 .f32 := Memref.whole cc2_scratch0

abbrev VS2_0 : View sig .tc .vmem S8x4096 .f32 := scM2_0.view

theorem PhiA2_eq (c : Dev nD) :
    (Pipeline.ΦA spec2 c : sProp (MT nD τ sig Unit (Elt F) ℕ (UR sig nD τ) ℕ))
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ d, owns (c : Thread nD τ) scM2_0 fullShare d) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r)) := by
  unfold Pipeline.ΦA; rw [scopedRest2_eq]; simp only [scM2_0, owns_whole]; try rfl

set_option maxHeartbeats 1000000 in

noncomputable def kernelRun2_A (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond2_0 i) (hc1 : ¬cond2_1 i) (hc2 : ¬cond2_2 i)
    (x0 : Vec F S16 .f32) (x1 : Vec F S16 .f32) (x2 : Vec F S512x4096 .f32) (x3 : Vec F S4096x4096 .fp8e4m3) :
    Σ' (L4 : List (View.Piece (Elt F) S512x4096 .f32)), Σ' (L5 : List (View.Piece (Elt F) S512x4096 .fp8e5m2)), Σ' (L6 : List (View.Piece (Elt F) S1 .f32)), Σ' (L7 : List (View.Piece (Elt F) S16 .f32)), { LS0 : List (View.Piece (Elt F) S8x4096 .f32) //
      ∀ (xi7 : Vec F S16 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc2_bwd_dx i arg1 harg1 arg2 harg2 arg3 harg3 arg4 harg4 arg5 harg5 arg6 harg6 arg7 harg7 arg8 harg8 arg9 harg9) K } := by
  refine ⟨?_, ?_, ?_, [], ?_, fun xi7 E K => ?run⟩
  case run =>
    simp only [cc2_bwd_dx_eq_skeleton]; unfold cc2_bwd_dx_skel
    simp only [k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg8.eq_unread hf7
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]
    · iexists _; isplitr; · ipureintro; exact harg8.read_unread _
      iexact H7
    iexists _; iexact HS0

theorem cover2_A_4 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond2_0 i) (hc1 : ¬cond2_1 i) (hc2 : ¬cond2_2 i)
    (x0 : Vec F S16 .f32) (x1 : Vec F S16 .f32) (x2 : Vec F S512x4096 .f32) (x3 : Vec F S4096x4096 .fp8e4m3) (y : S512x4096.Idx) :
    ∃ pc ∈ (kernelRun2_A c i arg1 harg1 arg2 harg2 arg3 harg3 arg4 harg4 arg5 harg5 arg6 harg6 arg7 harg7 arg8 harg8 arg9 harg9 hc0 hc1 hc2 x0 x1 x2 x3).1, y ∈ pc.1.set :=
  View.cover_of_tiledL (kernelRun2_A c i arg1 harg1 arg2 harg2 arg3 harg3 arg4 harg4 arg5 harg5 arg6 harg6 arg7 harg7 arg8 harg8 arg9 harg9 hc0 hc1 hc2 x0 x1 x2 x3).1 S512x512.size (by sl_kernel_rfl) y

def out2_A_4 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond2_0 i) (hc1 : ¬cond2_1 i) (hc2 : ¬cond2_2 i)
    (x0 : Vec F S16 .f32) (x1 : Vec F S16 .f32) (x2 : Vec F S512x4096 .f32) (x3 : Vec F S4096x4096 .fp8e4m3) : Vec F S512x4096 .f32 :=
  VO2_4.read (Elt F) (VO2_4.writes (Elt F) VO2_4.junk (kernelRun2_A c i arg1 harg1 arg2 harg2 arg3 harg3 arg4 harg4 arg5 harg5 arg6 harg6 arg7 harg7 arg8 harg8 arg9 harg9 hc0 hc1 hc2 x0 x1 x2 x3).1)

theorem cover2_A_5 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond2_0 i) (hc1 : ¬cond2_1 i) (hc2 : ¬cond2_2 i)
    (x0 : Vec F S16 .f32) (x1 : Vec F S16 .f32) (x2 : Vec F S512x4096 .f32) (x3 : Vec F S4096x4096 .fp8e4m3) (y : S512x4096.Idx) :
    ∃ pc ∈ (kernelRun2_A c i arg1 harg1 arg2 harg2 arg3 harg3 arg4 harg4 arg5 harg5 arg6 harg6 arg7 harg7 arg8 harg8 arg9 harg9 hc0 hc1 hc2 x0 x1 x2 x3).2.1, y ∈ pc.1.set :=
  View.cover_of_tiledL (kernelRun2_A c i arg1 harg1 arg2 harg2 arg3 harg3 arg4 harg4 arg5 harg5 arg6 harg6 arg7 harg7 arg8 harg8 arg9 harg9 hc0 hc1 hc2 x0 x1 x2 x3).2.1 S512x4096.size (by sl_kernel_rfl) y

def out2_A_5 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond2_0 i) (hc1 : ¬cond2_1 i) (hc2 : ¬cond2_2 i)
    (x0 : Vec F S16 .f32) (x1 : Vec F S16 .f32) (x2 : Vec F S512x4096 .f32) (x3 : Vec F S4096x4096 .fp8e4m3) : Vec F S512x4096 .fp8e5m2 :=
  VO2_5.read (Elt F) (VO2_5.writes (Elt F) VO2_5.junk (kernelRun2_A c i arg1 harg1 arg2 harg2 arg3 harg3 arg4 harg4 arg5 harg5 arg6 harg6 arg7 harg7 arg8 harg8 arg9 harg9 hc0 hc1 hc2 x0 x1 x2 x3).2.1)

theorem cover2_A_6 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond2_0 i) (hc1 : ¬cond2_1 i) (hc2 : ¬cond2_2 i)
    (x0 : Vec F S16 .f32) (x1 : Vec F S16 .f32) (x2 : Vec F S512x4096 .f32) (x3 : Vec F S4096x4096 .fp8e4m3) (y : S1.Idx) :
    ∃ pc ∈ (kernelRun2_A c i arg1 harg1 arg2 harg2 arg3 harg3 arg4 harg4 arg5 harg5 arg6 harg6 arg7 harg7 arg8 harg8 arg9 harg9 hc0 hc1 hc2 x0 x1 x2 x3).2.2.1, y ∈ pc.1.set :=
  View.cover_of_tiledL (kernelRun2_A c i arg1 harg1 arg2 harg2 arg3 harg3 arg4 harg4 arg5 harg5 arg6 harg6 arg7 harg7 arg8 harg8 arg9 harg9 hc0 hc1 hc2 x0 x1 x2 x3).2.2.1 S1.size (by sl_kernel_rfl) y

def out2_A_6 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond2_0 i) (hc1 : ¬cond2_1 i) (hc2 : ¬cond2_2 i)
    (x0 : Vec F S16 .f32) (x1 : Vec F S16 .f32) (x2 : Vec F S512x4096 .f32) (x3 : Vec F S4096x4096 .fp8e4m3) : Vec F S1 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 hc1 hc2 x0 x1 x2 x3).2.2.1)

def out2_A_7 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond2_0 i) (hc1 : ¬cond2_1 i) (hc2 : ¬cond2_2 i)
    (x0 : Vec F S16 .f32) (x1 : Vec F S16 .f32) (x2 : Vec F S512x4096 .f32) (x3 : Vec F S4096x4096 .fp8e4m3) : Vec F S16 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 hc0 hc1 hc2 x0 x1 x2 x3).2.2.2.1)

theorem scover2_A_0 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond2_0 i) (hc1 : ¬cond2_1 i) (hc2 : ¬cond2_2 i)
    (x0 : Vec F S16 .f32) (x1 : Vec F S16 .f32) (x2 : Vec F S512x4096 .f32) (x3 : Vec F S4096x4096 .fp8e4m3) (y : S8x4096.Idx) :
    ∃ pc ∈ (kernelRun2_A c i arg1 harg1 arg2 harg2 arg3 harg3 arg4 harg4 arg5 harg5 arg6 harg6 arg7 harg7 arg8 harg8 arg9 harg9 hc0 hc1 hc2 x0 x1 x2 x3).2.2.2.2.1, y ∈ pc.1.set :=
  View.cover_of_tiledL (kernelRun2_A c i arg1 harg1 arg2 harg2 arg3 harg3 arg4 harg4 arg5 harg5 arg6 harg6 arg7 harg7 arg8 harg8 arg9 harg9 hc0 hc1 hc2 x0 x1 x2 x3).2.2.2.2.1 S8x4096.size (by sl_kernel_rfl) y

def sout2_A_0 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : cond2_0 i) (hc1 : ¬cond2_1 i) (hc2 : ¬cond2_2 i)
    (x0 : Vec F S16 .f32) (x1 : Vec F S16 .f32) (x2 : Vec F S512x4096 .f32) (x3 : Vec F S4096x4096 .fp8e4m3) : Vec F S8x4096 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 hc0 hc1 hc2 x0 x1 x2 x3).2.2.2.2.1)

set_option maxHeartbeats 1000000 in

noncomputable def kernelRun2_B (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : ¬cond2_2 i)
    (x0 : Vec F S16 .f32) (x1 : Vec F S16 .f32) (x2 : Vec F S512x4096 .f32) (x3 : Vec F S4096x4096 .fp8e4m3) (xs0 : Vec F S8x4096 .f32) :
    Σ' (L4 : List (View.Piece (Elt F) S512x4096 .f32)), Σ' (L5 : List (View.Piece (Elt F) S512x4096 .fp8e5m2)), Σ' (L6 : List (View.Piece (Elt F) S1 .f32)), Σ' (L7 : List (View.Piece (Elt F) S16 .f32)), { LS0 : List (View.Piece (Elt F) S8x4096 .f32) //
      ∀ (xi7 : Vec F S16 .f32) (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc2_bwd_dx i arg1 harg1 arg2 harg2 arg3 harg3 arg4 harg4 arg5 harg5 arg6 harg6 arg7 harg7 arg8 harg8 arg9 harg9) K } := by
  refine ⟨?_, ?_, ?_, [], ?_, fun xi7 E K => ?run⟩
  case run =>
    simp only [cc2_bwd_dx_eq_skeleton]; unfold cc2_bwd_dx_skel
    simp only [k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg8.eq_unread hf7; obtain rfl := harg9.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]
    · iexists _; isplitr; · ipureintro; exact harg8.read_unread _
      iexact H7
    iexists _; iexact HS0

theorem cover2_B_4 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : ¬cond2_2 i)
    (x0 : Vec F S16 .f32) (x1 : Vec F S16 .f32) (x2 : Vec F S512x4096 .f32) (x3 : Vec F S4096x4096 .fp8e4m3) (xs0 : Vec F S8x4096 .f32) (y : S512x4096.Idx) :
    ∃ pc ∈ (kernelRun2_B c i arg1 harg1 arg2 harg2 arg3 harg3 arg4 harg4 arg5 harg5 arg6 harg6 arg7 harg7 arg8 harg8 arg9 harg9 hc0 hc1 hc2 x0 x1 x2 x3 xs0).1, y ∈ pc.1.set :=
  View.cover_of_tiledL (kernelRun2_B c i arg1 harg1 arg2 harg2 arg3 harg3 arg4 harg4 arg5 harg5 arg6 harg6 arg7 harg7 arg8 harg8 arg9 harg9 hc0 hc1 hc2 x0 x1 x2 x3 xs0).1 S512x512.size (by sl_kernel_rfl) y

def out2_B_4 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : ¬cond2_2 i)
    (x0 : Vec F S16 .f32) (x1 : Vec F S16 .f32) (x2 : Vec F S512x4096 .f32) (x3 : Vec F S4096x4096 .fp8e4m3) (xs0 : Vec F S8x4096 .f32) : Vec F S512x4096 .f32 :=
  VO2_4.read (Elt F) (VO2_4.writes (Elt F) VO2_4.junk (kernelRun2_B c i arg1 harg1 arg2 harg2 arg3 harg3 arg4 harg4 arg5 harg5 arg6 harg6 arg7 harg7 arg8 harg8 arg9 harg9 hc0 hc1 hc2 x0 x1 x2 x3 xs0).1)

theorem cover2_B_5 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : ¬cond2_2 i)
    (x0 : Vec F S16 .f32) (x1 : Vec F S16 .f32) (x2 : Vec F S512x4096 .f32) (x3 : Vec F S4096x4096 .fp8e4m3) (xs0 : Vec F S8x4096 .f32) (y : S512x4096.Idx) :
    ∃ pc ∈ (kernelRun2_B c i arg1 harg1 arg2 harg2 arg3 harg3 arg4 harg4 arg5 harg5 arg6 harg6 arg7 harg7 arg8 harg8 arg9 harg9 hc0 hc1 hc2 x0 x1 x2 x3 xs0).2.1, y ∈ pc.1.set :=
  View.cover_of_tiledL (kernelRun2_B c i arg1 harg1 arg2 harg2 arg3 harg3 arg4 harg4 arg5 harg5 arg6 harg6 arg7 harg7 arg8 harg8 arg9 harg9 hc0 hc1 hc2 x0 x1 x2 x3 xs0).2.1 S512x4096.size (by sl_kernel_rfl) y

def out2_B_5 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : ¬cond2_2 i)
    (x0 : Vec F S16 .f32) (x1 : Vec F S16 .f32) (x2 : Vec F S512x4096 .f32) (x3 : Vec F S4096x4096 .fp8e4m3) (xs0 : Vec F S8x4096 .f32) : Vec F S512x4096 .fp8e5m2 :=
  VO2_5.read (Elt F) (VO2_5.writes (Elt F) VO2_5.junk (kernelRun2_B c i arg1 harg1 arg2 harg2 arg3 harg3 arg4 harg4 arg5 harg5 arg6 harg6 arg7 harg7 arg8 harg8 arg9 harg9 hc0 hc1 hc2 x0 x1 x2 x3 xs0).2.1)

theorem cover2_B_6 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : ¬cond2_2 i)
    (x0 : Vec F S16 .f32) (x1 : Vec F S16 .f32) (x2 : Vec F S512x4096 .f32) (x3 : Vec F S4096x4096 .fp8e4m3) (xs0 : Vec F S8x4096 .f32) (y : S1.Idx) :
    ∃ pc ∈ (kernelRun2_B c i arg1 harg1 arg2 harg2 arg3 harg3 arg4 harg4 arg5 harg5 arg6 harg6 arg7 harg7 arg8 harg8 arg9 harg9 hc0 hc1 hc2 x0 x1 x2 x3 xs0).2.2.1, y ∈ pc.1.set :=
  View.cover_of_tiledL (kernelRun2_B c i arg1 harg1 arg2 harg2 arg3 harg3 arg4 harg4 arg5 harg5 arg6 harg6 arg7 harg7 arg8 harg8 arg9 harg9 hc0 hc1 hc2 x0 x1 x2 x3 xs0).2.2.1 S1.size (by sl_kernel_rfl) y

def out2_B_6 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : ¬cond2_2 i)
    (x0 : Vec F S16 .f32) (x1 : Vec F S16 .f32) (x2 : Vec F S512x4096 .f32) (x3 : Vec F S4096x4096 .fp8e4m3) (xs0 : Vec F S8x4096 .f32) : Vec F S1 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 hc1 hc2 x0 x1 x2 x3 xs0).2.2.1)

def out2_B_7 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : ¬cond2_2 i)
    (x0 : Vec F S16 .f32) (x1 : Vec F S16 .f32) (x2 : Vec F S512x4096 .f32) (x3 : Vec F S4096x4096 .fp8e4m3) (xs0 : Vec F S8x4096 .f32) : Vec F S16 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 hc0 hc1 hc2 x0 x1 x2 x3 xs0).2.2.2.1)

theorem scover2_B_0 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : ¬cond2_2 i)
    (x0 : Vec F S16 .f32) (x1 : Vec F S16 .f32) (x2 : Vec F S512x4096 .f32) (x3 : Vec F S4096x4096 .fp8e4m3) (xs0 : Vec F S8x4096 .f32) (y : S8x4096.Idx) :
    ∃ pc ∈ (kernelRun2_B c i arg1 harg1 arg2 harg2 arg3 harg3 arg4 harg4 arg5 harg5 arg6 harg6 arg7 harg7 arg8 harg8 arg9 harg9 hc0 hc1 hc2 x0 x1 x2 x3 xs0).2.2.2.2.1, y ∈ pc.1.set :=
  View.cover_of_tiledL (kernelRun2_B c i arg1 harg1 arg2 harg2 arg3 harg3 arg4 harg4 arg5 harg5 arg6 harg6 arg7 harg7 arg8 harg8 arg9 harg9 hc0 hc1 hc2 x0 x1 x2 x3 xs0).2.2.2.2.1 S8x4096.size (by sl_kernel_rfl) y

def sout2_B_0 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : ¬cond2_2 i)
    (x0 : Vec F S16 .f32) (x1 : Vec F S16 .f32) (x2 : Vec F S512x4096 .f32) (x3 : Vec F S4096x4096 .fp8e4m3) (xs0 : Vec F S8x4096 .f32) : Vec F S8x4096 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 hc0 hc1 hc2 x0 x1 x2 x3 xs0).2.2.2.2.1)

set_option maxHeartbeats 1128000 in

noncomputable def kernelRun2_C (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : cond2_2 i)
    (x0 : Vec F S16 .f32) (x1 : Vec F S16 .f32) (x2 : Vec F S512x4096 .f32) (x3 : Vec F S4096x4096 .fp8e4m3) (xs0 : Vec F S8x4096 .f32) :
    Σ' (L4 : List (View.Piece (Elt F) S512x4096 .f32)), Σ' (L5 : List (View.Piece (Elt F) S512x4096 .fp8e5m2)), Σ' (L6 : List (View.Piece (Elt F) S1 .f32)), Σ' (L7 : List (View.Piece (Elt F) S16 .f32)), { LS0 : List (View.Piece (Elt F) S8x4096 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc2_bwd_dx i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc2_bwd_dx_eq_skeleton]; unfold cc2_bwd_dx_skel
    simp only [k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg9.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _; iexact HS0

theorem cover2_C_4 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : cond2_2 i)
    (x0 : Vec F S16 .f32) (x1 : Vec F S16 .f32) (x2 : Vec F S512x4096 .f32) (x3 : Vec F S4096x4096 .fp8e4m3) (xs0 : Vec F S8x4096 .f32) (y : S512x4096.Idx) :
    ∃ pc ∈ (kernelRun2_C c i arg1 harg1 arg2 harg2 arg3 harg3 arg4 harg4 arg5 harg5 arg6 harg6 arg7 harg7 arg8 harg8 arg9 harg9 hc0 hc1 hc2 x0 x1 x2 x3 xs0).1, y ∈ pc.1.set :=
  View.cover_of_tiledL (kernelRun2_C c i arg1 harg1 arg2 harg2 arg3 harg3 arg4 harg4 arg5 harg5 arg6 harg6 arg7 harg7 arg8 harg8 arg9 harg9 hc0 hc1 hc2 x0 x1 x2 x3 xs0).1 S512x512.size (by sl_kernel_rfl) y

def out2_C_4 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : cond2_2 i)
    (x0 : Vec F S16 .f32) (x1 : Vec F S16 .f32) (x2 : Vec F S512x4096 .f32) (x3 : Vec F S4096x4096 .fp8e4m3) (xs0 : Vec F S8x4096 .f32) : Vec F S512x4096 .f32 :=
  VO2_4.read (Elt F) (VO2_4.writes (Elt F) VO2_4.junk (kernelRun2_C c i arg1 harg1 arg2 harg2 arg3 harg3 arg4 harg4 arg5 harg5 arg6 harg6 arg7 harg7 arg8 harg8 arg9 harg9 hc0 hc1 hc2 x0 x1 x2 x3 xs0).1)

theorem cover2_C_5 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : cond2_2 i)
    (x0 : Vec F S16 .f32) (x1 : Vec F S16 .f32) (x2 : Vec F S512x4096 .f32) (x3 : Vec F S4096x4096 .fp8e4m3) (xs0 : Vec F S8x4096 .f32) (y : S512x4096.Idx) :
    ∃ pc ∈ (kernelRun2_C c i arg1 harg1 arg2 harg2 arg3 harg3 arg4 harg4 arg5 harg5 arg6 harg6 arg7 harg7 arg8 harg8 arg9 harg9 hc0 hc1 hc2 x0 x1 x2 x3 xs0).2.1, y ∈ pc.1.set :=
  View.cover_of_tiledL (kernelRun2_C c i arg1 harg1 arg2 harg2 arg3 harg3 arg4 harg4 arg5 harg5 arg6 harg6 arg7 harg7 arg8 harg8 arg9 harg9 hc0 hc1 hc2 x0 x1 x2 x3 xs0).2.1 S512x4096.size (by sl_kernel_rfl) y

def out2_C_5 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : cond2_2 i)
    (x0 : Vec F S16 .f32) (x1 : Vec F S16 .f32) (x2 : Vec F S512x4096 .f32) (x3 : Vec F S4096x4096 .fp8e4m3) (xs0 : Vec F S8x4096 .f32) : Vec F S512x4096 .fp8e5m2 :=
  VO2_5.read (Elt F) (VO2_5.writes (Elt F) VO2_5.junk (kernelRun2_C c i arg1 harg1 arg2 harg2 arg3 harg3 arg4 harg4 arg5 harg5 arg6 harg6 arg7 harg7 arg8 harg8 arg9 harg9 hc0 hc1 hc2 x0 x1 x2 x3 xs0).2.1)

theorem cover2_C_6 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : cond2_2 i)
    (x0 : Vec F S16 .f32) (x1 : Vec F S16 .f32) (x2 : Vec F S512x4096 .f32) (x3 : Vec F S4096x4096 .fp8e4m3) (xs0 : Vec F S8x4096 .f32) (y : S1.Idx) :
    ∃ pc ∈ (kernelRun2_C c i arg1 harg1 arg2 harg2 arg3 harg3 arg4 harg4 arg5 harg5 arg6 harg6 arg7 harg7 arg8 harg8 arg9 harg9 hc0 hc1 hc2 x0 x1 x2 x3 xs0).2.2.1, y ∈ pc.1.set :=
  View.cover_of_tiledL (kernelRun2_C c i arg1 harg1 arg2 harg2 arg3 harg3 arg4 harg4 arg5 harg5 arg6 harg6 arg7 harg7 arg8 harg8 arg9 harg9 hc0 hc1 hc2 x0 x1 x2 x3 xs0).2.2.1 S1.size (by sl_kernel_rfl) y

def out2_C_6 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : cond2_2 i)
    (x0 : Vec F S16 .f32) (x1 : Vec F S16 .f32) (x2 : Vec F S512x4096 .f32) (x3 : Vec F S4096x4096 .fp8e4m3) (xs0 : Vec F S8x4096 .f32) : Vec F S1 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 hc0 hc1 hc2 x0 x1 x2 x3 xs0).2.2.1)

theorem cover2_C_7 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : cond2_2 i)
    (x0 : Vec F S16 .f32) (x1 : Vec F S16 .f32) (x2 : Vec F S512x4096 .f32) (x3 : Vec F S4096x4096 .fp8e4m3) (xs0 : Vec F S8x4096 .f32) (y : S16.Idx) :
    ∃ pc ∈ (kernelRun2_C c i arg1 harg1 arg2 harg2 arg3 harg3 arg4 harg4 arg5 harg5 arg6 harg6 arg7 harg7 arg8 harg8 arg9 harg9 hc0 hc1 hc2 x0 x1 x2 x3 xs0).2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 hc2 x0 x1 x2 x3 xs0).2.2.2.1 S1.size (by sl_kernel_rfl) y

def out2_C_7 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : cond2_2 i)
    (x0 : Vec F S16 .f32) (x1 : Vec F S16 .f32) (x2 : Vec F S512x4096 .f32) (x3 : Vec F S4096x4096 .fp8e4m3) (xs0 : Vec F S8x4096 .f32) : Vec F S16 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 hc0 hc1 hc2 x0 x1 x2 x3 xs0).2.2.2.1)

theorem scover2_C_0 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : cond2_2 i)
    (x0 : Vec F S16 .f32) (x1 : Vec F S16 .f32) (x2 : Vec F S512x4096 .f32) (x3 : Vec F S4096x4096 .fp8e4m3) (xs0 : Vec F S8x4096 .f32) (y : S8x4096.Idx) :
    ∃ pc ∈ (kernelRun2_C c i arg1 harg1 arg2 harg2 arg3 harg3 arg4 harg4 arg5 harg5 arg6 harg6 arg7 harg7 arg8 harg8 arg9 harg9 hc0 hc1 hc2 x0 x1 x2 x3 xs0).2.2.2.2.1, y ∈ pc.1.set :=
  View.cover_of_tiledL (kernelRun2_C c i arg1 harg1 arg2 harg2 arg3 harg3 arg4 harg4 arg5 harg5 arg6 harg6 arg7 harg7 arg8 harg8 arg9 harg9 hc0 hc1 hc2 x0 x1 x2 x3 xs0).2.2.2.2.1 S8x4096.size (by sl_kernel_rfl) y

def sout2_C_0 (c : Dev nD) (i : grid2.Coords) (arg1 : Memref sig .tc .smem S16 .f32) (harg1 : arg1.IsWhole) (arg2 : Memref sig .tc .smem S16 .f32) (harg2 : arg2.IsWhole) (arg3 : Memref sig .tc .vmem S512x4096 .f32) (harg3 : arg3.IsWhole) (arg4 : Memref sig .tc .vmem S4096x4096 .fp8e4m3) (harg4 : arg4.IsWhole) (arg5 : Memref sig .tc .vmem S512x4096 .f32) (harg5 : arg5.IsWhole) (arg6 : Memref sig .tc .vmem S512x4096 .fp8e5m2) (harg6 : arg6.IsWhole) (arg7 : Memref sig .tc .smem S1 .f32) (harg7 : arg7.IsWhole) (arg8 : Memref sig .tc .smem S16 .f32) (harg8 : arg8.IsWhole) (arg9 : Memref sig .tc .vmem S8x4096 .f32) (harg9 : arg9.IsWhole) (hc0 : ¬cond2_0 i) (hc1 : cond2_1 i) (hc2 : cond2_2 i)
    (x0 : Vec F S16 .f32) (x1 : Vec F S16 .f32) (x2 : Vec F S512x4096 .f32) (x3 : Vec F S4096x4096 .fp8e4m3) (xs0 : Vec F S8x4096 .f32) : Vec F S8x4096 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 hc0 hc1 hc2 x0 x1 x2 x3 xs0).2.2.2.2.1)

def outsAt2 (c : Dev nD) : (n : ℕ) → n < cfg2.N → Vec F S512x4096 .f32 × Vec F S512x4096 .fp8e5m2 × Vec F S1 .f32 × Vec F S16 .f32 × Vec F S8x4096 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩) (iblk2 V c 1 ⟨0, hn⟩) (iblk2 V c 2 ⟨0, hn⟩) (iblk2 V c 3 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩) (iblk2 V c 1 ⟨0, hn⟩) (iblk2 V c 2 ⟨0, hn⟩) (iblk2 V c 3 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩) (iblk2 V c 1 ⟨0, hn⟩) (iblk2 V c 2 ⟨0, hn⟩) (iblk2 V c 3 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 16 = 0 then
      if h1 : 1 ≤ (n + 1) then
        False.elim (by have hN : n + 1 < 16 := lt_of_lt_of_eq hn (show cfg2.N = 16 from N_2); omega)
      else
        if h2 : (n + 1) % 16 = 15 then
          False.elim (by have hN : n + 1 < 16 := lt_of_lt_of_eq hn (show cfg2.N = 16 from N_2); omega)
        else
          (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : 1 ≤ (n + 1) then
        if h2 : (n + 1) % 16 = 15 then
          (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2)
        else
          (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.2.2)
      else
        False.elim (by have hN : n + 1 < 16 := lt_of_lt_of_eq hn (show cfg2.N = 16 from N_2); omega)

theorem outsAt2_A (c : Dev nD) (t : Fin cfg2.N) (h0 : t.val % 16 = 0) (h1 : ¬1 ≤ t.val) (h2 : ¬t.val % 16 = 15) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h)) (fun h => h2 ((hcond2_2 t).mp h)) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h)) (fun h => h2 ((hcond2_2 t).mp h)) (iblk2 V c 0 t) (iblk2 V c 1 t) (iblk2 V c 2 t) (iblk2 V c 3 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h)) (fun h => h2 ((hcond2_2 t).mp h)) (iblk2 V c 0 t) (iblk2 V c 1 t) (iblk2 V c 2 t) (iblk2 V c 3 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h)) (fun h => h2 ((hcond2_2 t).mp h)) (iblk2 V c 0 t) (iblk2 V c 1 t) (iblk2 V c 2 t) (iblk2 V c 3 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) ((hcond2_0 t).mpr h0) (fun h => h1 ((hcond2_1 t).mp h)) (fun h => h2 ((hcond2_2 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans ((dif_neg h2).trans rfl))

theorem outsAt2_B (c : Dev nD) (t : Fin cfg2.N) (h0 : ¬t.val % 16 = 0) (h1 : 1 ≤ t.val) (h2 : ¬t.val % 16 = 15) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (fun h => h2 ((hcond2_2 t).mp h)) (iblk2 V c 0 t) (iblk2 V c 1 t) (iblk2 V c 2 t) (iblk2 V c 3 t) (outsAt2 V c (t.val - 1) (Nat.lt_of_le_of_lt (Nat.sub_le _ _) t.isLt)).2.2.2.2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (fun h => h2 ((hcond2_2 t).mp h)) (iblk2 V c 0 t) (iblk2 V c 1 t) (iblk2 V c 2 t) (iblk2 V c 3 t) (outsAt2 V c (t.val - 1) (Nat.lt_of_le_of_lt (Nat.sub_le _ _) t.isLt)).2.2.2.2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (fun h => h2 ((hcond2_2 t).mp h)) (iblk2 V c 0 t) (iblk2 V c 1 t) (iblk2 V c 2 t) (iblk2 V c 3 t) (outsAt2 V c (t.val - 1) (Nat.lt_of_le_of_lt (Nat.sub_le _ _) t.isLt)).2.2.2.2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (fun h => h2 ((hcond2_2 t).mp h)) (iblk2 V c 0 t) (iblk2 V c 1 t) (iblk2 V c 2 t) (iblk2 V c 3 t) (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) (fun h => h2 ((hcond2_2 t).mp h)) (iblk2 V c 0 t) (iblk2 V c 1 t) (iblk2 V c 2 t) (iblk2 V c 3 t) (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

theorem outsAt2_C (c : Dev nD) (t : Fin cfg2.N) (h0 : ¬t.val % 16 = 0) (h1 : 1 ≤ t.val) (h2 : t.val % 16 = 15) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (outsAt2 V c (t.val - 1) (Nat.lt_of_le_of_lt (Nat.sub_le _ _) t.isLt)).2.2.2.2, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (outsAt2 V c (t.val - 1) (Nat.lt_of_le_of_lt (Nat.sub_le _ _) t.isLt)).2.2.2.2, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

def PhiSR2 (c : Dev nD) : (n : ℕ) → n ≤ cfg2.N → sProp (MT nD τ sig Unit (Elt F) ℕ (UR sig nD τ) ℕ)
  | 0, _ => Pipeline.ΦA spec2 c
  | n + 1, hn => iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ owns (c : Thread nD τ) scM2_0 fullShare ((outsAt2 V c n hn).2.2.2.2) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r))

theorem PhiS_zeroR2 (c : Dev nD) (n : ℕ) (h : n ≤ cfg2.N) (hz : n = 0) : PhiSR2 V c n h = Pipeline.ΦA spec2 c := by
  subst hz; rfl

theorem PhiS_succR2 (c : Dev nD) (n : ℕ) (hn : n < cfg2.N) :
    PhiSR2 V c (n + 1) hn = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ owns (c : Thread nD τ) scM2_0 fullShare ((outsAt2 V c n hn).2.2.2.2) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r)) := rfl

theorem PhiS_posR2 (c : Dev nD) (n : ℕ) (h : n ≤ cfg2.N) (hz : n ≠ 0) :
    PhiSR2 V c n h = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ owns (c : Thread nD τ) scM2_0 fullShare ((outsAt2 V c (n - 1) (by omega)).2.2.2.2) ∗ (∃ f : Buf (Elt F) ((c : Thread nD τ).loc cc3_stg2_0), ((c : Thread nD τ).loc cc3_stg2_0) ↦{fullShare} f) ∗ (∃ f : Buf (Elt F) ((c : Thread nD τ).loc cc3_stg2_1), ((c : Thread nD τ).loc cc3_stg2_1) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f) ∗ (∃ f : Buf (Elt F) ((c : Thread nD τ).loc cc3_stg4_0), ((c : Thread nD τ).loc cc3_stg4_0) ↦{fullShare} f) ∗ (∃ f : Buf (Elt F) ((c : Thread nD τ).loc cc3_stg4_1), ((c : Thread nD τ).loc cc3_stg4_1) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg1_0), ((c : Thread nD τ).loc cc3_stg1_0) ↦{fullShare} f)) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2.1
    | ⟨7, _⟩ => (outsAt2 V c t.val t.isLt).2.2.2.1
  Φ t := PhiSR2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSuccR2 (c : Dev nD) (t : Fin cfg2.N) :
    (dat2 V c).Φ t.castSucc = PhiSR2 V c t.val (Nat.le_of_lt t.isLt) := by
  dsimp only [dat2]; exact Pipeline.Dat.Φ_castSucc (PhiSR2 V c) t

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]
theorem after2_6 (c : Dev nD) (t : Fin cfg2.N) : (dat2 V c).after 6 t = (outsAt2 V c t.val t.isLt).2.2.1 := by dsimp only [dat2]
theorem after2_7 (c : Dev nD) (t : Fin cfg2.N) : (dat2 V c).after 7 t = (outsAt2 V c t.val t.isLt).2.2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp (MT nD τ sig Unit (Elt F) ℕ (UR sig nD τ) ℕ) :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

def bodyPost2 (c : Dev nD) (t : Fin cfg2.N) : sProp (MT nD τ sig Unit (Elt F) ℕ (UR sig nD τ) ℕ) :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 9600000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiSR2 V c (t.val + 1) t.isLt from rfl, PhiS_succR2]
  have hN : t.val < 16 := lt_of_lt_of_eq t.isLt (show cfg2.N = 16 from N_2)
  by_cases h0 : t.val % 16 = 0
  · by_cases h1 : 1 ≤ t.val
    · exfalso; omega
    · by_cases h2 : t.val % 16 = 15
      · exfalso; omega
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3 t], after2_3]
        rw [show (dat2 V c).leavesExact 4 t = owns (c : Thread nD τ) (ms2_4 t) fullShare ((dat2 V c).after 4 t) from by
      unfold Dat.leavesExact; rw [liveAt2_4 t], after2_4]
        rw [show (dat2 V c).leavesExact 5 t = owns (c : Thread nD τ) (ms2_5 t) fullShare ((dat2 V c).after 5 t) from by
      unfold Dat.leavesExact; rw [liveAt2_5 t], after2_5]
        rw [show (dat2 V c).leavesExact 6 t = owns (c : Thread nD τ) (ms2_6 t) fullShare ((dat2 V c).after 6 t) from by
      unfold Dat.leavesExact; rw [liveAt2_6 t], after2_6]
        rw [Dat.leavesExact_idle (dat2 V c) 7 t (idleAt2_7_A t ((hcond2_0 t).mpr h0) (fun h => h1 ((hcond2_1 t).mp h)) (fun h => h2 ((hcond2_2 t).mp h))) (noFlush2_7_A t ((hcond2_0 t).mpr h0) (fun h => h1 ((hcond2_1 t).mp h)) (fun h => h2 ((hcond2_2 t).mp h)))]
        by_cases hz : t.val = 0
        · rw [PhiS_castSuccR2 V c t, PhiS_zeroR2 V c _ _ hz, PhiA2_eq]
          rw [outsAt2_A V c t h0 h1 h2]
          unfold out2_A_4 out2_A_5 out2_A_6 sout2_A_0; (try dsimp only)
          iintro ⟨⟨⟨HR0, HR1, HR2, HR3, HR4, HR5, HR6, HR7, HR8, HR9, HR10, HR11, HR12, HS0, HR14, HR15, HR16, HR17, HR18, HR19, HR20, HR21, HR22, HR23, HR24, HR25, HR26, HR27, HR28⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun2_A c (grid2.coords t) _ _ _ _ _ _ _ _ _ _ _ _ _ _ _ _ _ _ ((hcond2_0 t).mpr h0) (fun h => h1 ((hcond2_1 t).mp h)) (fun h => h2 ((hcond2_2 t).mp h)) (iblk2 V c 0 t) (iblk2 V c 1 t) (iblk2 V c 2 t) (iblk2 V c 3 t)).2.2.2.2.2 _ Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexact H7
          isplitl [HS0]; · iexact HS0
          iintro ⟨H0, H1, H2, H3, ⟨%e4, H4⟩, ⟨%e5, H5⟩, ⟨%e6, H6⟩, H7, ⟨%es0, HS0⟩⟩
          isplitl [HR0 HR1 HR2 HR3 HR4 HR5 HR6 HR7 HR8 HR9 HR10 HR11 HR12 HS0 HR14 HR15 HR16 HR17 HR18 HR19 HR20 HR21 HR22 HR23 HR24 HR25 HR26 HR27 HR28 Hg]
          · isplitl [HR0 HR1 HR2 HR3 HR4 HR5 HR6 HR7 HR8 HR9 HR10 HR11 HR12 HS0 HR14 HR15 HR16 HR17 HR18 HR19 HR20 HR21 HR22 HR23 HR24 HR25 HR26 HR27 HR28]
            · isplitl [HR0]
              · iexact HR0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _)
              isplitl [HR14]
              · iexact HR14
              isplitl [HR15]
              · iexact HR15
              isplitl [HR16]
              · iexact HR16
              isplitl [HR17]
              · iexact HR17
              isplitl [HR18]
              · iexact HR18
              isplitl [HR19]
              · iexact HR19
              isplitl [HR20]
              · iexact HR20
              isplitl [HR21]
              · iexact HR21
              isplitl [HR22]
              · iexact HR22
              isplitl [HR23]
              · iexact HR23
              isplitl [HR24]
              · iexact HR24
              isplitl [HR25]
              · iexact HR25
              isplitl [HR26]
              · iexact HR26
              isplitl [HR27]
              · iexact HR27
              iexact HR28
            iexact Hg
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover2_A_4 c _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover2_A_5 c _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover2_A_6 c _ _ _ _ _ _ _ _ _ _ _ _ _ _ _ _ _ _ _ _ _ _ _ _ _ _)
          iexists _; iexact H7
        · exfalso; have hN : t.val < 16 := lt_of_lt_of_eq t.isLt (show cfg2.N = 16 from N_2); omega
  · by_cases h1 : 1 ≤ t.val
    · by_cases h2 : t.val % 16 = 15
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3 t], after2_3]
        rw [show (dat2 V c).leavesExact 4 t = owns (c : Thread nD τ) (ms2_4 t) fullShare ((dat2 V c).after 4 t) from by
      unfold Dat.leavesExact; rw [liveAt2_4 t], after2_4]
        rw [show (dat2 V c).leavesExact 5 t = owns (c : Thread nD τ) (ms2_5 t) fullShare ((dat2 V c).after 5 t) from by
      unfold Dat.leavesExact; rw [liveAt2_5 t], after2_5]
        rw [show (dat2 V c).leavesExact 6 t = owns (c : Thread nD τ) (ms2_6 t) fullShare ((dat2 V c).after 6 t) from by
      unfold Dat.leavesExact; rw [liveAt2_6 t], after2_6]
        rw [show (dat2 V c).leavesExact 7 t = owns (c : Thread nD τ) (ms2_7 t) fullShare ((dat2 V c).after 7 t) from by
      unfold Dat.leavesExact; rw [liveAt2_7_C t (fun h => h0 ((hcond2_0 t).mp h)) ((hcond2_1 t).mpr h1) ((hcond2_2 t).mpr h2)], after2_7]
        by_cases hz : t.val = 0
        · exfalso; have hN : t.val < 16 := lt_of_lt_of_eq t.isLt (show cfg2.N = 16 from N_2); omega
        · rw [PhiS_castSuccR2 V c t, PhiS_posR2 V c _ _ hz]
          rw [outsAt2_C V c t h0 h1 h2]
          unfold out2_C_4 out2_C_5 out2_C_6 out2_C_7 sout2_C_0; (try dsimp only)
          iintro ⟨⟨⟨HR0, HR1, HR2, HR3, HR4, HR5, HR6, HR7, HR8, HR9, HR10, HR11, HR12, HS0, HR14, HR15, HR16, HR17, HR18, HR19, HR20, HR21, HR22, HR23, HR24, HR25, HR26, HR27, HR28⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun2_C c (grid2.coords t) _ _ _ _ _ _ _ _ _ _ _ _ _ _ _ _ _ _ (fun h => h0 ((hcond2_0 t).mp h)) ((hcond2_1 t).mpr h1) ((hcond2_2 t).mpr h2) (iblk2 V c 0 t) (iblk2 V c 1 t) (iblk2 V c 2 t) (iblk2 V c 3 t) _).2.2.2.2.2 Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexists _; iexact H7
          isplitl [HS0]; · iexact HS0
          iintro ⟨H0, H1, H2, H3, ⟨%e4, H4⟩, ⟨%e5, H5⟩, ⟨%e6, H6⟩, ⟨%e7, H7⟩, ⟨%es0, HS0⟩⟩
          isplitl [HR0 HR1 HR2 HR3 HR4 HR5 HR6 HR7 HR8 HR9 HR10 HR11 HR12 HS0 HR14 HR15 HR16 HR17 HR18 HR19 HR20 HR21 HR22 HR23 HR24 HR25 HR26 HR27 HR28 Hg]
          · isplitl [HR0 HR1 HR2 HR3 HR4 HR5 HR6 HR7 HR8 HR9 HR10 HR11 HR12 HS0 HR14 HR15 HR16 HR17 HR18 HR19 HR20 HR21 HR22 HR23 HR24 HR25 HR26 HR27 HR28]
            · isplitl [HR0]
              · iexact HR0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HS0]
              · unfold owns; iexists _; isplitr
                swap; · iexact HS0
                ipureintro; exact View.read_writes_of_cover _ _ _ _ _ (scover2_C_0 c _ _ _ _ _ _ _ _ _ _ _ _ _ _ _ _ _ _ _ _ _ _ _ _ _ _ _)
              isplitl [HR14]
              · iexact HR14
              isplitl [HR15]
              · iexact HR15
              isplitl [HR16]
              · iexact HR16
              isplitl [HR17]
              · iexact HR17
              isplitl [HR18]
              · iexact HR18
              isplitl [HR19]
              · iexact HR19
              isplitl [HR20]
              · iexact HR20
              isplitl [HR21]
              · iexact HR21
              isplitl [HR22]
              · iexact HR22
              isplitl [HR23]
              · iexact HR23
              isplitl [HR24]
              · iexact HR24
              isplitl [HR25]
              · iexact HR25
              isplitl [HR26]
              · iexact HR26
              isplitl [HR27]
              · iexact HR27
              iexact HR28
            iexact Hg
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover2_C_4 c _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover2_C_5 c _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover2_C_6 c _ _ _ _ _ _ _ _ _ _ _ _ _ _ _ _ _ _ _ _ _ _ _ _ _ _ _)
          unfold owns; iexists _; isplitr
          swap; · iexact H7
          ipureintro; exact View.read_writes_of_cover _ _ _ _ _ (cover2_C_7 c _ _ _ _ _ _ _ _ _ _ _ _ _ _ _ _ _ _ _ _ _ _ _ _ _ _ _)
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3 t], after2_3]
        rw [show (dat2 V c).leavesExact 4 t = owns (c : Thread nD τ) (ms2_4 t) fullShare ((dat2 V c).after 4 t) from by
      unfold Dat.leavesExact; rw [liveAt2_4 t], after2_4]
        rw [show (dat2 V c).leavesExact 5 t = owns (c : Thread nD τ) (ms2_5 t) fullShare ((dat2 V c).after 5 t) from by
      unfold Dat.leavesExact; rw [liveAt2_5 t], after2_5]
        rw [show (dat2 V c).leavesExact 6 t = owns (c : Thread nD τ) (ms2_6 t) fullShare ((dat2 V c).after 6 t) from by
      unfold Dat.leavesExact; rw [liveAt2_6 t], after2_6]
        rw [Dat.leavesExact_idle (dat2 V c) 7 t (idleAt2_7_B t (fun h => h0 ((hcond2_0 t).mp h)) ((hcond2_1 t).mpr h1) (fun h => h2 ((hcond2_2 t).mp h))) (noFlush2_7_B t (fun h => h0 ((hcond2_0 t).mp h)) ((hcond2_1 t).mpr h1) (fun h => h2 ((hcond2_2 t).mp h)))]
        by_cases hz : t.val = 0
        · exfalso; have hN : t.val < 16 := lt_of_lt_of_eq t.isLt (show cfg2.N = 16 from N_2); omega
        · rw [PhiS_castSuccR2 V c t, PhiS_posR2 V c _ _ hz]
          rw [outsAt2_B V c t h0 h1 h2]
          unfold out2_B_4 out2_B_5 out2_B_6 sout2_B_0; (try dsimp only)
          iintro ⟨⟨⟨HR0, HR1, HR2, HR3, HR4, HR5, HR6, HR7, HR8, HR9, HR10, HR11, HR12, HS0, HR14, HR15, HR16, HR17, HR18, HR19, HR20, HR21, HR22, HR23, HR24, HR25, HR26, HR27, HR28⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
          iapply ((kernelRun2_B c (grid2.coords t) _ _ _ _ _ _ _ _ _ _ _ _ _ _ _ _ _ _ (fun h => h0 ((hcond2_0 t).mp h)) ((hcond2_1 t).mpr h1) (fun h => h2 ((hcond2_2 t).mp h)) (iblk2 V c 0 t) (iblk2 V c 1 t) (iblk2 V c 2 t) (iblk2 V c 3 t) _).2.2.2.2.2 _ Set.univ _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexact H7
          isplitl [HS0]; · iexact HS0
          iintro ⟨H0, H1, H2, H3, ⟨%e4, H4⟩, ⟨%e5, H5⟩, ⟨%e6, H6⟩, H7, ⟨%es0, HS0⟩⟩
          isplitl [HR0 HR1 HR2 HR3 HR4 HR5 HR6 HR7 HR8 HR9 HR10 HR11 HR12 HS0 HR14 HR15 HR16 HR17 HR18 HR19 HR20 HR21 HR22 HR23 HR24 HR25 HR26 HR27 HR28 Hg]
          · isplitl [HR0 HR1 HR2 HR3 HR4 HR5 HR6 HR7 HR8 HR9 HR10 HR11 HR12 HS0 HR14 HR15 HR16 HR17 HR18 HR19 HR20 HR21 HR22 HR23 HR24 HR25 HR26 HR27 HR28]
            · isplitl [HR0]
              · iexact HR0
              isplitl [HR1]
              · iexact HR1
              isplitl [HR2]
              · iexact HR2
              isplitl [HR3]
              · iexact HR3
              isplitl [HR4]
              · iexact HR4
              isplitl [HR5]
              · iexact HR5
              isplitl [HR6]
              · iexact HR6
              isplitl [HR7]
              · iexact HR7
              isplitl [HR8]
              · iexact HR8
              isplitl [HR9]
              · iexact HR9
              isplitl [HR10]
              · iexact HR10
              isplitl [HR11]
              · iexact HR11
              isplitl [HR12]
              · iexact HR12
              isplitl [HS0]
              · unfold owns; iexists _; isplitr
                swap; · iexact HS0
                ipureintro; exact View.read_writes_of_cover _ _ _ _ _ (scover2_B_0 c _ _ _ _ _ _ _ _ _ _ _ _ _ _ _ _ _ _ _ _ _ _ _ _ _ _ _)
              isplitl [HR14]
              · iexact HR14
              isplitl [HR15]
              · iexact HR15
              isplitl [HR16]
              · iexact HR16
              isplitl [HR17]
              · iexact HR17
              isplitl [HR18]
              · iexact HR18
              isplitl [HR19]
              · iexact HR19
              isplitl [HR20]
              · iexact HR20
              isplitl [HR21]
              · iexact HR21
              isplitl [HR22]
              · iexact HR22
              isplitl [HR23]
              · iexact HR23
              isplitl [HR24]
              · iexact HR24
              isplitl [HR25]
              · iexact HR25
              isplitl [HR26]
              · iexact HR26
              isplitl [HR27]
              · iexact HR27
              iexact HR28
            iexact Hg
          isplitl [Ho]; · iexact Ho
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover2_B_4 c _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover2_B_5 c _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover2_B_6 c _ _ _ _ _ _ _ _ _ _ _ _ _ _ _ _ _ _ _ _ _ _ _ _ _ _ _)
          iexists _; iexact H7
    · exfalso; omega

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

theorem hinR2 (c : Dev nD) : Pipeline.ΦA spec2 c ⊢ (dat2 V c).Φ 0 := by
  rw [show (dat2 V c).Φ 0 = PhiSR2 V c 0 (Nat.zero_le _) from rfl, PhiS_zeroR2 V c 0 _ rfl]
  try exact Idealize.SL.BI.Entails.refl _

theorem Phi_outR2 (c : Dev nD) (t : Fin (cfg2.N + 1)) (ht : t.val ≠ 0) : (dat2 V c).Φ t ⊢ Pipeline.ΦA spec2 c := by
  rw [show (dat2 V c).Φ t = PhiSR2 V c t.val (Nat.le_of_lt_succ t.isLt) from rfl, PhiS_posR2 V c _ _ ht, PhiA2_eq]
  iintro ⟨⟨HR0, HR1, HR2, HR3, HR4, HR5, HR6, HR7, HR8, HR9, HR10, HR11, HR12, HS0, HR14, HR15, HR16, HR17, HR18, HR19, HR20, HR21, HR22, HR23, HR24, HR25, HR26, HR27, HR28⟩, Hg⟩
  isplitl [HR0 HR1 HR2 HR3 HR4 HR5 HR6 HR7 HR8 HR9 HR10 HR11 HR12 HS0 HR14 HR15 HR16 HR17 HR18 HR19 HR20 HR21 HR22 HR23 HR24 HR25 HR26 HR27 HR28]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HS0]
    · iexists _; iexact HS0
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    isplitl [HR22]
    · iexact HR22
    isplitl [HR23]
    · iexact HR23
    isplitl [HR24]
    · iexact HR24
    isplitl [HR25]
    · iexact HR25
    isplitl [HR26]
    · iexact HR26
    isplitl [HR27]
    · iexact HR27
    iexact HR28
  iexact Hg

theorem houtR2 (c : Dev nD) : (dat2 V c).Φ (Fin.last cfg2.N) ⊢ Pipeline.ΦA spec2 c :=
  Phi_outR2 V c _ (by rw [Fin.val_last]; have : cfg2.N = 16 := N_2; omega)

end Regions

end Cert.KernelIdeal.Gen

end
-- ==== Proof.Whole.Region3.lean ====
/- `KernelIdeal`, call 3 (`_dw`): its region at the entry contents `V`. -/
module

public import proofs.«01_k».proof.Proof.Whole.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section Regions

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev VO3_4 : View sig .tc .vmem S512x2048 .f32 := (Memref.whole cc3_stg4_0 : Memref sig .tc .vmem S512x2048 .f32).view

abbrev ms3_0 (t : Fin cfg3.N) : Memref sig .tc .smem S16 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .smem S16 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S8192x512 .fp8e4m3 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S8192x2048 .fp8e5m2 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S512x2048 .f32 := win3_4.stage (cfg3.slots t 4)
abbrev hs3_4 (t : Fin cfg3.N) : (ms3_4 t).IsWhole := hstage3_4 ((cfg3.slots t 4).cast nbuf3_4)

set_option maxHeartbeats 1000000 in

noncomputable def kernelRun3_A (c : Dev nD) (i : grid3.Coords) (arg2 : Memref sig .tc .smem S16 .f32) (harg2 : arg2.IsWhole) (arg3 : Memref sig .tc .smem S16 .f32) (harg3 : arg3.IsWhole) (arg4 : Memref sig .tc .vmem S8192x512 .fp8e4m3) (harg4 : arg4.IsWhole) (arg5 : Memref sig .tc .vmem S8192x2048 .fp8e5m2) (harg5 : arg5.IsWhole) (arg6 : Memref sig .tc .vmem S512x2048 .f32) (harg6 : arg6.IsWhole)
    (x0 : Vec F S16 .f32) (x1 : Vec F S16 .f32) (x2 : Vec F S8192x512 .fp8e4m3) (x3 : Vec F S8192x2048 .fp8e5m2) :
    { L4 : List (View.Piece (Elt F) S512x2048 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc3_dw i arg2 harg2 arg3 harg3 arg4 harg4 arg5 harg5 arg6 harg6) K } := by
  refine ⟨?_, fun E K => ?run⟩
  case run =>
    simp only [cc3_dw_eq_skeleton]; unfold cc3_dw_skel
    simp only [k3_part1_eq_skeleton, k3_part2_eq_skeleton, k3_part3_eq_skeleton, k3_part4_eq_skeleton, k3_part5_eq_skeleton, k3_part6_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

theorem cover3_A_4 (c : Dev nD) (i : grid3.Coords) (arg2 : Memref sig .tc .smem S16 .f32) (harg2 : arg2.IsWhole) (arg3 : Memref sig .tc .smem S16 .f32) (harg3 : arg3.IsWhole) (arg4 : Memref sig .tc .vmem S8192x512 .fp8e4m3) (harg4 : arg4.IsWhole) (arg5 : Memref sig .tc .vmem S8192x2048 .fp8e5m2) (harg5 : arg5.IsWhole) (arg6 : Memref sig .tc .vmem S512x2048 .f32) (harg6 : arg6.IsWhole)
    (x0 : Vec F S16 .f32) (x1 : Vec F S16 .f32) (x2 : Vec F S8192x512 .fp8e4m3) (x3 : Vec F S8192x2048 .fp8e5m2) (y : S512x2048.Idx) :
    ∃ pc ∈ (kernelRun3_A c i arg2 harg2 arg3 harg3 arg4 harg4 arg5 harg5 arg6 harg6 x0 x1 x2 x3).1, y ∈ pc.1.set :=
  View.cover_of_tiledL (kernelRun3_A c i arg2 harg2 arg3 harg3 arg4 harg4 arg5 harg5 arg6 harg6 x0 x1 x2 x3).1 S512x2048.size (by sl_kernel_rfl) y

def out3_A_4 (c : Dev nD) (i : grid3.Coords) (arg2 : Memref sig .tc .smem S16 .f32) (harg2 : arg2.IsWhole) (arg3 : Memref sig .tc .smem S16 .f32) (harg3 : arg3.IsWhole) (arg4 : Memref sig .tc .vmem S8192x512 .fp8e4m3) (harg4 : arg4.IsWhole) (arg5 : Memref sig .tc .vmem S8192x2048 .fp8e5m2) (harg5 : arg5.IsWhole) (arg6 : Memref sig .tc .vmem S512x2048 .f32) (harg6 : arg6.IsWhole)
    (x0 : Vec F S16 .f32) (x1 : Vec F S16 .f32) (x2 : Vec F S8192x512 .fp8e4m3) (x3 : Vec F S8192x2048 .fp8e5m2) : Vec F S512x2048 .f32 :=
  VO3_4.read (Elt F) (VO3_4.writes (Elt F) VO3_4.junk (kernelRun3_A c i arg2 harg2 arg3 harg3 arg4 harg4 arg5 harg5 arg6 harg6 x0 x1 x2 x3).1)

def outsAt3 (c : Dev nD) (t : Fin cfg3.N) : Vec F S512x2048 .f32 :=
  out3_A_4 c (grid3.coords t) (ms3_0 t) (hs3_0 t) (ms3_1 t) (hs3_1 t) (ms3_2 t) (hs3_2 t) (ms3_3 t) (hs3_3 t) (ms3_4 t) (hs3_4 t) (iblk3 V c 0 t) (iblk3 V c 1 t) (iblk3 V c 2 t) (iblk3 V c 3 t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp (MT nD τ sig Unit (Elt F) ℕ (UR sig nD τ) ℕ) :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp (MT nD τ sig Unit (Elt F) ℕ (UR sig nD τ) ℕ) :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  unfold outsAt3
  unfold out3_A_4
  iintro ⟨HΦ, Ho, ⟨%d0, H0⟩, ⟨%d1, H1⟩, ⟨%d2, H2⟩, ⟨%d3, H3⟩, ⟨%d4, H4⟩⟩
  iapply ((kernelRun3_A c (grid3.coords t) _ _ _ _ _ _ _ _ _ _ (iblk3 V c 0 t) (iblk3 V c 1 t) (iblk3 V c 2 t) (iblk3 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover3_A_4 c _ _ _ _ _ _ _ _ _ _ _ _ _ _ _)

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Whole.Hosts0.lean ====
/- The host operations before the first of the four calls of `KernelIdeal`: what they write. -/
module

public import proofs.«01_k».proof.Proof.Whole.Rest
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor

abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl

theorem hostOps0_args : ∀ a ∈ argRefs, a ∉ hostOps0_W := ListAll.forall_mem_of_all_decide (by decide +kernel)

end Cert.KernelIdeal.Gen

end
-- ==== Proof.Whole.Fold0.lean ====
/- `KernelIdeal`: the contents of the buffers between the four calls. -/
module

public import proofs.«01_k».proof.Proof.Whole.Region0
public import proofs.«01_k».proof.Proof.Whole.Region1
public import proofs.«01_k».proof.Proof.Whole.Region2
public import proofs.«01_k».proof.Proof.Whole.Region3
public import proofs.«01_k».proof.Proof.Whole.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev W1 : Dev nD → Valuation τ sig (Elt F) := fun c => StableHlo.after hostOps0 (W0 m ρ c)

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩

theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)

abbrev V3 : (c : Dev nD) → (b : Ref sig .tc) → Buf (Elt F) ((c : Thread nD τ).loc b) := fun c b => W3 m ρ c b

theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb

theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩

theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)

abbrev V4 : (c : Dev nD) → (b : Ref sig .tc) → Buf (Elt F) ((c : Thread nD τ).loc b) := fun c b => W4 m ρ c b

theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb

theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩

theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)

abbrev V5 : (c : Dev nD) → (b : Ref sig .tc) → Buf (Elt F) ((c : Thread nD τ).loc b) := fun c b => W5 m ρ c b

theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
end Cert.KernelIdeal.Gen

end
-- ==== Proof.Whole.State.lean ====
/- `KernelIdeal`: the proof data of the four calls and the grants each is entered with. -/
module

public import proofs.«01_k».proof.Proof.Whole.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev adm : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none

abbrev L : GSem nD τ sig → Finset Unit := fun _ => ∅
abbrev lv : GSem nD τ sig → Unit → ℕ := fun _ _ => 0

abbrev R (c : Dev nD) : sProp (MT nD τ sig Unit (Elt F) ℕ (UR sig nD τ) ℕ) := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp (MT nD τ sig Unit (Elt F) ℕ (UR sig nD τ) ℕ) := iprop(StableHlo.held (c : Thread nD τ) (Pipeline.ucRefs τ sig) (W5 m ρ c) ∗ ∃ r, prngReg c r)

end Cert.KernelIdeal.Gen

end
-- ==== Proof.Whole.Record0.lean ====
/- `KernelIdeal`: the segment of call 0. -/
module

public import proofs.«01_k».proof.Proof.Whole.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hinR0 (V1 m ρ) c
    unfold Pipeline.ΦA at h
    change _ ⊢ (pdats m ρ 0 c).Φ 0 at h
    iintro ⟨Hp, -, Hr⟩
    iapply h
    isplitl [Hr]; · iexact Hr
    iexact Hp
  hout c := by
    have h := houtR0 (V1 m ρ) c
    unfold Pipeline.ΦA at h
    change (pdats m ρ 0 c).Φ (Fin.last _) ⊢ _ at h
    rw [Pipeline.ownSems0_none]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.Record1.lean ====
/- `KernelIdeal`: the segment of call 1. -/
module

public import proofs.«01_k».proof.Proof.Whole.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hinR1 (V2 m ρ) c
    unfold Pipeline.ΦA at h
    change _ ⊢ (pdats m ρ 1 c).Φ 0 at h
    iintro ⟨Hp, -, Hr⟩
    iapply h
    isplitl [Hr]; · iexact Hr
    iexact Hp
  hout c := by
    have h := houtR1 (V2 m ρ) c
    unfold Pipeline.ΦA at h
    change (pdats m ρ 1 c).Φ (Fin.last _) ⊢ _ at h
    rw [Pipeline.ownSems0_none]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.Record2.lean ====
/- `KernelIdeal`: the segment of call 2. -/
module

public import proofs.«01_k».proof.Proof.Whole.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hinR2 (V3 m ρ) c
    unfold Pipeline.ΦA at h
    change _ ⊢ (pdats m ρ 2 c).Φ 0 at h
    iintro ⟨Hp, -, Hr⟩
    iapply h
    isplitl [Hr]; · iexact Hr
    iexact Hp
  hout c := by
    have h := houtR2 (V3 m ρ) c
    unfold Pipeline.ΦA at h
    change (pdats m ρ 2 c).Φ (Fin.last _) ⊢ _ at h
    rw [Pipeline.ownSems0_none]
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Whole.Record3.lean ====
/- `KernelIdeal`: the segment of call 3. -/
module

public import proofs.«01_k».proof.Proof.Whole.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.Whole.Run.lean ====
/- `KernelIdeal`: the run of the four calls. -/
module

public import proofs.«01_k».proof.Proof.Whole.Record0
public import proofs.«01_k».proof.Proof.Whole.Record1
public import proofs.«01_k».proof.Proof.Whole.Record2
public import proofs.«01_k».proof.Proof.Whole.Record3

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in

/-- The run ends with every buffer of the program as the four calls leave it, and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c)⟩, h.2⟩) (run_all m ρ)

end Cert.KernelIdeal.Gen

end
-- ==== Proof.Scale.lean ====
/-
  The power-of-two scale of the delayed-scaling quantiser, at the ideal instance: the exponent found
  by a ladder of compare-and-rescale steps and the power of two assembled from integer words, against
  "one more than the exponent of the largest power of two that `|t|` reaches" and `2 ^ e`.
  Nothing here names a program.
-/
module

public import Idealize.ShloMosaic.PureOps.Ideal
public import Idealize.ShloMosaic.PureOps.Ideal.Laws

@[expose] public section

noncomputable section

namespace Fp8Scale

open Idealize.ShloMosaic

/-! ### Words of powers of two -/

/-- A positive normal word with no trailing significand denotes a power of two. -/
theorem ofBits_pow (b : BitVec 32) (n : ℕ) (hs : (b.extractLsb' 31 1 == 1#1) = false)
    (he : (b.extractLsb' 23 8).toNat = n) (hf : (b.extractLsb' 0 23).toNat = 0) (h0 : n ≠ 0) (h1 : n ≠ 255) :
    Ideal.ofBits .f32 b = (((2 : ℝ) ^ ((n : ℤ) - 127) : ℝ) : EReal) := by
  have e : (2 : ℝ) ^ ((n : ℤ) - 127) = (2 ^ 23 : ℝ) * (2 : ℝ) ^ ((n : ℤ) - 127 - 23) := by
    rw [show (2 ^ 23 : ℝ) = (2 : ℝ) ^ (23 : ℤ) by norm_num, ← zpow_add₀ (by norm_num)]
    congr 1; ring
  simp only [Ideal.ofBits, Ideal.ieee]
  rw [show 8 + 23 = 31 from rfl, hs, he, hf, if_neg (by simpa using h1), if_neg h0, e]
  norm_num

/-- The word of `+∞`. -/
theorem ofBits_inf : Ideal.ofBits .f32 0x7F800000#32 = ⊤ := by
  simp only [Ideal.ofBits, Ideal.ieee]
  rw [if_pos (by decide), if_pos (by decide), if_neg (by decide)]

/-- The word of `-∞`. -/
theorem ofBits_neg_inf : Ideal.ofBits .f32 0xFF800000#32 = ⊥ := by
  simp only [Ideal.ofBits, Ideal.ieee]
  rw [if_pos (by decide), if_pos (by decide), if_pos (by decide)]

/-! ### The kernel's ladder -/

/-- One upward step on the significand: divided by `2 ^ s` (multiplied by the word `c'`) where it
    reaches `2 ^ s` (the word `c`). -/
def upM (c c' : BitVec 32) (m : EReal) : EReal :=
  Scalar.select (Scalar.cmpf (F := Ideal) (φ := .f32) .oge m (Scalar.ofBits .f32 c))
    (Scalar.mulf (F := Ideal) (φ := .f32) m (Scalar.ofBits .f32 c')) m

/-- One upward step on the exponent. -/
def upE (c s : BitVec 32) (m : EReal) (e : BitVec 32) : BitVec 32 :=
  Scalar.select (Scalar.cmpf (F := Ideal) (φ := .f32) .oge m (Scalar.ofBits .f32 c)) (Scalar.addi e s) e

/-- One downward step on the significand. -/
def dnM (c c' : BitVec 32) (m : EReal) : EReal :=
  Scalar.select (Scalar.cmpf (F := Ideal) (φ := .f32) .olt m (Scalar.ofBits .f32 c))
    (Scalar.mulf (F := Ideal) (φ := .f32) m (Scalar.ofBits .f32 c')) m

/-- One downward step on the exponent. -/
def dnE (c s : BitVec 32) (m : EReal) (e : BitVec 32) : BitVec 32 :=
  Scalar.select (Scalar.cmpf (F := Ideal) (φ := .f32) .olt m (Scalar.ofBits .f32 c)) (Scalar.subi e s) e

/-- The ladder's significands, in order. -/
def m1 (m : EReal) : EReal := upM 0x5F800000#32 0x1F800000#32 m
def m2 (m : EReal) : EReal := upM 0x4F800000#32 0x2F800000#32 (m1 m)
def m3 (m : EReal) : EReal := upM 0x47800000#32 0x37800000#32 (m2 m)
def m4 (m : EReal) : EReal := upM 0x43800000#32 0x3B800000#32 (m3 m)
def m5 (m : EReal) : EReal := upM 0x41800000#32 0x3D800000#32 (m4 m)
def m6 (m : EReal) : EReal := upM 0x40800000#32 0x3E800000#32 (m5 m)
def m7 (m : EReal) : EReal := upM 0x40000000#32 0x3F000000#32 (m6 m)
def m8 (m : EReal) : EReal := dnM 0x20000000#32 0x5F800000#32 (m7 m)
def m9 (m : EReal) : EReal := dnM 0x30000000#32 0x4F800000#32 (m8 m)
def m10 (m : EReal) : EReal := dnM 0x38000000#32 0x47800000#32 (m9 m)
def m11 (m : EReal) : EReal := dnM 0x3C000000#32 0x43800000#32 (m10 m)
def m12 (m : EReal) : EReal := dnM 0x3E000000#32 0x41800000#32 (m11 m)
def m13 (m : EReal) : EReal := dnM 0x3F000000#32 0x40800000#32 (m12 m)

/-- The ladder's exponents, in order. -/
def e1 (m : EReal) : BitVec 32 := upE 0x5F800000#32 64#32 m 1#32
def e2 (m : EReal) : BitVec 32 := upE 0x4F800000#32 32#32 (m1 m) (e1 m)
def e3 (m : EReal) : BitVec 32 := upE 0x47800000#32 16#32 (m2 m) (e2 m)
def e4 (m : EReal) : BitVec 32 := upE 0x43800000#32 8#32 (m3 m) (e3 m)
def e5 (m : EReal) : BitVec 32 := upE 0x41800000#32 4#32 (m4 m) (e4 m)
def e6 (m : EReal) : BitVec 32 := upE 0x40800000#32 2#32 (m5 m) (e5 m)
def e7 (m : EReal) : BitVec 32 := upE 0x40000000#32 1#32 (m6 m) (e6 m)
def e8 (m : EReal) : BitVec 32 := dnE 0x20000000#32 64#32 (m7 m) (e7 m)
def e9 (m : EReal) : BitVec 32 := dnE 0x30000000#32 32#32 (m8 m) (e8 m)
def e10 (m : EReal) : BitVec 32 := dnE 0x38000000#32 16#32 (m9 m) (e9 m)
def e11 (m : EReal) : BitVec 32 := dnE 0x3C000000#32 8#32 (m10 m) (e10 m)
def e12 (m : EReal) : BitVec 32 := dnE 0x3E000000#32 4#32 (m11 m) (e11 m)
def e13 (m : EReal) : BitVec 32 := dnE 0x3F000000#32 2#32 (m12 m) (e12 m)
def e14 (m : EReal) : BitVec 32 := dnE 0x3F800000#32 1#32 (m13 m) (e13 m)

/-- `m` is a positive normal number. -/
def normal (m : EReal) : BitVec 1 :=
  Scalar.andi (Scalar.cmpf (F := Ideal) (φ := .f32) .oge m (Scalar.ofBits .f32 0x00800000#32))
    (Scalar.cmpf (F := Ideal) (φ := .f32) .olt m (Scalar.ofBits .f32 0x7F800000#32))

/-- `|a · c|`, `c` the word of the reciprocal of the format's largest number. -/
def mag (c : BitVec 32) (a : EReal) : EReal :=
  Scalar.absf (F := Ideal) (φ := .f32) (Scalar.mulf (F := Ideal) (φ := .f32) a (Scalar.ofBits .f32 c))

/-- The exponent of the scale: the ladder's where `|a · c|` is normal, else 0; 0 where `a` is 0. -/
def expK (c : BitVec 32) (a : EReal) : BitVec 32 :=
  Scalar.select (Scalar.cmpf (F := Ideal) (φ := .f32) .oeq a (Scalar.ofBits .f32 0x00000000#32)) 0#32
    (Scalar.select (normal (mag c a)) (e14 (mag c a)) 0#32)

/-- The word of `2 ^ (e / 2)`, and of the power of two of the rest of `e`. -/
def wordA (e : BitVec 32) : BitVec 32 := Scalar.shli (Scalar.addi (Scalar.shrsi e 1#32) 127#32) 23#32
def wordB (e : BitVec 32) : BitVec 32 := Scalar.shli (Scalar.addi (Scalar.subi e (Scalar.shrsi e 1#32)) 127#32) 23#32

/-- `2 ^ e` as the product of two powers of two whose exponent fields are integer words. -/
def ldexp1 (e : BitVec 32) : EReal :=
  Scalar.mulf (F := Ideal) (φ := .f32) (Scalar.ofBits .f32 (wordA e)) (Scalar.ofBits .f32 (wordB e))

/-- The kernel's scale of a history whose maximum is `a`. -/
def scaleK (c : BitVec 32) (a : EReal) : EReal := ldexp1 (expK c a)

/-- The kernel's inverse scale. -/
def invK (c : BitVec 32) (a : EReal) : EReal := ldexp1 (Scalar.subi 0#32 (expK c a))

/-! ### What the ladder finds -/

/-- `k` is frexp's exponent of the real `x`, saturating at 128. -/
def IsExp (x : ℝ) (k : ℤ) : Prop := (2 : ℝ) ^ (k - 1) ≤ x ∧ (x < (2 : ℝ) ^ k ∨ k = 128) ∧ -125 ≤ k ∧ k ≤ 128

theorem two_zpow_pos (k : ℤ) : (0 : ℝ) < (2 : ℝ) ^ k := zpow_pos (by norm_num) k

theorem two_zpow_add (a b : ℤ) : (2 : ℝ) ^ (a + b) = (2 : ℝ) ^ a * (2 : ℝ) ^ b := zpow_add₀ (by norm_num) a b

theorem select_ofBool {α : Type} (p : Prop) [Decidable p] (a b : α) :
    Scalar.select (BitVec.ofBool (decide p)) a b = if p then a else b := by
  by_cases h : p <;> simp [Scalar.select, h]

theorem upM_eq (c c' : BitVec 32) (s : ℤ) (hc : Ideal.ofBits .f32 c = (((2 : ℝ) ^ s : ℝ) : EReal))
    (hc' : Ideal.ofBits .f32 c' = (((2 : ℝ) ^ (-s) : ℝ) : EReal)) (x : ℝ) :
    upM c c' (x : EReal) = ((if (2 : ℝ) ^ s ≤ x then x * (2 : ℝ) ^ (-s) else x : ℝ) : EReal) := by
  show Scalar.select (BitVec.ofBool (decide (Ideal.ofBits .f32 c ≤ (x : EReal)))) ((x : EReal) * Ideal.ofBits .f32 c') (x : EReal) = _
  rw [select_ofBool, hc, hc', ← EReal.coe_mul]
  by_cases h : (2 : ℝ) ^ s ≤ x
  · rw [if_pos h, if_pos (EReal.coe_le_coe_iff.mpr h)]
  · rw [if_neg h, if_neg (fun g => h (EReal.coe_le_coe_iff.mp g))]

theorem upE_eq (c : BitVec 32) (s : ℤ) (w : BitVec 32) (hw : w = BitVec.ofInt 32 s)
    (hc : Ideal.ofBits .f32 c = (((2 : ℝ) ^ s : ℝ) : EReal)) (x : ℝ) (k : ℤ) :
    upE c w (x : EReal) (BitVec.ofInt 32 k) = BitVec.ofInt 32 (if (2 : ℝ) ^ s ≤ x then k + s else k) := by
  show Scalar.select (BitVec.ofBool (decide (Ideal.ofBits .f32 c ≤ (x : EReal)))) (BitVec.ofInt 32 k + w) (BitVec.ofInt 32 k) = _
  rw [select_ofBool, hc, hw, ← BitVec.ofInt_add]
  by_cases h : (2 : ℝ) ^ s ≤ x
  · rw [if_pos h, if_pos (EReal.coe_le_coe_iff.mpr h)]
  · rw [if_neg h, if_neg (fun g => h (EReal.coe_le_coe_iff.mp g))]

theorem dnM_eq (c c' : BitVec 32) (s : ℤ) (hc : Ideal.ofBits .f32 c = (((2 : ℝ) ^ (1 - s) : ℝ) : EReal))
    (hc' : Ideal.ofBits .f32 c' = (((2 : ℝ) ^ s : ℝ) : EReal)) (x : ℝ) :
    dnM c c' (x : EReal) = ((if x < (2 : ℝ) ^ (1 - s) then x * (2 : ℝ) ^ s else x : ℝ) : EReal) := by
  show Scalar.select (BitVec.ofBool (decide ((x : EReal) < Ideal.ofBits .f32 c))) ((x : EReal) * Ideal.ofBits .f32 c') (x : EReal) = _
  rw [select_ofBool, hc, hc', ← EReal.coe_mul]
  by_cases h : x < (2 : ℝ) ^ (1 - s)
  · rw [if_pos h, if_pos (EReal.coe_lt_coe_iff.mpr h)]
  · rw [if_neg h, if_neg (fun g => h (EReal.coe_lt_coe_iff.mp g))]

theorem dnE_eq (c : BitVec 32) (s : ℤ) (w : BitVec 32) (hw : -w = BitVec.ofInt 32 (-s))
    (hc : Ideal.ofBits .f32 c = (((2 : ℝ) ^ (1 - s) : ℝ) : EReal)) (x : ℝ) (k : ℤ) :
    dnE c w (x : EReal) (BitVec.ofInt 32 k) = BitVec.ofInt 32 (if x < (2 : ℝ) ^ (1 - s) then k - s else k) := by
  show Scalar.select (BitVec.ofBool (decide ((x : EReal) < Ideal.ofBits .f32 c))) (BitVec.ofInt 32 k - w) (BitVec.ofInt 32 k) = _
  rw [select_ofBool, hc, BitVec.sub_eq_add_neg, hw, ← BitVec.ofInt_add, ← sub_eq_add_neg]
  by_cases h : x < (2 : ℝ) ^ (1 - s)
  · rw [if_pos h, if_pos (EReal.coe_lt_coe_iff.mpr h)]
  · rw [if_neg h, if_neg (fun g => h (EReal.coe_lt_coe_iff.mp g))]

/-- A ladder state `(m, e)` is the real `x` with exponent `k`, of an original `x₀`. -/
def St (x₀ : ℝ) (m : EReal) (e : BitVec 32) (P : ℝ → ℤ → Prop) : Prop :=
  ∃ (x : ℝ) (k : ℤ), m = (x : EReal) ∧ e = BitVec.ofInt 32 k ∧ x₀ = x * (2 : ℝ) ^ (k - 1) ∧ P x k

/-- Between steps, with the exponent still unknown up to `n`: upward, `1 ≤ x < 2 ^ n` (or saturated);
    or untouched below 1. -/
def Up (n : ℤ) (x : ℝ) (k : ℤ) : Prop :=
  (1 ≤ x ∧ 1 ≤ k ∧ k ≤ 129 - n ∧ (x < (2 : ℝ) ^ n ∨ k = 129 - n)) ∨ (x < 1 ∧ (2 : ℝ) ^ (-126 : ℤ) ≤ x ∧ k = 1)

/-- Downward, `2 ^ (1 - n) ≤ x < 2`; or above and done. -/
def Dn (n : ℤ) (x : ℝ) (k : ℤ) : Prop :=
  (1 ≤ x ∧ 1 ≤ k ∧ k ≤ 128 ∧ (x < 2 ∨ k = 128)) ∨ ((2 : ℝ) ^ (1 - n) ≤ x ∧ x < 2 ∧ k ≤ 1)

theorem up_step {x₀ : ℝ} {m : EReal} {e : BitVec 32} (c c' w : BitVec 32) (n s : ℤ) (hn : n = 2 * s) (hs : 1 ≤ s) (hw : w = BitVec.ofInt 32 s)
    (hc : Ideal.ofBits .f32 c = (((2 : ℝ) ^ s : ℝ) : EReal)) (hc' : Ideal.ofBits .f32 c' = (((2 : ℝ) ^ (-s) : ℝ) : EReal))
    (h : St x₀ m e (Up n)) : St x₀ (upM c c' m) (upE c w m e) (Up s) := by
  subst hn
  obtain ⟨x, k, rfl, rfl, hx, hP⟩ := h
  refine ⟨_, _, upM_eq c c' s hc hc' x, upE_eq c s w hw hc x k, ?_, ?_⟩
  · split_ifs with h
    · rw [hx, mul_assoc, ← two_zpow_add]; congr 2; ring
    · exact hx
  · have h1s : (1 : ℝ) ≤ (2 : ℝ) ^ s := one_le_zpow₀ (by norm_num) (by omega)
    rcases hP with ⟨h1, hk1, hk, hb⟩ | ⟨h1, h2, hk⟩
    · left
      split_ifs with h
      · have e1 : (2 : ℝ) ^ s * (2 : ℝ) ^ (-s) = 1 := by rw [← two_zpow_add]; norm_num
        have p := two_zpow_pos (-s)
        refine ⟨by rw [← e1]; exact mul_le_mul_of_nonneg_right h p.le, by omega, by omega, ?_⟩
        rcases hb with hb | hb
        · left
          have e2 : (2 : ℝ) ^ (2 * s) * (2 : ℝ) ^ (-s) = (2 : ℝ) ^ s := by rw [← two_zpow_add]; congr 1; ring
          rw [← e2]; exact mul_lt_mul_of_pos_right hb p
        · right; omega
      · exact ⟨h1, hk1, by omega, Or.inl (not_le.mp h)⟩
    · right
      rw [if_neg (by linarith), if_neg (by linarith)]
      exact ⟨h1, h2, hk⟩

theorem dn_step {x₀ : ℝ} {m : EReal} {e : BitVec 32} (c c' w : BitVec 32) (n s : ℤ) (hn : n = 2 * s) (hs : 1 ≤ s) (hw : -w = BitVec.ofInt 32 (-s))
    (hc : Ideal.ofBits .f32 c = (((2 : ℝ) ^ (1 - s) : ℝ) : EReal)) (hc' : Ideal.ofBits .f32 c' = (((2 : ℝ) ^ s : ℝ) : EReal))
    (h : St x₀ m e (Dn n)) : St x₀ (dnM c c' m) (dnE c w m e) (Dn s) := by
  subst hn
  obtain ⟨x, k, rfl, rfl, hx, hP⟩ := h
  refine ⟨_, _, dnM_eq c c' s hc hc' x, dnE_eq c s w hw hc x k, ?_, ?_⟩
  · split_ifs with h
    · rw [hx, mul_assoc, ← two_zpow_add]; congr 2; ring
    · exact hx
  · have h1s : (2 : ℝ) ^ (1 - s) ≤ 1 := zpow_le_one_of_nonpos₀ (by norm_num) (by omega)
    rcases hP with ⟨h1, hk1, hk, hb⟩ | ⟨h1, h2, hk⟩
    · left
      rw [if_neg (by linarith), if_neg (by linarith)]
      exact ⟨h1, hk1, hk, hb⟩
    · right
      split_ifs with h
      · have p := two_zpow_pos s
        refine ⟨?_, ?_, by omega⟩
        · have e2 : (2 : ℝ) ^ (1 - 2 * s) * (2 : ℝ) ^ s = (2 : ℝ) ^ (1 - s) := by rw [← two_zpow_add]; congr 1; ring
          rw [← e2]; exact mul_le_mul_of_nonneg_right h1 p.le
        · have e2 : (2 : ℝ) ^ (1 - s) * (2 : ℝ) ^ s = 2 := by rw [← two_zpow_add]; norm_num
          exact lt_of_lt_of_eq (mul_lt_mul_of_pos_right h p) e2
      · exact ⟨not_lt.mp h, h2, hk⟩

/-- A literal word of a power of two. -/
theorem lit (b : BitVec 32) (k : ℤ) (n : ℕ) (hk : k = (n : ℤ) - 127) (hs : (b.extractLsb' 31 1 == 1#1) = false)
    (he : (b.extractLsb' 23 8).toNat = n) (hf : (b.extractLsb' 0 23).toNat = 0) (h0 : n ≠ 0) (h1 : n ≠ 255) :
    Ideal.ofBits .f32 b = (((2 : ℝ) ^ k : ℝ) : EReal) := by
  rw [hk]; exact ofBits_pow b n hs he hf h0 h1

/-- The ladder finds frexp's exponent. -/
theorem e14_spec (x : ℝ) (hx : (2 : ℝ) ^ (-126 : ℤ) ≤ x) : ∃ k : ℤ, e14 (x : EReal) = BitVec.ofInt 32 k ∧ IsExp x k := by
  have s0 : St x (x : EReal) 1#32 (Up 128) := by
    refine ⟨x, 1, rfl, by decide, by norm_num, ?_⟩
    by_cases h : 1 ≤ x
    · exact Or.inl ⟨h, le_refl _, by norm_num, Or.inr (by norm_num)⟩
    · exact Or.inr ⟨not_le.mp h, hx, rfl⟩
  have s1 : St x (m1 x) (e1 x) (Up 64) := up_step 0x5F800000#32 0x1F800000#32 64#32 128 64 (by norm_num) (by norm_num) (by decide)
    (lit _ _ 191 (by norm_num) (by decide) (by decide) (by decide) (by decide) (by decide))
    (lit _ _ 63 (by norm_num) (by decide) (by decide) (by decide) (by decide) (by decide)) s0
  have s2 : St x (m2 x) (e2 x) (Up 32) := up_step 0x4F800000#32 0x2F800000#32 32#32 64 32 (by norm_num) (by norm_num) (by decide)
    (lit _ _ 159 (by norm_num) (by decide) (by decide) (by decide) (by decide) (by decide))
    (lit _ _ 95 (by norm_num) (by decide) (by decide) (by decide) (by decide) (by decide)) s1
  have s3 : St x (m3 x) (e3 x) (Up 16) := up_step 0x47800000#32 0x37800000#32 16#32 32 16 (by norm_num) (by norm_num) (by decide)
    (lit _ _ 143 (by norm_num) (by decide) (by decide) (by decide) (by decide) (by decide))
    (lit _ _ 111 (by norm_num) (by decide) (by decide) (by decide) (by decide) (by decide)) s2
  have s4 : St x (m4 x) (e4 x) (Up 8) := up_step 0x43800000#32 0x3B800000#32 8#32 16 8 (by norm_num) (by norm_num) (by decide)
    (lit _ _ 135 (by norm_num) (by decide) (by decide) (by decide) (by decide) (by decide))
    (lit _ _ 119 (by norm_num) (by decide) (by decide) (by decide) (by decide) (by decide)) s3
  have s5 : St x (m5 x) (e5 x) (Up 4) := up_step 0x41800000#32 0x3D800000#32 4#32 8 4 (by norm_num) (by norm_num) (by decide)
    (lit _ _ 131 (by norm_num) (by decide) (by decide) (by decide) (by decide) (by decide))
    (lit _ _ 123 (by norm_num) (by decide) (by decide) (by decide) (by decide) (by decide)) s4
  have s6 : St x (m6 x) (e6 x) (Up 2) := up_step 0x40800000#32 0x3E800000#32 2#32 4 2 (by norm_num) (by norm_num) (by decide)
    (lit _ _ 129 (by norm_num) (by decide) (by decide) (by decide) (by decide) (by decide))
    (lit _ _ 125 (by norm_num) (by decide) (by decide) (by decide) (by decide) (by decide)) s5
  have s7 : St x (m7 x) (e7 x) (Up 1) := up_step 0x40000000#32 0x3F000000#32 1#32 2 1 (by norm_num) (by norm_num) (by decide)
    (lit _ _ 128 (by norm_num) (by decide) (by decide) (by decide) (by decide) (by decide))
    (lit _ _ 126 (by norm_num) (by decide) (by decide) (by decide) (by decide) (by decide)) s6
  have s7' : St x (m7 x) (e7 x) (Dn 128) := by
    obtain ⟨y, k, hm, he, hy, hP⟩ := s7
    refine ⟨y, k, hm, he, hy, ?_⟩
    rcases hP with ⟨h1, hk1, hk, hb⟩ | ⟨h1, h2, hk⟩
    · exact Or.inl ⟨h1, hk1, by omega, by rcases hb with hb | hb <;> [left; right] <;> [simpa using hb; omega]⟩
    · refine Or.inr ⟨le_trans ?_ h2, by linarith, by omega⟩
      exact zpow_le_zpow_right₀ (by norm_num) (by norm_num)
  have s8 : St x (m8 x) (e8 x) (Dn 64) := dn_step 0x20000000#32 0x5F800000#32 64#32 128 64 (by norm_num) (by norm_num) (by decide)
    (lit _ _ 64 (by norm_num) (by decide) (by decide) (by decide) (by decide) (by decide))
    (lit _ _ 191 (by norm_num) (by decide) (by decide) (by decide) (by decide) (by decide)) s7'
  have s9 : St x (m9 x) (e9 x) (Dn 32) := dn_step 0x30000000#32 0x4F800000#32 32#32 64 32 (by norm_num) (by norm_num) (by decide)
    (lit _ _ 96 (by norm_num) (by decide) (by decide) (by decide) (by decide) (by decide))
    (lit _ _ 159 (by norm_num) (by decide) (by decide) (by decide) (by decide) (by decide)) s8
  have s10 : St x (m10 x) (e10 x) (Dn 16) := dn_step 0x38000000#32 0x47800000#32 16#32 32 16 (by norm_num) (by norm_num) (by decide)
    (lit _ _ 112 (by norm_num) (by decide) (by decide) (by decide) (by decide) (by decide))
    (lit _ _ 143 (by norm_num) (by decide) (by decide) (by decide) (by decide) (by decide)) s9
  have s11 : St x (m11 x) (e11 x) (Dn 8) := dn_step 0x3C000000#32 0x43800000#32 8#32 16 8 (by norm_num) (by norm_num) (by decide)
    (lit _ _ 120 (by norm_num) (by decide) (by decide) (by decide) (by decide) (by decide))
    (lit _ _ 135 (by norm_num) (by decide) (by decide) (by decide) (by decide) (by decide)) s10
  have s12 : St x (m12 x) (e12 x) (Dn 4) := dn_step 0x3E000000#32 0x41800000#32 4#32 8 4 (by norm_num) (by norm_num) (by decide)
    (lit _ _ 124 (by norm_num) (by decide) (by decide) (by decide) (by decide) (by decide))
    (lit _ _ 131 (by norm_num) (by decide) (by decide) (by decide) (by decide) (by decide)) s11
  have s13 : St x (m13 x) (e13 x) (Dn 2) := dn_step 0x3F000000#32 0x40800000#32 2#32 4 2 (by norm_num) (by norm_num) (by decide)
    (lit _ _ 126 (by norm_num) (by decide) (by decide) (by decide) (by decide) (by decide))
    (lit _ _ 129 (by norm_num) (by decide) (by decide) (by decide) (by decide) (by decide)) s12
  have s14 : St x (dnM 0x3F800000#32 0x40000000#32 (m13 x)) (e14 x) (Dn 1) := dn_step 0x3F800000#32 0x40000000#32 1#32 2 1 (by norm_num) (by norm_num) (by decide)
    (lit _ _ 127 (by norm_num) (by decide) (by decide) (by decide) (by decide) (by decide))
    (lit _ _ 128 (by norm_num) (by decide) (by decide) (by decide) (by decide) (by decide)) s13
  obtain ⟨y, k, -, he, hy, hP⟩ := s14
  refine ⟨k, he, ?_⟩
  have p := two_zpow_pos (k - 1)
  have e2 : (2 : ℝ) * (2 : ℝ) ^ (k - 1) = (2 : ℝ) ^ k := by
    rw [show k = 1 + (k - 1) by ring, two_zpow_add]; norm_num
  have hy1 : 1 ≤ y := by
    rcases hP with h | h
    · exact h.1
    · simpa using h.1
  have lo : (2 : ℝ) ^ (k - 1) ≤ x := by rw [hy]; nlinarith
  have hi : x < (2 : ℝ) ^ k ∨ k = 128 := by
    rcases hP with ⟨-, -, -, h | h⟩ | ⟨-, h, -⟩
    · left; rw [hy, ← e2]; exact mul_lt_mul_of_pos_right h p
    · exact Or.inr h
    · left; rw [hy, ← e2]; exact mul_lt_mul_of_pos_right h p
  refine ⟨lo, hi, ?_, ?_⟩
  · rcases hi with hi | hi
    · have := (zpow_lt_zpow_iff_right₀ (by norm_num : (1 : ℝ) < 2)).mp (lt_of_le_of_lt hx hi)
      omega
    · omega
  · rcases hP with h | h
    · exact h.2.2.1
    · omega

/-! ### `2 ^ e` -/

/-- `b` is the positive normal word with exponent field `n` and no trailing significand. -/
def IsPow (b : BitVec 32) (n : ℕ) : Prop :=
  (b.extractLsb' 31 1 == 1#1) = false ∧ (b.extractLsb' 23 8).toNat = n ∧ (b.extractLsb' 0 23).toNat = 0

instance (b : BitVec 32) (n : ℕ) : Decidable (IsPow b n) := by unfold IsPow; infer_instance

theorem IsPow.eq {b : BitVec 32} {n : ℕ} (h : IsPow b n) (h0 : n ≠ 0) (h1 : n ≠ 255) :
    Ideal.ofBits .f32 b = (((2 : ℝ) ^ ((n : ℤ) - 127) : ℝ) : EReal) := ofBits_pow b n h.1 h.2.1 h.2.2 h0 h1

/-- The two words' fields, over every exponent the ladder can reach and its opposite. -/
theorem words_isPow : ∀ i : Fin 257, IsPow (wordA (BitVec.ofNat 32 i.val - 128#32)) (i.val / 2 + 63)
    ∧ IsPow (wordB (BitVec.ofNat 32 i.val - 128#32)) ((i.val + 1) / 2 + 63) := by
  decide +kernel

theorem ldexp1_eq (k : ℤ) (h0 : -128 ≤ k) (h1 : k ≤ 128) : ldexp1 (BitVec.ofInt 32 k) = (((2 : ℝ) ^ k : ℝ) : EReal) := by
  obtain ⟨n, hn⟩ : ∃ n : ℕ, k = (n : ℤ) - 128 := ⟨(k + 128).toNat, by omega⟩
  have hn' : n < 257 := by omega
  have he : BitVec.ofInt 32 k = BitVec.ofNat 32 n - 128#32 := by
    have h128 : BitVec.ofInt 32 (-128) = -128#32 := by decide
    rw [hn, sub_eq_add_neg, BitVec.ofInt_add, BitVec.sub_eq_add_neg, h128, BitVec.ofInt_natCast]
  have hw := words_isPow ⟨n, hn'⟩
  rw [he]
  show Ideal.ofBits .f32 (wordA _) * Ideal.ofBits .f32 (wordB _) = _
  rw [hw.1.eq (by omega) (by omega), hw.2.eq (by omega) (by omega), ← EReal.coe_mul, ← two_zpow_add]
  congr 2
  push_cast
  omega

/-! ### The reference's exponent -/

/-- The reference's scale exponent, `E` standing for its maximum over the powers of two reached. -/
def expR (c : BitVec 32) (a : EReal) (E : EReal → EReal) : EReal :=
  Scalar.select (Scalar.cmpf (F := Ideal) (φ := .f32) .oeq a (Scalar.ofBits .f32 0x00000000#32)) (Ideal.ofBits .f32 0x00000000#32)
    (Scalar.select (normal (mag c a)) (E (mag c a)) (Ideal.ofBits .f32 0x00000000#32))

theorem exp2_int (k : ℤ) : Ideal.exp2 ((k : ℝ) : EReal) = (((2 : ℝ) ^ k : ℝ) : EReal) := by
  show ((Real.rpow 2 (k : ℝ) : ℝ) : EReal) = _
  congr 1
  exact Real.rpow_intCast 2 k

theorem absf_ne_bot (y : EReal) : Ideal.cmp .oge (max y (-y)) (Ideal.ofBits .f32 0x00800000#32) = 1#1 →
    Ideal.cmp .olt (max y (-y)) (Ideal.ofBits .f32 0x7F800000#32) = 1#1 →
    ∃ x : ℝ, max y (-y) = (x : EReal) ∧ (2 : ℝ) ^ (-126 : ℤ) ≤ x := by
  intro h1 h2
  have hc : Ideal.ofBits .f32 0x00800000#32 = (((2 : ℝ) ^ (-126 : ℤ) : ℝ) : EReal) :=
    lit _ _ 1 (by norm_num) (by decide) (by decide) (by decide) (by decide) (by decide)
  rw [hc] at h1; rw [ofBits_inf] at h2
  generalize max y (-y) = m at h1 h2 ⊢
  generalize hp : (2 : ℝ) ^ (-126 : ℤ) = p at h1 ⊢
  have g1 : (p : EReal) ≤ m := by
    by_contra h; simp [Ideal.cmp, h] at h1
  have g2 : m < ⊤ := by
    by_contra h; simp [Ideal.cmp, h] at h2
  induction m with
  | bot => exact absurd g1 (by simp)
  | top => exact absurd g2 (lt_irrefl _)
  | coe x => exact ⟨x, rfl, EReal.coe_le_coe_iff.mp g1⟩

/-- The kernel's exponent is an integer the reference's is too. -/
theorem expK_expR (c : BitVec 32) (a : EReal) (E : EReal → EReal)
    (hE : ∀ (x : ℝ) (k : ℤ), IsExp x k → E (x : EReal) = ((k : ℝ) : EReal)) :
    ∃ k : ℤ, -128 ≤ k ∧ k ≤ 128 ∧ expK c a = BitVec.ofInt 32 k ∧ expR c a E = ((k : ℝ) : EReal) := by
  have z : Ideal.ofBits .f32 0x00000000#32 = (((0 : ℤ) : ℝ) : EReal) := by rw [Ideal.ofBits_zero_f32]; simp
  unfold expK expR
  generalize (Scalar.cmpf (F := Ideal) (φ := .f32) .oeq a (Scalar.ofBits .f32 0x00000000#32)) = b
  by_cases hb : b = 1
  · exact ⟨0, by norm_num, by norm_num, by simp [Scalar.select, hb], by simp [Scalar.select, hb]⟩
  by_cases hn : normal (mag c a) = 1
  · have h12 : ∀ p q : BitVec 1, p &&& q = 1 → p = 1#1 ∧ q = 1#1 := by decide
    obtain ⟨g1, g2⟩ := h12 _ _ hn
    obtain ⟨x, hx, hx'⟩ := absf_ne_bot _ g1 g2
    obtain ⟨k, hk, hK⟩ := e14_spec x hx'
    have hm : mag c a = (x : EReal) := hx
    refine ⟨k, by have := hK.2.2.1; omega, hK.2.2.2, ?_, ?_⟩
    · simp only [Scalar.select, if_neg hb, if_pos hn]; rw [hm, hk]
    · simp only [Scalar.select, if_neg hb, if_pos hn]; rw [hm, hE x k hK]
  · refine ⟨0, by norm_num, by norm_num, ?_, ?_⟩
    · simp only [Scalar.select, if_neg hb, if_neg hn]; rfl
    · simp only [Scalar.select, if_neg hb, if_neg hn]; exact z

/-- The kernel's scale is the reference's. -/
theorem scaleK_eq (c : BitVec 32) (a : EReal) (E : EReal → EReal)
    (hE : ∀ (x : ℝ) (k : ℤ), IsExp x k → E (x : EReal) = ((k : ℝ) : EReal)) :
    scaleK c a = Ideal.exp2 (expR c a E) := by
  obtain ⟨k, h0, h1, hK, hR⟩ := expK_expR c a E hE
  rw [scaleK, hK, hR, ldexp1_eq k h0 h1, exp2_int]

/-- The kernel's inverse scale is the reference's. -/
theorem invK_eq (c : BitVec 32) (a : EReal) (E : EReal → EReal)
    (hE : ∀ (x : ℝ) (k : ℤ), IsExp x k → E (x : EReal) = ((k : ℝ) : EReal)) :
    invK c a = Ideal.exp2 (Ideal.ofBits .f32 0x00000000#32 - expR c a E) := by
  obtain ⟨k, h0, h1, hK, hR⟩ := expK_expR c a E hE
  have e : Scalar.subi 0#32 (BitVec.ofInt 32 k) = BitVec.ofInt 32 (-k) := by
    show 0#32 - BitVec.ofInt 32 k = _
    rw [BitVec.ofInt_neg, BitVec.zero_sub]
  rw [invK, hK, hR, e, ldexp1_eq (-k) (by omega) (by omega), Ideal.ofBits_zero_f32, zero_sub, ← EReal.coe_neg,
    show (-(k : ℝ)) = ((-k : ℤ) : ℝ) by push_cast; rfl, exp2_int]

end Fp8Scale
-- ==== Proof.Quant.lean ====
/-
  The quantiser's ingredients at the ideal instance, as functions of plain index families: the
  maximum of a history, the reference's exponent (a maximum over the powers of two reached), the
  scale and the codes; and the vector expressions that the reference writes for them.
  Nothing here names a program.
-/
module

public import proofs.«01_k».proof.Proof.Scale
public import Idealize.ShloMosaic.Lib.Pointwise

@[expose] public section

set_option maxRecDepth 16384

noncomputable section

namespace Fp8Scale

open Idealize.ShloMosaic

/-! ### Maxima of families -/

/-- The maximum of a finite family, `-∞` of none. -/
def maxOf {ι : Type} [Fintype ι] (f : ι → EReal) : EReal := Finset.univ.fold max ⊥ f

theorem maxOf_le_iff {ι : Type} [Fintype ι] (f : ι → EReal) (b : EReal) : maxOf f ≤ b ↔ ∀ i, f i ≤ b := by
  simp [maxOf, Finset.fold_max_le]

theorem fold_eq_maxOf {ι : Type} [Fintype ι] (f : ι → EReal) :
    Finset.univ.fold max (Ideal.ofBits .f32 0xFF800000#32) f = maxOf f := by
  rw [ofBits_neg_inf]; rfl

/-- A value that the same bounds bound is the maximum. -/
theorem eq_maxOf_of {ι : Type} [Fintype ι] (f : ι → EReal) (a : EReal) (h : ∀ b, a ≤ b ↔ ∀ i, f i ≤ b) : a = maxOf f :=
  eq_of_forall_ge_iff fun b => (h b).trans (maxOf_le_iff f b).symm

/-! ### The reference's exponent -/

/-- The integer `127 a + b - 126`, as the reference computes it. -/
def kWord (a : Fin 2) (b : Fin 127) : BitVec 32 :=
  IntOp.subi (IntOp.addi (IntOp.muli (BitVec.ofNat 32 a.val) 127#32) (BitVec.ofNat 32 b.val)) 126#32

theorem kWord_toInt : ∀ (a : Fin 2) (b : Fin 127), (kWord a b).toInt = a.val * 127 + b.val - 126 := by
  decide +kernel

/-- One more than the largest `k` in `-126 … 127` with `2 ^ k ≤ m`. -/
def expOf (m : EReal) : EReal := maxOf fun i : Fin 2 × Fin 127 =>
  if Ideal.exp2 (((kWord i.1 i.2).toInt : ℝ) : EReal) ≤ m then (((kWord i.1 i.2).toInt : ℝ) : EReal) + 1 else ⊥

theorem expOf_eq (x : ℝ) (k : ℤ) (h : IsExp x k) : expOf (x : EReal) = ((k : ℝ) : EReal) := by
  obtain ⟨h1, h2, h3, h4⟩ := h
  refine le_antisymm ((maxOf_le_iff _ _).mpr fun i => ?_) ?_
  · rw [kWord_toInt, exp2_int]
    split_ifs with hr
    · have hr' := EReal.coe_le_coe_iff.mp hr
      have hn : (i.1.val : ℤ) * 127 + i.2.val - 126 + 1 ≤ k := by
        rcases h2 with h2 | h2
        · have := (zpow_lt_zpow_iff_right₀ (by norm_num : (1 : ℝ) < 2)).mp (lt_of_le_of_lt hr' h2)
          omega
        · have := i.1.isLt; have := i.2.isLt; omega
      have hn' : (((i.1.val : ℤ) * 127 + i.2.val - 126 : ℤ) : ℝ) + 1 ≤ (k : ℝ) := by exact_mod_cast hn
      have := EReal.coe_le_coe_iff.mpr hn'
      rwa [EReal.coe_add] at this
    · exact bot_le
  · obtain ⟨n, hn⟩ : ∃ n : ℕ, k = (n : ℤ) - 125 := ⟨(k + 125).toNat, by omega⟩
    have hb := (maxOf_le_iff (fun i : Fin 2 × Fin 127 =>
      if Ideal.exp2 (((kWord i.1 i.2).toInt : ℝ) : EReal) ≤ (x : EReal) then (((kWord i.1 i.2).toInt : ℝ) : EReal) + 1 else ⊥)
      (expOf x)).mp le_rfl (⟨n / 127, by omega⟩, ⟨n % 127, by omega⟩)
    have hk : (kWord ⟨n / 127, by omega⟩ ⟨n % 127, by omega⟩).toInt = k - 1 := by
      rw [kWord_toInt]; simp only; omega
    dsimp only at hb
    rw [hk, exp2_int, if_pos (EReal.coe_le_coe_iff.mpr h1)] at hb
    refine le_trans (le_of_eq ?_) hb
    rw [← EReal.coe_one, ← EReal.coe_add]
    push_cast
    congr 1; ring

/-! ### The scale of a history and the codes of a value -/

/-- The scale: `2 ^ e`, `e` the exponent of the history's maximum times the reciprocal word `c`. -/
def scale (c : BitVec 32) (h : Fin 16 → EReal) : EReal := Ideal.exp2 (expR c (maxOf h) expOf)

/-- The inverse scale, `2 ^ -e`. -/
def inv (c : BitVec 32) (h : Fin 16 → EReal) : EReal :=
  Ideal.exp2 (Ideal.ofBits .f32 0x00000000#32 - expR c (maxOf h) expOf)

theorem scaleK_maxOf (c : BitVec 32) (h : Fin 16 → EReal) : scaleK c (maxOf h) = scale c h :=
  scaleK_eq c _ _ expOf_eq

theorem invK_maxOf (c : BitVec 32) (h : Fin 16 → EReal) : invK c (maxOf h) = inv c h :=
  invK_eq c _ _ expOf_eq

/-- A value times the inverse scale, clipped to `[lo, hi]` (words). -/
def code (lo hi : BitVec 32) (v i : EReal) : EReal := min (Ideal.ofBits .f32 hi) (max (Ideal.ofBits .f32 lo) (v * i))

/-- The greatest magnitude of an array. -/
def amax {a b : ℕ} (f : Fin a → Fin b → EReal) : EReal := maxOf fun i : Fin a × Fin b => max (f i.1 i.2) (-f i.1 i.2)

/-- A history with its oldest entry dropped and `a` added. -/
def push (h : Fin 16 → EReal) (a : EReal) (k : Fin 16) : EReal := if hk : k.val + 1 < 16 then h ⟨k.val + 1, hk⟩ else a

/-! ### The reference's vector expressions -/

section Expr

abbrev T16 : Shape := ⟨1, ![16]⟩
abbrev T1 : Shape := ⟨1, ![1]⟩
abbrev T1x16 : Shape := ⟨2, ![1, 16]⟩
abbrev T1x1 : Shape := ⟨2, ![1, 1]⟩
abbrev T2x127 : Shape := ⟨2, ![2, 127]⟩
abbrev T1x2x127 : Shape := ⟨3, ![1, 2, 127]⟩
abbrev T1x1x1 : Shape := ⟨3, ![1, 1, 1]⟩

/-- `max(history)`. -/
def histMaxV (h1 : T16.ShapeCasts T1x16) (h2 : T1x16.Reduces [1] T1) (h3 : T1.ShapeCasts T1x1)
    (h4 : ∀ a, (![0, 0] : Fin 2 → Nat) a < T1x1.size a) (h : Vec Ideal T16 .f32) : EReal :=
  extractAt ![0, 0] (shapeCast T1x1 (multiReduction (F := Ideal) (φ := .f32) .maximumf [1] T1 (shapeCast T1x16 h h1) 0xFF800000#32 h2 (.inl rfl) rfl) h3) h4

theorem histMaxV_eq (h1 : T16.ShapeCasts T1x16) (h2 : T1x16.Reduces [1] T1) (h3 : T1.ShapeCasts T1x1)
    (h4 : ∀ a, (![0, 0] : Fin 2 → Nat) a < T1x1.size a) (h : Vec Ideal T16 .f32) :
    histMaxV h1 h2 h3 h4 h = maxOf fun k : Fin 16 => h (ix1 k) := by
  rw [← fold_eq_maxOf]
  unfold histMaxV
  pointwise

/-- The candidates `k`. -/
def kV (i0 : T2x127.Iotas .tc 32 [0]) (i1 : T2x127.Iotas .tc 32 [1]) : FVec Ideal T2x127 .f32 :=
  sitofp .f32 (subi (addi (muli (iota .tc T2x127 32 [0] i0) (broadcast T2x127 127#32)) (iota .tc T2x127 32 [1] i1)) (broadcast T2x127 126#32))

/-- The reference's maximum over the powers of two reached. -/
def expV (i0 : T2x127.Iotas .tc 32 [0]) (i1 : T2x127.Iotas .tc 32 [1]) (h1 : T2x127.ShapeCasts T1x2x127) (h2 : T1x2x127.Reduces [1, 2] T1)
    (h3 : T1.ShapeCasts T1x1x1) (h4 : ∀ a, (![0, 0, 0] : Fin 3 → Nat) a < T1x1x1.size a) (m : EReal) : EReal :=
  extractAt ![0, 0, 0] (shapeCast T1x1x1 (multiReduction (F := Ideal) (φ := .f32) .maximumf [1, 2] T1 (shapeCast T1x2x127
    (select (cmpf .oge (broadcast T2x127 (m : Ideal .f32)) (exp2 (kV i0 i1)))
      (addf (kV i0 i1) (broadcast T2x127 (Scalar.ofBits .f32 0x3F800000#32)))
      (broadcast T2x127 (Scalar.ofBits .f32 0xFF800000#32))) h1) 0xFF800000#32 h2 (.inl rfl) rfl) h3) h4

theorem expV_eq (i0 : T2x127.Iotas .tc 32 [0]) (i1 : T2x127.Iotas .tc 32 [1]) (h1 : T2x127.ShapeCasts T1x2x127) (h2 : T1x2x127.Reduces [1, 2] T1)
    (h3 : T1.ShapeCasts T1x1x1) (h4 : ∀ a, (![0, 0, 0] : Fin 3 → Nat) a < T1x1x1.size a) (m : EReal) :
    expV i0 i1 h1 h2 h3 h4 m = expOf m := by
  unfold expV kV expOf
  rw [← fold_eq_maxOf]
  pointwise
  rw [ofBits_neg_inf]
  rfl

end Expr

end Fp8Scale
-- ==== Proof.Whole.Hist.lean ====
/-
  The whole program's bodies at the ideal instance: a history's maximum and the new history, as they compute them.
-/
module

public import proofs.«01_k».proof.Proof.Gen.KernelIdeal
public import proofs.«01_k».proof.Proof.Quant
public import Idealize.ShloMosaic.Lib.Pipeline.ValueKit
public import Idealize.ShloMosaic.Lib.Pipeline.ReadBack

@[expose] public section

set_option maxRecDepth 16384

noncomputable section

namespace Cert.KernelIdeal.Hist

open Cert.KernelIdeal Cert.KernelIdeal.Gen Idealize.ShloMosaic Idealize.ShloMosaic.TcCoe Idealize.SL.Sem

/-- Element `k` of a history, as the body loads it. -/
def rd (h : Vec Ideal S16 .f32) (k : ℕ) (inb : ∀ a, (![k] : Fin 1 → ℕ) a + (![1] : Fin 1 → ℕ) a ≤ S16.size a) : EReal :=
  View.ld h (Rect.unit ![k] ![1] inb) (Shape.Idx.first (Nat.lt_of_lt_of_eq Nat.zero_lt_one numel1_S1.symm))

theorem lt_of_inb {k : ℕ} (inb : ∀ a, (![k] : Fin 1 → ℕ) a + (![1] : Fin 1 → ℕ) a ≤ S16.size a) : k < 16 := inb 0

theorem rd_eq (h : Vec Ideal S16 .f32) (k : ℕ) (inb : ∀ a, (![k] : Fin 1 → ℕ) a + (![1] : Fin 1 → ℕ) a ≤ S16.size a) :
    rd h k inb = h (ix1 ⟨k, lt_of_inb inb⟩) := by
  unfold rd View.ld
  refine congrArg h (funext fun a => Fin.ext ?_)
  have : a = 0 := Subsingleton.elim a 0
  subst this
  rfl

/-- The body's maximum of two scalars. -/
def maxS (a b : EReal) : EReal := Scalar.maximumf (F := Ideal) (φ := .f32) a b

/-- The maximum of a history, as the body computes it. -/
def hmax (h : Vec Ideal S16 .f32) : EReal :=
  maxS (maxS (maxS (maxS (maxS (maxS (maxS (maxS (maxS (maxS (maxS (maxS (maxS (maxS (maxS (rd h 0 inb_S16_S1_0) (rd h 1 inb_S16_S1_1)) (rd h 2 inb_S16_S1_2)) (rd h 3 inb_S16_S1_3)) (rd h 4 inb_S16_S1_4)) (rd h 5 inb_S16_S1_5)) (rd h 6 inb_S16_S1_6)) (rd h 7 inb_S16_S1_7)) (rd h 8 inb_S16_S1_8)) (rd h 9 inb_S16_S1_9)) (rd h 10 inb_S16_S1_10)) (rd h 11 inb_S16_S1_11)) (rd h 12 inb_S16_S1_12)) (rd h 13 inb_S16_S1_13)) (rd h 14 inb_S16_S1_14)) (rd h 15 inb_S16_S1_15)

theorem hmax_eq (h : Vec Ideal S16 .f32) : hmax h = Fp8Scale.maxOf fun k : Fin 16 => h (ix1 k) := by
  refine Fp8Scale.eq_maxOf_of _ _ fun b => ?_
  unfold hmax maxS
  simp only [rd_eq, Ideal.scalar_maximumf_def, max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ ⟨i, hi⟩
    interval_cases i <;> assumption
  · intro hb
    simp only [hb, and_self]

/-- The new history. -/
def histBlk (h : Vec Ideal S16 .f32) (a : EReal) : Vec Ideal S16 .f32 :=
  View.canon (Val := Elt Ideal) [
      ⟨Rect.unit ![15] ![1] inb_S16_S1_15, fun _ => a⟩,
      ⟨Rect.unit ![14] ![1] inb_S16_S1_14, fun _ => rd h 15 inb_S16_S1_15⟩,
      ⟨Rect.unit ![13] ![1] inb_S16_S1_13, fun _ => rd h 14 inb_S16_S1_14⟩,
      ⟨Rect.unit ![12] ![1] inb_S16_S1_12, fun _ => rd h 13 inb_S16_S1_13⟩,
      ⟨Rect.unit ![11] ![1] inb_S16_S1_11, fun _ => rd h 12 inb_S16_S1_12⟩,
      ⟨Rect.unit ![10] ![1] inb_S16_S1_10, fun _ => rd h 11 inb_S16_S1_11⟩,
      ⟨Rect.unit ![9] ![1] inb_S16_S1_9, fun _ => rd h 10 inb_S16_S1_10⟩,
      ⟨Rect.unit ![8] ![1] inb_S16_S1_8, fun _ => rd h 9 inb_S16_S1_9⟩,
      ⟨Rect.unit ![7] ![1] inb_S16_S1_7, fun _ => rd h 8 inb_S16_S1_8⟩,
      ⟨Rect.unit ![6] ![1] inb_S16_S1_6, fun _ => rd h 7 inb_S16_S1_7⟩,
      ⟨Rect.unit ![5] ![1] inb_S16_S1_5, fun _ => rd h 6 inb_S16_S1_6⟩,
      ⟨Rect.unit ![4] ![1] inb_S16_S1_4, fun _ => rd h 5 inb_S16_S1_5⟩,
      ⟨Rect.unit ![3] ![1] inb_S16_S1_3, fun _ => rd h 4 inb_S16_S1_4⟩,
      ⟨Rect.unit ![2] ![1] inb_S16_S1_2, fun _ => rd h 3 inb_S16_S1_3⟩,
      ⟨Rect.unit ![1] ![1] inb_S16_S1_1, fun _ => rd h 2 inb_S16_S1_2⟩,
      ⟨Rect.unit ![0] ![1] inb_S16_S1_0, fun _ => rd h 1 inb_S16_S1_1⟩]

theorem histBlk_apply (h : Vec Ideal S16 .f32) (a : EReal) (j : S16.Idx) :
    histBlk h a j = Fp8Scale.push (fun k => h (ix1 k)) a (j 0) := by
  unfold histBlk
  canon_tiles x hx
  all_goals
    unfold Fp8Scale.push
    dsimp only
    split_ifs with hk
    all_goals first
      | (exfalso; omega)
      | rfl
      | (rw [rd_eq]
         exact congrArg (fun i => h (ix1 i)) (Fin.ext (by dsimp only; omega)))

end Cert.KernelIdeal.Hist
-- ==== Proof.Whole.QuantW.lean ====
/-
  The weight-quantising call of the whole program at the ideal instance: what each grid point leaves in the output windows and
  in the carried scratch, as functions of the blocks it reads.
-/
module

public import proofs.«01_k».proof.Proof.Whole.Region0
public import proofs.«01_k».proof.Proof.Whole.Hist
public import Idealize.ShloMosaic.Lib.Pipeline.ValueKit
public import Idealize.ShloMosaic.Lib.Pipeline.ReadBack

@[expose] public section

set_option maxRecDepth 16384

noncomputable section

namespace Cert.KernelIdeal.QuantW

open Cert.KernelIdeal Cert.KernelIdeal.Gen Idealize.ShloMosaic Idealize.ShloMosaic.TcCoe Idealize.SL.Sem
open Idealize.ShloMosaic.Pipeline (Dat)
open Cert.KernelIdeal.Hist

variable (V : (c : Dev nD) → (b : Ref sig .tc) → Buf (Elt Ideal) ((c : Thread nD τ).loc b))

abbrev W (c : Dev nD) : Vec Ideal S4096x4096 .f32 := V c main_arg1
abbrev HW (c : Dev nD) : Vec Ideal S16 .f32 := V c main_arg4

/-! ### The blocks a grid point reads -/

theorem idx (t : Fin cfg0.N) : win0_0.index t = ![0] ∧ win0_1.index t = ![t.val, 0] ∧ win0_2.index t = ![t.val, 0] := by
  revert t; decide +kernel

theorem lt16 (t : Fin cfg0.N) : t.val < 16 := lt_of_lt_of_eq t.isLt (N_0 : cfg0.N = 16)

theorem iblkH (c : Dev nD) (t : Fin cfg0.N) : iblk0 V c 0 t = HW V c := by funext j; blk_ext [iblk0, idx t]

/-- Row block `t` of `v`. -/
def rowBlk (v : Vec Ideal S4096x4096 .f32) (t : Fin cfg0.N) : Vec Ideal S256x4096 .f32 := fun j =>
  v (ix2 ⟨t.val * 256 + (j 0).val, by have := lt16 t; have : (j 0).val < 256 := (j 0).isLt; omega⟩ (j 1))

theorem iblkV (c : Dev nD) (t : Fin cfg0.N) : iblk0 V c 1 t = rowBlk (W V c) t := by
  funext j; unfold rowBlk; blk_ext [iblk0, idx t]

/-! ### The body's values -/

/-- The codes of a block. -/
def qBlk (i : EReal) (v : Vec Ideal S256x4096 .f32) : Vec Ideal S256x4096 .fp8e4m3 :=
  truncf .fp8e4m3 (minimumf (F := Ideal) (broadcast S256x4096 (Scalar.ofBits .f32 0x43E00000#32))
    (maximumf (broadcast S256x4096 (Scalar.ofBits .f32 0xC3E00000#32)) (mulf v (broadcast S256x4096 i)))) bitsLt_fp8e4m3_f32

theorem qBlk_apply (i : EReal) (v : Vec Ideal S256x4096 .f32) (j : S256x4096.Idx) :
    qBlk i v j = Fp8Scale.code 0xC3E00000#32 0x43E00000#32 (v j) i := by
  unfold qBlk Fp8Scale.code
  pointwise

/-- The greatest magnitudes of a block, folded to 8 rows. -/
def partBlk (v : Vec Ideal S256x4096 .f32) : Vec Ideal S8x4096 .f32 := k0_pay21 (F := Ideal) v

theorem partBlk_apply (v : Vec Ideal S256x4096 .f32) (j : S8x4096.Idx) :
    partBlk v j = Fp8Scale.maxOf fun a : Fin 32 =>
      let i : S256x4096.Idx := ix2 ⟨a.val * 8 + (j 0).val, by have : (j 0).val < 8 := (j 0).isLt; have := a.isLt; omega⟩ (j 1)
      max (v i) (-v i) := by
  rw [← Fp8Scale.fold_eq_maxOf]
  unfold partBlk k0_pay21
  pointwise
  rfl

/-! ### What a grid point leaves -/

theorem caseABC (t : Fin cfg0.N) : (t.val % 16 = 0 ∧ ¬1 ≤ t.val ∧ ¬t.val % 16 = 15) ∨
    (¬t.val % 16 = 0 ∧ 1 ≤ t.val ∧ ¬t.val % 16 = 15) ∨ (¬t.val % 16 = 0 ∧ 1 ≤ t.val ∧ t.val % 16 = 15) := by
  have := lt16 t
  omega

theorem outQ (c : Dev nD) (t : Fin cfg0.N) : (outsAt0 V c t.val t.isLt).1 =
    qBlk (Fp8Scale.invK 0x3B124925#32 (hmax (iblk0 V c 0 t))) (iblk0 V c 1 t) := by
  rcases caseABC t with ⟨h0, h1, h2⟩ | ⟨h0, h1, h2⟩ | ⟨h0, h1, h2⟩
  · rw [outsAt0_A V c t h0 h1 h2]
    frame_out
    rfl
  · rw [outsAt0_B V c t h0 h1 h2]
    frame_out
    rfl
  · rw [outsAt0_C V c t h0 h1 h2]
    frame_out
    rfl

theorem outS (c : Dev nD) (t : Fin cfg0.N) : (outsAt0 V c t.val t.isLt).2.1 = fun _ => (Fp8Scale.scaleK 0x3B124925#32 (hmax (iblk0 V c 0 t))) := by
  rcases caseABC t with ⟨h0, h1, h2⟩ | ⟨h0, h1, h2⟩ | ⟨h0, h1, h2⟩
  · rw [outsAt0_A V c t h0 h1 h2]
    frame_out
    rfl
  · rw [outsAt0_B V c t h0 h1 h2]
    frame_out
    rfl
  · rw [outsAt0_C V c t h0 h1 h2]
    frame_out
    rfl

/-- The scratch after point `n`. -/
abbrev scr (c : Dev nD) (n : ℕ) (h : n < cfg0.N) : Vec Ideal S8x4096 .f32 := (outsAt0 V c n h).2.2.2

theorem scr_zero (c : Dev nD) (t : Fin cfg0.N) (h : t.val = 0) : scr V c t.val t.isLt = partBlk (iblk0 V c 1 t) := by
  unfold scr
  rw [outsAt0_A V c t (by omega) (by omega) (by omega)]
  frame_out
  unfold k0_pay22 partBlk
  rw [shapeCast_self]

theorem scr_succ (c : Dev nD) (t : Fin cfg0.N) (h : 1 ≤ t.val) : scr V c t.val t.isLt =
    fun j => max (scr V c (t.val - 1) (Nat.lt_of_le_of_lt (Nat.sub_le _ _) t.isLt) j) (partBlk (iblk0 V c 1 t) j) := by
  have := lt16 t
  unfold scr
  by_cases h2 : t.val % 16 = 15
  · rw [outsAt0_C V c t (by omega) h h2]
    frame_out
    simp only [read_unread_whole]
    funext j
    unfold k0_pay23 partBlk
    rw [shapeCast_self]
    rfl
  · rw [outsAt0_B V c t (by omega) h h2]
    frame_out
    simp only [read_unread_whole]
    funext j
    unfold k0_pay23 partBlk
    rw [shapeCast_self]
    rfl

/-- The maximum of the whole scratch. -/
def totBlk (v : Vec Ideal S8x4096 .f32) : EReal := k0_pay1 (F := Ideal) v

theorem totBlk_eq (v : Vec Ideal S8x4096 .f32) : totBlk v = Fp8Scale.maxOf fun i : Fin 8 × Fin 4096 => v (ix2 i.1 i.2) := by
  rw [← Fp8Scale.fold_eq_maxOf]
  unfold totBlk k0_pay1
  pointwise

theorem outH (c : Dev nD) (t : Fin cfg0.N) (h : t.val = 15) :
    (outsAt0 V c t.val t.isLt).2.2.1 = histBlk (iblk0 V c 0 t) (totBlk (scr V c t.val t.isLt)) := by
  unfold scr
  rw [outsAt0_C V c t (by omega) (by omega) (by omega)]
  frame_out
  rfl

end Cert.KernelIdeal.QuantW
-- ==== Proof.Whole.QuantWEnd.lean ====
/-
  The weight-quantising call of the whole program at the ideal instance, after the run: the result arrays as functions of the
  arguments. The carried scratch after point `t` bounds the magnitudes of the first `t + 1` row blocks.
-/
module

public import proofs.«01_k».proof.Proof.Whole.QuantW

@[expose] public section

set_option maxRecDepth 16384

noncomputable section

namespace Cert.KernelIdeal.QuantW

open Cert.KernelIdeal Cert.KernelIdeal.Gen Idealize.ShloMosaic Idealize.ShloMosaic.TcCoe Idealize.SL.Sem
open Idealize.ShloMosaic.Pipeline (Dat)
open Cert.KernelIdeal.Hist

variable (V : (c : Dev nD) → (b : Ref sig .tc) → Buf (Elt Ideal) ((c : Thread nD τ).loc b))

/-! ### The carried maximum -/

theorem partBlk_rowBlk_le (v : Vec Ideal S4096x4096 .f32) (t : Fin cfg0.N) (j : S8x4096.Idx) (b : EReal) :
    partBlk (rowBlk v t) j ≤ b ↔ ∀ r : Fin 4096, r.val % 8 = (j 0).val → r.val / 256 = t.val →
      max (v (ix2 r (j 1))) (-v (ix2 r (j 1))) ≤ b := by
  have hj : (j 0).val < 8 := (j 0).isLt
  have ht := lt16 t
  rw [partBlk_apply, Fp8Scale.maxOf_le_iff]
  constructor
  · intro h r h1 h2
    have hr := r.isLt
    have h3 := h ⟨r.val % 256 / 8, by omega⟩
    have : (⟨t.val * 256 + (r.val % 256 / 8 * 8 + (j 0).val), by omega⟩ : Fin 4096) = r := Fin.ext (by dsimp only; omega)
    dsimp only [rowBlk, ix2] at h3
    rw [← this]
    exact h3
  · intro h a
    have ha := a.isLt
    exact h ⟨t.val * 256 + (a.val * 8 + (j 0).val), by omega⟩ (by dsimp only; omega) (by dsimp only; omega)

theorem scr_le (c : Dev nD) (j : S8x4096.Idx) (b : EReal) : ∀ (n : ℕ) (hn : n < cfg0.N), scr V c n hn j ≤ b ↔
    ∀ r : Fin 4096, r.val % 8 = (j 0).val → r.val / 256 ≤ n → max (W V c (ix2 r (j 1))) (-W V c (ix2 r (j 1))) ≤ b
  | 0, hn => by
    rw [scr_zero V c ⟨0, hn⟩ rfl, iblkV, partBlk_rowBlk_le]
    exact forall_congr' fun r => imp_congr_right fun _ => imp_congr_left (by dsimp only; omega)
  | n + 1, hn => by
    rw [scr_succ V c ⟨n + 1, hn⟩ (by dsimp only; omega), iblkV]
    dsimp only
    rw [max_le_iff, partBlk_rowBlk_le]
    simp only [Nat.add_sub_cancel]
    rw [scr_le c j b n (by omega)]
    constructor
    · rintro ⟨h1, h2⟩ r hr hn
      by_cases hc : r.val / 256 = n + 1
      · exact h2 r hr hc
      · exact h1 r hr (by omega)
    · intro h
      exact ⟨fun r hr hc => h r hr (by omega), fun r hr hc => h r hr (by omega)⟩

theorem tot_eq (c : Dev nD) (t : Fin cfg0.N) (h : t.val = 15) :
    totBlk (scr V c t.val t.isLt) = Fp8Scale.amax fun (r : Fin 4096) (k : Fin 4096) => W V c (ix2 r k) := by
  refine Fp8Scale.eq_maxOf_of _ _ fun b => ?_
  rw [totBlk_eq, Fp8Scale.maxOf_le_iff]
  constructor
  · intro hb i
    have := i.1.isLt
    exact (scr_le V c (ix2 ⟨i.1.val % 8, by omega⟩ i.2) b t.val t.isLt).mp (hb (⟨i.1.val % 8, by omega⟩, i.2)) i.1 rfl (by omega)
  · intro hb i
    exact (scr_le V c (ix2 i.1 i.2) b t.val t.isLt).mpr fun r _ _ => hb (r, i.2)

/-! ### The result arrays -/

/-- The history of the quantised operand. -/
abbrev hw (c : Dev nD) : Fin 16 → EReal := fun k => HW V c (ix1 k)

theorem finalQ (c : Dev nD) : (dat0 V c).arrAt 2 cfg0.N = fun j =>
    Fp8Scale.code 0xC3E00000#32 0x43E00000#32 (W V c j) (Fp8Scale.inv 0x3B124925#32 (hw V c)) := by
  refine (dat0 V c).arrAt_eq_of_covers 2 _ (by decide +kernel) fun t hf y => ?_
  blk_simp
  rw [after0_2, outQ, qBlk_apply, iblkH, iblkV]
  simp only [hmax_eq, Fp8Scale.invK_maxOf]
  refine congrArg (Fp8Scale.code _ _ · _) ?_
  unfold rowBlk; blk_ext [idx t]

theorem finalS (c : Dev nD) : (dat0 V c).arrAt 3 cfg0.N = fun _ => Fp8Scale.scale 0x3B124925#32 (hw V c) := by
  refine (dat0 V c).arrAt_eq_of_after_last 3 t0_15 (by decide +kernel) _ fun j => ?_
  blk_simp
  rw [after0_3, outS, iblkH, hmax_eq, Fp8Scale.scaleK_maxOf]

theorem finalH (c : Dev nD) : (dat0 V c).arrAt 4 cfg0.N = fun j =>
    Fp8Scale.push (hw V c) (Fp8Scale.amax fun (r : Fin 4096) (k : Fin 4096) => W V c (ix2 r k)) (j 0) := by
  refine (dat0 V c).arrAt_eq_of_after_last 4 t0_15 (by decide +kernel) _ fun j => ?_
  blk_simp
  rw [after0_4, outH V c t0_15 rfl, tot_eq V c t0_15 rfl, iblkH, histBlk_apply]

end Cert.KernelIdeal.QuantW
-- ==== Proof.Whole.Fwd.lean ====
/-
  The forward call of the whole program at the ideal instance: what each grid point leaves in the output windows and
  in the carried scratch, as functions of the blocks it reads.
-/
module

public import proofs.«01_k».proof.Proof.Whole.Region1
public import proofs.«01_k».proof.Proof.Whole.Hist
public import Idealize.ShloMosaic.Lib.Pipeline.ValueKit
public import Idealize.ShloMosaic.Lib.Pipeline.ReadBack

@[expose] public section

set_option maxRecDepth 16384

noncomputable section

namespace Cert.KernelIdeal.Fwd

open Cert.KernelIdeal Cert.KernelIdeal.Gen Idealize.ShloMosaic Idealize.ShloMosaic.TcCoe Idealize.SL.Sem
open Idealize.ShloMosaic.Pipeline (Dat)
open Cert.KernelIdeal.Hist

variable (V : (c : Dev nD) → (b : Ref sig .tc) → Buf (Elt Ideal) ((c : Thread nD τ).loc b))

abbrev X (c : Dev nD) : Vec Ideal S8192x4096 .f32 := V c main_v0
abbrev WQ (c : Dev nD) : Vec Ideal S4096x4096 .fp8e4m3 := V c main_v2_0
abbrev HX (c : Dev nD) : Vec Ideal S16 .f32 := V c main_arg3
abbrev HW (c : Dev nD) : Vec Ideal S16 .f32 := V c main_arg4

/-! ### The blocks a grid point reads -/

theorem idx (t : Fin cfg1.N) : win1_0.index t = ![0] ∧ win1_2.index t = ![t.val, 0] ∧ win1_5.index t = ![t.val, 0] ∧ win1_1.index t = ![0] ∧ win1_3.index t = ![0, 0] ∧ win1_4.index t = ![t.val, 0] := by
  revert t; decide +kernel

theorem lt16 (t : Fin cfg1.N) : t.val < 16 := lt_of_lt_of_eq t.isLt (N_1 : cfg1.N = 16)

theorem iblkH (c : Dev nD) (t : Fin cfg1.N) : iblk1 V c 0 t = HX V c := by funext j; blk_ext [iblk1, idx t]
theorem iblkHW (c : Dev nD) (t : Fin cfg1.N) : iblk1 V c 1 t = HW V c := by funext j; blk_ext [iblk1, idx t]
theorem iblkW (c : Dev nD) (t : Fin cfg1.N) : iblk1 V c 3 t = WQ V c := by funext j; blk_ext [iblk1, idx t]

/-- Row block `t` of `v`. -/
def rowBlk (v : Vec Ideal S8192x4096 .f32) (t : Fin cfg1.N) : Vec Ideal S512x4096 .f32 := fun j =>
  v (ix2 ⟨t.val * 512 + (j 0).val, by have := lt16 t; have : (j 0).val < 512 := (j 0).isLt; omega⟩ (j 1))

theorem iblkV (c : Dev nD) (t : Fin cfg1.N) : iblk1 V c 2 t = rowBlk (X V c) t := by
  funext j; unfold rowBlk; blk_ext [iblk1, idx t]

/-! ### The body's values -/

/-- One chunk of columns of the product, scaled. -/
def prodBlk (s : EReal) (w : Vec Ideal S4096x512 .fp8e4m3) (q : Vec Ideal S512x4096 .fp8e4m3) : Vec Ideal S512x512 .f32 :=
  k1_pay44 (F := Ideal) s w q

/-- The block's product, chunk by chunk. -/
def yBlk (s : EReal) (q : Vec Ideal S512x4096 .fp8e4m3) (w : Vec Ideal S4096x4096 .fp8e4m3) : Vec Ideal S512x4096 .f32 :=
  View.canon (Val := Elt Ideal) [
      ⟨Rect.unit ![0, 3584] ![512, 512] inb_S512x4096_S512x512_0_3584, prodBlk s (View.ld w (Rect.unit ![0, 3584] ![4096, 512] inb_S4096x4096_S4096x512_0_3584)) q⟩,
      ⟨Rect.unit ![0, 3072] ![512, 512] inb_S512x4096_S512x512_0_3072, prodBlk s (View.ld w (Rect.unit ![0, 3072] ![4096, 512] inb_S4096x4096_S4096x512_0_3072)) q⟩,
      ⟨Rect.unit ![0, 2560] ![512, 512] inb_S512x4096_S512x512_0_2560, prodBlk s (View.ld w (Rect.unit ![0, 2560] ![4096, 512] inb_S4096x4096_S4096x512_0_2560)) q⟩,
      ⟨Rect.unit ![0, 2048] ![512, 512] inb_S512x4096_S512x512_0_2048, prodBlk s (View.ld w (Rect.unit ![0, 2048] ![4096, 512] inb_S4096x4096_S4096x512_0_2048)) q⟩,
      ⟨Rect.unit ![0, 1536] ![512, 512] inb_S512x4096_S512x512_0_1536, prodBlk s (View.ld w (Rect.unit ![0, 1536] ![4096, 512] inb_S4096x4096_S4096x512_0_1536)) q⟩,
      ⟨Rect.unit ![0, 1024] ![512, 512] inb_S512x4096_S512x512_0_1024, prodBlk s (View.ld w (Rect.unit ![0, 1024] ![4096, 512] inb_S4096x4096_S4096x512_0_1024)) q⟩,
      ⟨Rect.unit ![0, 512] ![512, 512] inb_S512x4096_S512x512_0_512, prodBlk s (View.ld w (Rect.unit ![0, 512] ![4096, 512] inb_S4096x4096_S4096x512_0_512)) q⟩,
      ⟨Rect.unit ![0, 0] ![512, 512] inb_S512x4096_S512x512_0_0, prodBlk s (View.ld w (Rect.unit ![0, 0] ![4096, 512] inb_S4096x4096_S4096x512_0_0)) q⟩]

theorem yBlk_apply (s : EReal) (q : Vec Ideal S512x4096 .fp8e4m3) (w : Vec Ideal S4096x4096 .fp8e4m3) (j : S512x4096.Idx) :
    yBlk s q w j = (∑ k : Fin 4096, q (ix2 (j 0) k) * w (ix2 k (j 1))) * s := by
  unfold yBlk
  canon_tiles x h
  all_goals
    unfold prodBlk k1_pay44
    simp only [shapeCast_self]
    pointwise
    refine congrArg (· * s) (Finset.sum_congr rfl fun k _ => ?_)
    congr 1 <;> blk_ext []

/-- The codes of a block. -/
def qBlk (i : EReal) (v : Vec Ideal S512x4096 .f32) : Vec Ideal S512x4096 .fp8e4m3 :=
  truncf .fp8e4m3 (minimumf (F := Ideal) (broadcast S512x4096 (Scalar.ofBits .f32 0x43E00000#32))
    (maximumf (broadcast S512x4096 (Scalar.ofBits .f32 0xC3E00000#32)) (mulf (shapeCast S512x4096 v shapeCasts_S512x4096_S512x4096) (broadcast S512x4096 i)))) bitsLt_fp8e4m3_f32

theorem qBlk_apply (i : EReal) (v : Vec Ideal S512x4096 .f32) (j : S512x4096.Idx) :
    qBlk i v j = Fp8Scale.code 0xC3E00000#32 0x43E00000#32 (v j) i := by
  unfold qBlk Fp8Scale.code
  simp only [shapeCast_self]
  pointwise

/-- The greatest magnitudes of a block, folded to 8 rows. -/
def partBlk (v : Vec Ideal S512x4096 .f32) : Vec Ideal S8x4096 .f32 := k1_pay1 (F := Ideal) (k1_pay53 (k1_pay40 v))

theorem partBlk_apply (v : Vec Ideal S512x4096 .f32) (j : S8x4096.Idx) :
    partBlk v j = Fp8Scale.maxOf fun a : Fin 64 =>
      let i : S512x4096.Idx := ix2 ⟨a.val * 8 + (j 0).val, by have : (j 0).val < 8 := (j 0).isLt; have := a.isLt; omega⟩ (j 1)
      max (v i) (-v i) := by
  rw [← Fp8Scale.fold_eq_maxOf]
  unfold partBlk k1_pay1 k1_pay53 k1_pay40
  simp only [shapeCast_self]
  pointwise
  rfl

/-! ### What a grid point leaves -/

theorem caseABC (t : Fin cfg1.N) : (t.val % 16 = 0 ∧ ¬1 ≤ t.val ∧ ¬t.val % 16 = 15) ∨
    (¬t.val % 16 = 0 ∧ 1 ≤ t.val ∧ ¬t.val % 16 = 15) ∨ (¬t.val % 16 = 0 ∧ 1 ≤ t.val ∧ t.val % 16 = 15) := by
  have := lt16 t
  omega

theorem outY (c : Dev nD) (t : Fin cfg1.N) : (outsAt1 V c t.val t.isLt).1 =
    yBlk ((Fp8Scale.scaleK 0x3B124925#32 (hmax (iblk1 V c 0 t))) * Fp8Scale.scaleK 0x3B124925#32 (hmax (iblk1 V c 1 t)))
      (qBlk (Fp8Scale.invK 0x3B124925#32 (hmax (iblk1 V c 0 t))) (iblk1 V c 2 t)) (iblk1 V c 3 t) := by
  rcases caseABC t with ⟨h0, h1, h2⟩ | ⟨h0, h1, h2⟩ | ⟨h0, h1, h2⟩
  · rw [outsAt1_A V c t h0 h1 h2]
    frame_out
    rfl
  · rw [outsAt1_B V c t h0 h1 h2]
    frame_out
    rfl
  · rw [outsAt1_C V c t h0 h1 h2]
    frame_out
    rfl

theorem outQ (c : Dev nD) (t : Fin cfg1.N) : (outsAt1 V c t.val t.isLt).2.1 =
    qBlk (Fp8Scale.invK 0x3B124925#32 (hmax (iblk1 V c 0 t))) (iblk1 V c 2 t) := by
  rcases caseABC t with ⟨h0, h1, h2⟩ | ⟨h0, h1, h2⟩ | ⟨h0, h1, h2⟩
  · rw [outsAt1_A V c t h0 h1 h2]
    frame_out
    rfl
  · rw [outsAt1_B V c t h0 h1 h2]
    frame_out
    rfl
  · rw [outsAt1_C V c t h0 h1 h2]
    frame_out
    rfl

theorem outS (c : Dev nD) (t : Fin cfg1.N) : (outsAt1 V c t.val t.isLt).2.2.1 = fun _ => (Fp8Scale.scaleK 0x3B124925#32 (hmax (iblk1 V c 0 t))) := by
  rcases caseABC t with ⟨h0, h1, h2⟩ | ⟨h0, h1, h2⟩ | ⟨h0, h1, h2⟩
  · rw [outsAt1_A V c t h0 h1 h2]
    frame_out
    rfl
  · rw [outsAt1_B V c t h0 h1 h2]
    frame_out
    rfl
  · rw [outsAt1_C V c t h0 h1 h2]
    frame_out
    rfl

/-- The scratch after point `n`. -/
abbrev scr (c : Dev nD) (n : ℕ) (h : n < cfg1.N) : Vec Ideal S8x4096 .f32 := (outsAt1 V c n h).2.2.2.2

theorem scr_zero (c : Dev nD) (t : Fin cfg1.N) (h : t.val = 0) : scr V c t.val t.isLt = partBlk (iblk1 V c 2 t) := by
  unfold scr
  rw [outsAt1_A V c t (by omega) (by omega) (by omega)]
  frame_out
  unfold k1_pay2
  rw [shapeCast_self]
  rfl

theorem scr_succ (c : Dev nD) (t : Fin cfg1.N) (h : 1 ≤ t.val) : scr V c t.val t.isLt =
    fun j => max (scr V c (t.val - 1) (Nat.lt_of_le_of_lt (Nat.sub_le _ _) t.isLt) j) (partBlk (iblk1 V c 2 t) j) := by
  have := lt16 t
  unfold scr
  by_cases h2 : t.val % 16 = 15
  · rw [outsAt1_C V c t (by omega) h h2]
    frame_out
    simp only [read_unread_whole]
    funext j
    unfold k1_pay3
    rw [shapeCast_self]
    rfl
  · rw [outsAt1_B V c t (by omega) h h2]
    frame_out
    simp only [read_unread_whole]
    funext j
    unfold k1_pay3
    rw [shapeCast_self]
    rfl

/-- The maximum of the whole scratch. -/
def totBlk (v : Vec Ideal S8x4096 .f32) : EReal := k1_pay4 (F := Ideal) v

theorem totBlk_eq (v : Vec Ideal S8x4096 .f32) : totBlk v = Fp8Scale.maxOf fun i : Fin 8 × Fin 4096 => v (ix2 i.1 i.2) := by
  rw [← Fp8Scale.fold_eq_maxOf]
  unfold totBlk k1_pay4
  pointwise

theorem outH (c : Dev nD) (t : Fin cfg1.N) (h : t.val = 15) :
    (outsAt1 V c t.val t.isLt).2.2.2.1 = histBlk (iblk1 V c 0 t) (totBlk (scr V c t.val t.isLt)) := by
  unfold scr
  rw [outsAt1_C V c t (by omega) (by omega) (by omega)]
  frame_out
  rfl

end Cert.KernelIdeal.Fwd
-- ==== Proof.Whole.FwdEnd.lean ====
/-
  The forward call of the whole program at the ideal instance, after the run: the result arrays as functions of the
  arguments. The carried scratch after point `t` bounds the magnitudes of the first `t + 1` row blocks.
-/
module

public import proofs.«01_k».proof.Proof.Whole.Fwd

@[expose] public section

set_option maxRecDepth 16384

noncomputable section

namespace Cert.KernelIdeal.Fwd

open Cert.KernelIdeal Cert.KernelIdeal.Gen Idealize.ShloMosaic Idealize.ShloMosaic.TcCoe Idealize.SL.Sem
open Idealize.ShloMosaic.Pipeline (Dat)
open Cert.KernelIdeal.Hist

variable (V : (c : Dev nD) → (b : Ref sig .tc) → Buf (Elt Ideal) ((c : Thread nD τ).loc b))

/-! ### The carried maximum -/

theorem partBlk_rowBlk_le (v : Vec Ideal S8192x4096 .f32) (t : Fin cfg1.N) (j : S8x4096.Idx) (b : EReal) :
    partBlk (rowBlk v t) j ≤ b ↔ ∀ r : Fin 8192, r.val % 8 = (j 0).val → r.val / 512 = t.val →
      max (v (ix2 r (j 1))) (-v (ix2 r (j 1))) ≤ b := by
  have hj : (j 0).val < 8 := (j 0).isLt
  have ht := lt16 t
  rw [partBlk_apply, Fp8Scale.maxOf_le_iff]
  constructor
  · intro h r h1 h2
    have hr := r.isLt
    have h3 := h ⟨r.val % 512 / 8, by omega⟩
    have : (⟨t.val * 512 + (r.val % 512 / 8 * 8 + (j 0).val), by omega⟩ : Fin 8192) = r := Fin.ext (by dsimp only; omega)
    dsimp only [rowBlk, ix2] at h3
    rw [← this]
    exact h3
  · intro h a
    have ha := a.isLt
    exact h ⟨t.val * 512 + (a.val * 8 + (j 0).val), by omega⟩ (by dsimp only; omega) (by dsimp only; omega)

theorem scr_le (c : Dev nD) (j : S8x4096.Idx) (b : EReal) : ∀ (n : ℕ) (hn : n < cfg1.N), scr V c n hn j ≤ b ↔
    ∀ r : Fin 8192, r.val % 8 = (j 0).val → r.val / 512 ≤ n → max (X V c (ix2 r (j 1))) (-X V c (ix2 r (j 1))) ≤ b
  | 0, hn => by
    rw [scr_zero V c ⟨0, hn⟩ rfl, iblkV, partBlk_rowBlk_le]
    exact forall_congr' fun r => imp_congr_right fun _ => imp_congr_left (by dsimp only; omega)
  | n + 1, hn => by
    rw [scr_succ V c ⟨n + 1, hn⟩ (by dsimp only; omega), iblkV]
    dsimp only
    rw [max_le_iff, partBlk_rowBlk_le]
    simp only [Nat.add_sub_cancel]
    rw [scr_le c j b n (by omega)]
    constructor
    · rintro ⟨h1, h2⟩ r hr hn
      by_cases hc : r.val / 512 = n + 1
      · exact h2 r hr hc
      · exact h1 r hr (by omega)
    · intro h
      exact ⟨fun r hr hc => h r hr (by omega), fun r hr hc => h r hr (by omega)⟩

theorem tot_eq (c : Dev nD) (t : Fin cfg1.N) (h : t.val = 15) :
    totBlk (scr V c t.val t.isLt) = Fp8Scale.amax fun (r : Fin 8192) (k : Fin 4096) => X V c (ix2 r k) := by
  refine Fp8Scale.eq_maxOf_of _ _ fun b => ?_
  rw [totBlk_eq, Fp8Scale.maxOf_le_iff]
  constructor
  · intro hb i
    have := i.1.isLt
    exact (scr_le V c (ix2 ⟨i.1.val % 8, by omega⟩ i.2) b t.val t.isLt).mp (hb (⟨i.1.val % 8, by omega⟩, i.2)) i.1 rfl (by omega)
  · intro hb i
    exact (scr_le V c (ix2 i.1 i.2) b t.val t.isLt).mpr fun r _ _ => hb (r, i.2)

/-! ### The result arrays -/

/-- The history of the quantised operand. -/
abbrev hx (c : Dev nD) : Fin 16 → EReal := fun k => HX V c (ix1 k)
/-- The history of `w`. -/
abbrev hw (c : Dev nD) : Fin 16 → EReal := fun k => HW V c (ix1 k)

theorem finalY (c : Dev nD) : (dat1 V c).arrAt 4 cfg1.N = fun j =>
    (∑ k : Fin 4096, Fp8Scale.code 0xC3E00000#32 0x43E00000#32 (X V c (ix2 (j 0) k)) (Fp8Scale.inv 0x3B124925#32 (hx V c)) *
      WQ V c (ix2 k (j 1))) * (Fp8Scale.scale 0x3B124925#32 (hx V c) * Fp8Scale.scale 0x3B124925#32 (hw V c)) := by
  refine (dat1 V c).arrAt_eq_of_covers 4 _ (by decide +kernel) fun t hf y => ?_
  blk_simp
  rw [after1_4, outY, yBlk_apply, iblkH, iblkHW, iblkV, iblkW]
  simp only [hmax_eq, Fp8Scale.scaleK_maxOf, Fp8Scale.invK_maxOf, qBlk_apply]
  refine congrArg₂ (· * ·) (Finset.sum_congr rfl fun k _ => congrArg₂ (· * ·) (congrArg (Fp8Scale.code _ _ · _) ?_) ?_) rfl
  · unfold rowBlk; blk_ext [idx t]
  · blk_ext [idx t]

theorem finalQ (c : Dev nD) : (dat1 V c).arrAt 5 cfg1.N = fun j =>
    Fp8Scale.code 0xC3E00000#32 0x43E00000#32 (X V c j) (Fp8Scale.inv 0x3B124925#32 (hx V c)) := by
  refine (dat1 V c).arrAt_eq_of_covers 5 _ (by decide +kernel) fun t hf y => ?_
  blk_simp
  rw [after1_5, outQ, qBlk_apply, iblkH, iblkV]
  simp only [hmax_eq, Fp8Scale.invK_maxOf]
  refine congrArg (Fp8Scale.code _ _ · _) ?_
  unfold rowBlk; blk_ext [idx t]

theorem finalS (c : Dev nD) : (dat1 V c).arrAt 6 cfg1.N = fun _ => Fp8Scale.scale 0x3B124925#32 (hx V c) := by
  refine (dat1 V c).arrAt_eq_of_after_last 6 t1_15 (by decide +kernel) _ fun j => ?_
  blk_simp
  rw [after1_6, outS, iblkH, hmax_eq, Fp8Scale.scaleK_maxOf]

theorem finalH (c : Dev nD) : (dat1 V c).arrAt 7 cfg1.N = fun j =>
    Fp8Scale.push (hx V c) (Fp8Scale.amax fun (r : Fin 8192) (k : Fin 4096) => X V c (ix2 r k)) (j 0) := by
  refine (dat1 V c).arrAt_eq_of_after_last 7 t1_15 (by decide +kernel) _ fun j => ?_
  blk_simp
  rw [after1_7, outH V c t1_15 rfl, tot_eq V c t1_15 rfl, iblkH, histBlk_apply]

end Cert.KernelIdeal.Fwd
-- ==== Proof.Whole.BwdDx.lean ====
/-
  The input-gradient call of the whole program at the ideal instance: what each grid point leaves in the output windows and
  in the carried scratch, as functions of the blocks it reads.
-/
module

public import proofs.«01_k».proof.Proof.Whole.Region2
public import proofs.«01_k».proof.Proof.Whole.Hist
public import Idealize.ShloMosaic.Lib.Pipeline.ValueKit
public import Idealize.ShloMosaic.Lib.Pipeline.ReadBack

@[expose] public section

set_option maxRecDepth 16384

noncomputable section

namespace Cert.KernelIdeal.BwdDx

open Cert.KernelIdeal Cert.KernelIdeal.Gen Idealize.ShloMosaic Idealize.ShloMosaic.TcCoe Idealize.SL.Sem
open Idealize.ShloMosaic.Pipeline (Dat)
open Cert.KernelIdeal.Hist

variable (V : (c : Dev nD) → (b : Ref sig .tc) → Buf (Elt Ideal) ((c : Thread nD τ).loc b))

abbrev DY (c : Dev nD) : Vec Ideal S8192x4096 .f32 := V c main_v1
abbrev WQ (c : Dev nD) : Vec Ideal S4096x4096 .fp8e4m3 := V c main_v2_0
abbrev HDY (c : Dev nD) : Vec Ideal S16 .f32 := V c main_arg5
abbrev HW (c : Dev nD) : Vec Ideal S16 .f32 := V c main_arg4

/-! ### The blocks a grid point reads -/

theorem idx (t : Fin cfg2.N) : win2_0.index t = ![0] ∧ win2_2.index t = ![t.val, 0] ∧ win2_5.index t = ![t.val, 0] ∧ win2_1.index t = ![0] ∧ win2_3.index t = ![0, 0] ∧ win2_4.index t = ![t.val, 0] := by
  revert t; decide +kernel

theorem lt16 (t : Fin cfg2.N) : t.val < 16 := lt_of_lt_of_eq t.isLt (N_2 : cfg2.N = 16)

theorem iblkH (c : Dev nD) (t : Fin cfg2.N) : iblk2 V c 0 t = HDY V c := by funext j; blk_ext [iblk2, idx t]
theorem iblkHW (c : Dev nD) (t : Fin cfg2.N) : iblk2 V c 1 t = HW V c := by funext j; blk_ext [iblk2, idx t]
theorem iblkW (c : Dev nD) (t : Fin cfg2.N) : iblk2 V c 3 t = WQ V c := by funext j; blk_ext [iblk2, idx t]

/-- Row block `t` of `v`. -/
def rowBlk (v : Vec Ideal S8192x4096 .f32) (t : Fin cfg2.N) : Vec Ideal S512x4096 .f32 := fun j =>
  v (ix2 ⟨t.val * 512 + (j 0).val, by have := lt16 t; have : (j 0).val < 512 := (j 0).isLt; omega⟩ (j 1))

theorem iblkV (c : Dev nD) (t : Fin cfg2.N) : iblk2 V c 2 t = rowBlk (DY V c) t := by
  funext j; unfold rowBlk; blk_ext [iblk2, idx t]

/-! ### The body's values -/

/-- One chunk of columns of the product, scaled. -/
def prodBlk (s : EReal) (w : Vec Ideal S512x4096 .fp8e4m3) (q : Vec Ideal S512x4096 .fp8e5m2) : Vec Ideal S512x512 .f32 :=
  k2_pay44 (F := Ideal) s w q

/-- The block's product, chunk by chunk. -/
def yBlk (s : EReal) (q : Vec Ideal S512x4096 .fp8e5m2) (w : Vec Ideal S4096x4096 .fp8e4m3) : Vec Ideal S512x4096 .f32 :=
  View.canon (Val := Elt Ideal) [
      ⟨Rect.unit ![0, 3584] ![512, 512] inb_S512x4096_S512x512_0_3584, prodBlk s (View.ld w (Rect.unit ![3584, 0] ![512, 4096] inb_S4096x4096_S512x4096_3584_0)) q⟩,
      ⟨Rect.unit ![0, 3072] ![512, 512] inb_S512x4096_S512x512_0_3072, prodBlk s (View.ld w (Rect.unit ![3072, 0] ![512, 4096] inb_S4096x4096_S512x4096_3072_0)) q⟩,
      ⟨Rect.unit ![0, 2560] ![512, 512] inb_S512x4096_S512x512_0_2560, prodBlk s (View.ld w (Rect.unit ![2560, 0] ![512, 4096] inb_S4096x4096_S512x4096_2560_0)) q⟩,
      ⟨Rect.unit ![0, 2048] ![512, 512] inb_S512x4096_S512x512_0_2048, prodBlk s (View.ld w (Rect.unit ![2048, 0] ![512, 4096] inb_S4096x4096_S512x4096_2048_0)) q⟩,
      ⟨Rect.unit ![0, 1536] ![512, 512] inb_S512x4096_S512x512_0_1536, prodBlk s (View.ld w (Rect.unit ![1536, 0] ![512, 4096] inb_S4096x4096_S512x4096_1536_0)) q⟩,
      ⟨Rect.unit ![0, 1024] ![512, 512] inb_S512x4096_S512x512_0_1024, prodBlk s (View.ld w (Rect.unit ![1024, 0] ![512, 4096] inb_S4096x4096_S512x4096_1024_0)) q⟩,
      ⟨Rect.unit ![0, 512] ![512, 512] inb_S512x4096_S512x512_0_512, prodBlk s (View.ld w (Rect.unit ![512, 0] ![512, 4096] inb_S4096x4096_S512x4096_512_0)) q⟩,
      ⟨Rect.unit ![0, 0] ![512, 512] inb_S512x4096_S512x512_0_0, prodBlk s (View.ld w (Rect.unit ![0, 0] ![512, 4096] inb_S4096x4096_S512x4096_0_0)) q⟩]

theorem yBlk_apply (s : EReal) (q : Vec Ideal S512x4096 .fp8e5m2) (w : Vec Ideal S4096x4096 .fp8e4m3) (j : S512x4096.Idx) :
    yBlk s q w j = (∑ k : Fin 4096, q (ix2 (j 0) k) * w (ix2 (j 1) k)) * s := by
  unfold yBlk
  canon_tiles x h
  all_goals
    unfold prodBlk k2_pay44
    simp only [shapeCast_self]
    pointwise
    refine congrArg (· * s) (Finset.sum_congr rfl fun k _ => ?_)
    congr 1 <;> blk_ext []

/-- The codes of a block. -/
def qBlk (i : EReal) (v : Vec Ideal S512x4096 .f32) : Vec Ideal S512x4096 .fp8e5m2 :=
  truncf .fp8e5m2 (minimumf (F := Ideal) (broadcast S512x4096 (Scalar.ofBits .f32 0x47600000#32))
    (maximumf (broadcast S512x4096 (Scalar.ofBits .f32 0xC7600000#32)) (mulf (shapeCast S512x4096 v shapeCasts_S512x4096_S512x4096) (broadcast S512x4096 i)))) bitsLt_fp8e5m2_f32

theorem qBlk_apply (i : EReal) (v : Vec Ideal S512x4096 .f32) (j : S512x4096.Idx) :
    qBlk i v j = Fp8Scale.code 0xC7600000#32 0x47600000#32 (v j) i := by
  unfold qBlk Fp8Scale.code
  simp only [shapeCast_self]
  pointwise

/-- The greatest magnitudes of a block, folded to 8 rows. -/
def partBlk (v : Vec Ideal S512x4096 .f32) : Vec Ideal S8x4096 .f32 := k2_pay1 (F := Ideal) (k2_pay53 (k2_pay40 v))

theorem partBlk_apply (v : Vec Ideal S512x4096 .f32) (j : S8x4096.Idx) :
    partBlk v j = Fp8Scale.maxOf fun a : Fin 64 =>
      let i : S512x4096.Idx := ix2 ⟨a.val * 8 + (j 0).val, by have : (j 0).val < 8 := (j 0).isLt; have := a.isLt; omega⟩ (j 1)
      max (v i) (-v i) := by
  rw [← Fp8Scale.fold_eq_maxOf]
  unfold partBlk k2_pay1 k2_pay53 k2_pay40
  simp only [shapeCast_self]
  pointwise
  rfl

/-! ### What a grid point leaves -/

theorem caseABC (t : Fin cfg2.N) : (t.val % 16 = 0 ∧ ¬1 ≤ t.val ∧ ¬t.val % 16 = 15) ∨
    (¬t.val % 16 = 0 ∧ 1 ≤ t.val ∧ ¬t.val % 16 = 15) ∨ (¬t.val % 16 = 0 ∧ 1 ≤ t.val ∧ t.val % 16 = 15) := by
  have := lt16 t
  omega

theorem outY (c : Dev nD) (t : Fin cfg2.N) : (outsAt2 V c t.val t.isLt).1 =
    yBlk ((Fp8Scale.scaleK 0x37924925#32 (hmax (iblk2 V c 0 t))) * Fp8Scale.scaleK 0x3B124925#32 (hmax (iblk2 V c 1 t)))
      (qBlk (Fp8Scale.invK 0x37924925#32 (hmax (iblk2 V c 0 t))) (iblk2 V c 2 t)) (iblk2 V c 3 t) := by
  rcases caseABC t with ⟨h0, h1, h2⟩ | ⟨h0, h1, h2⟩ | ⟨h0, h1, h2⟩
  · rw [outsAt2_A V c t h0 h1 h2]
    frame_out
    rfl
  · rw [outsAt2_B V c t h0 h1 h2]
    frame_out
    rfl
  · rw [outsAt2_C V c t h0 h1 h2]
    frame_out
    rfl

theorem outQ (c : Dev nD) (t : Fin cfg2.N) : (outsAt2 V c t.val t.isLt).2.1 =
    qBlk (Fp8Scale.invK 0x37924925#32 (hmax (iblk2 V c 0 t))) (iblk2 V c 2 t) := by
  rcases caseABC t with ⟨h0, h1, h2⟩ | ⟨h0, h1, h2⟩ | ⟨h0, h1, h2⟩
  · rw [outsAt2_A V c t h0 h1 h2]
    frame_out
    rfl
  · rw [outsAt2_B V c t h0 h1 h2]
    frame_out
    rfl
  · rw [outsAt2_C V c t h0 h1 h2]
    frame_out
    rfl

theorem outS (c : Dev nD) (t : Fin cfg2.N) : (outsAt2 V c t.val t.isLt).2.2.1 = fun _ => (Fp8Scale.scaleK 0x37924925#32 (hmax (iblk2 V c 0 t))) := by
  rcases caseABC t with ⟨h0, h1, h2⟩ | ⟨h0, h1, h2⟩ | ⟨h0, h1, h2⟩
  · rw [outsAt2_A V c t h0 h1 h2]
    frame_out
    rfl
  · rw [outsAt2_B V c t h0 h1 h2]
    frame_out
    rfl
  · rw [outsAt2_C V c t h0 h1 h2]
    frame_out
    rfl

/-- The scratch after point `n`. -/
abbrev scr (c : Dev nD) (n : ℕ) (h : n < cfg2.N) : Vec Ideal S8x4096 .f32 := (outsAt2 V c n h).2.2.2.2

theorem scr_zero (c : Dev nD) (t : Fin cfg2.N) (h : t.val = 0) : scr V c t.val t.isLt = partBlk (iblk2 V c 2 t) := by
  unfold scr
  rw [outsAt2_A V c t (by omega) (by omega) (by omega)]
  frame_out
  unfold k2_pay2
  rw [shapeCast_self]
  rfl

theorem scr_succ (c : Dev nD) (t : Fin cfg2.N) (h : 1 ≤ t.val) : scr V c t.val t.isLt =
    fun j => max (scr V c (t.val - 1) (Nat.lt_of_le_of_lt (Nat.sub_le _ _) t.isLt) j) (partBlk (iblk2 V c 2 t) j) := by
  have := lt16 t
  unfold scr
  by_cases h2 : t.val % 16 = 15
  · rw [outsAt2_C V c t (by omega) h h2]
    frame_out
    simp only [read_unread_whole]
    funext j
    unfold k2_pay3
    rw [shapeCast_self]
    rfl
  · rw [outsAt2_B V c t (by omega) h h2]
    frame_out
    simp only [read_unread_whole]
    funext j
    unfold k2_pay3
    rw [shapeCast_self]
    rfl

/-- The maximum of the whole scratch. -/
def totBlk (v : Vec Ideal S8x4096 .f32) : EReal := k2_pay4 (F := Ideal) v

theorem totBlk_eq (v : Vec Ideal S8x4096 .f32) : totBlk v = Fp8Scale.maxOf fun i : Fin 8 × Fin 4096 => v (ix2 i.1 i.2) := by
  rw [← Fp8Scale.fold_eq_maxOf]
  unfold totBlk k2_pay4
  pointwise

theorem outH (c : Dev nD) (t : Fin cfg2.N) (h : t.val = 15) :
    (outsAt2 V c t.val t.isLt).2.2.2.1 = histBlk (iblk2 V c 0 t) (totBlk (scr V c t.val t.isLt)) := by
  unfold scr
  rw [outsAt2_C V c t (by omega) (by omega) (by omega)]
  frame_out
  rfl

end Cert.KernelIdeal.BwdDx
-- ==== Proof.Whole.BwdDxEnd.lean ====
/-
  The input-gradient call of the whole program at the ideal instance, after the run: the result arrays as functions of the
  arguments. The carried scratch after point `t` bounds the magnitudes of the first `t + 1` row blocks.
-/
module

public import proofs.«01_k».proof.Proof.Whole.BwdDx

@[expose] public section

set_option maxRecDepth 16384

noncomputable section

namespace Cert.KernelIdeal.BwdDx

open Cert.KernelIdeal Cert.KernelIdeal.Gen Idealize.ShloMosaic Idealize.ShloMosaic.TcCoe Idealize.SL.Sem
open Idealize.ShloMosaic.Pipeline (Dat)
open Cert.KernelIdeal.Hist

variable (V : (c : Dev nD) → (b : Ref sig .tc) → Buf (Elt Ideal) ((c : Thread nD τ).loc b))

/-! ### The carried maximum -/

theorem partBlk_rowBlk_le (v : Vec Ideal S8192x4096 .f32) (t : Fin cfg2.N) (j : S8x4096.Idx) (b : EReal) :
    partBlk (rowBlk v t) j ≤ b ↔ ∀ r : Fin 8192, r.val % 8 = (j 0).val → r.val / 512 = t.val →
      max (v (ix2 r (j 1))) (-v (ix2 r (j 1))) ≤ b := by
  have hj : (j 0).val < 8 := (j 0).isLt
  have ht := lt16 t
  rw [partBlk_apply, Fp8Scale.maxOf_le_iff]
  constructor
  · intro h r h1 h2
    have hr := r.isLt
    have h3 := h ⟨r.val % 512 / 8, by omega⟩
    have : (⟨t.val * 512 + (r.val % 512 / 8 * 8 + (j 0).val), by omega⟩ : Fin 8192) = r := Fin.ext (by dsimp only; omega)
    dsimp only [rowBlk, ix2] at h3
    rw [← this]
    exact h3
  · intro h a
    have ha := a.isLt
    exact h ⟨t.val * 512 + (a.val * 8 + (j 0).val), by omega⟩ (by dsimp only; omega) (by dsimp only; omega)

theorem scr_le (c : Dev nD) (j : S8x4096.Idx) (b : EReal) : ∀ (n : ℕ) (hn : n < cfg2.N), scr V c n hn j ≤ b ↔
    ∀ r : Fin 8192, r.val % 8 = (j 0).val → r.val / 512 ≤ n → max (DY V c (ix2 r (j 1))) (-DY V c (ix2 r (j 1))) ≤ b
  | 0, hn => by
    rw [scr_zero V c ⟨0, hn⟩ rfl, iblkV, partBlk_rowBlk_le]
    exact forall_congr' fun r => imp_congr_right fun _ => imp_congr_left (by dsimp only; omega)
  | n + 1, hn => by
    rw [scr_succ V c ⟨n + 1, hn⟩ (by dsimp only; omega), iblkV]
    dsimp only
    rw [max_le_iff, partBlk_rowBlk_le]
    simp only [Nat.add_sub_cancel]
    rw [scr_le c j b n (by omega)]
    constructor
    · rintro ⟨h1, h2⟩ r hr hn
      by_cases hc : r.val / 512 = n + 1
      · exact h2 r hr hc
      · exact h1 r hr (by omega)
    · intro h
      exact ⟨fun r hr hc => h r hr (by omega), fun r hr hc => h r hr (by omega)⟩

theorem tot_eq (c : Dev nD) (t : Fin cfg2.N) (h : t.val = 15) :
    totBlk (scr V c t.val t.isLt) = Fp8Scale.amax fun (r : Fin 8192) (k : Fin 4096) => DY V c (ix2 r k) := by
  refine Fp8Scale.eq_maxOf_of _ _ fun b => ?_
  rw [totBlk_eq, Fp8Scale.maxOf_le_iff]
  constructor
  · intro hb i
    have := i.1.isLt
    exact (scr_le V c (ix2 ⟨i.1.val % 8, by omega⟩ i.2) b t.val t.isLt).mp (hb (⟨i.1.val % 8, by omega⟩, i.2)) i.1 rfl (by omega)
  · intro hb i
    exact (scr_le V c (ix2 i.1 i.2) b t.val t.isLt).mpr fun r _ _ => hb (r, i.2)

/-! ### The result arrays -/

/-- The history of the quantised operand. -/
abbrev hdy (c : Dev nD) : Fin 16 → EReal := fun k => HDY V c (ix1 k)
/-- The history of `w`. -/
abbrev hw (c : Dev nD) : Fin 16 → EReal := fun k => HW V c (ix1 k)

theorem finalY (c : Dev nD) : (dat2 V c).arrAt 4 cfg2.N = fun j =>
    (∑ k : Fin 4096, Fp8Scale.code 0xC7600000#32 0x47600000#32 (DY V c (ix2 (j 0) k)) (Fp8Scale.inv 0x37924925#32 (hdy V c)) *
      WQ V c (ix2 (j 1) k)) * (Fp8Scale.scale 0x37924925#32 (hdy V c) * Fp8Scale.scale 0x3B124925#32 (hw V c)) := by
  refine (dat2 V c).arrAt_eq_of_covers 4 _ (by decide +kernel) fun t hf y => ?_
  blk_simp
  rw [after2_4, outY, yBlk_apply, iblkH, iblkHW, iblkV, iblkW]
  simp only [hmax_eq, Fp8Scale.scaleK_maxOf, Fp8Scale.invK_maxOf, qBlk_apply]
  refine congrArg₂ (· * ·) (Finset.sum_congr rfl fun k _ => congrArg₂ (· * ·) (congrArg (Fp8Scale.code _ _ · _) ?_) ?_) rfl
  · unfold rowBlk; blk_ext [idx t]
  · blk_ext [idx t]

theorem finalQ (c : Dev nD) : (dat2 V c).arrAt 5 cfg2.N = fun j =>
    Fp8Scale.code 0xC7600000#32 0x47600000#32 (DY V c j) (Fp8Scale.inv 0x37924925#32 (hdy V c)) := by
  refine (dat2 V c).arrAt_eq_of_covers 5 _ (by decide +kernel) fun t hf y => ?_
  blk_simp
  rw [after2_5, outQ, qBlk_apply, iblkH, iblkV]
  simp only [hmax_eq, Fp8Scale.invK_maxOf]
  refine congrArg (Fp8Scale.code _ _ · _) ?_
  unfold rowBlk; blk_ext [idx t]

theorem finalS (c : Dev nD) : (dat2 V c).arrAt 6 cfg2.N = fun _ => Fp8Scale.scale 0x37924925#32 (hdy V c) := by
  refine (dat2 V c).arrAt_eq_of_after_last 6 t2_15 (by decide +kernel) _ fun j => ?_
  blk_simp
  rw [after2_6, outS, iblkH, hmax_eq, Fp8Scale.scaleK_maxOf]

theorem finalH (c : Dev nD) : (dat2 V c).arrAt 7 cfg2.N = fun j =>
    Fp8Scale.push (hdy V c) (Fp8Scale.amax fun (r : Fin 8192) (k : Fin 4096) => DY V c (ix2 r k)) (j 0) := by
  refine (dat2 V c).arrAt_eq_of_after_last 7 t2_15 (by decide +kernel) _ fun j => ?_
  blk_simp
  rw [after2_7, outH V c t2_15 rfl, tot_eq V c t2_15 rfl, iblkH, histBlk_apply]

end Cert.KernelIdeal.BwdDx
-- ==== Proof.Whole.Dw.lean ====
/-
  The weight-gradient call of the whole program at the ideal instance: what each grid point leaves in the output window, and
  the result array after the run as a function of the arguments.
-/
module

public import proofs.«01_k».proof.Proof.Whole.Region3
public import proofs.«01_k».proof.Proof.Whole.Hist
public import Idealize.ShloMosaic.Lib.Pipeline.ValueKit
public import Idealize.ShloMosaic.Lib.Pipeline.ReadBack

@[expose] public section

set_option maxRecDepth 16384

noncomputable section

namespace Cert.KernelIdeal.Dw

open Cert.KernelIdeal Cert.KernelIdeal.Gen Idealize.ShloMosaic Idealize.ShloMosaic.TcCoe Idealize.SL.Sem
open Idealize.ShloMosaic.Pipeline (Dat)
open Cert.KernelIdeal.Hist

variable (V : (c : Dev nD) → (b : Ref sig .tc) → Buf (Elt Ideal) ((c : Thread nD τ).loc b))

abbrev XQ (c : Dev nD) : Vec Ideal S8192x4096 .fp8e4m3 := V c main_v3_1
abbrev DYQ (c : Dev nD) : Vec Ideal S8192x4096 .fp8e5m2 := V c main_v4_1
abbrev HX (c : Dev nD) : Vec Ideal S16 .f32 := V c main_arg3
abbrev HDY (c : Dev nD) : Vec Ideal S16 .f32 := V c main_arg5
/-- The history of `x`. -/
abbrev hx (c : Dev nD) : Fin 16 → EReal := fun k => HX V c (ix1 k)
/-- The history of `dy`. -/
abbrev hdy (c : Dev nD) : Fin 16 → EReal := fun k => HDY V c (ix1 k)

/-! ### The blocks a grid point reads -/

theorem idx (t : Fin cfg3.N) : win3_0.index t = ![0] ∧ win3_1.index t = ![0] ∧ win3_2.index t = ![0, t.val % 8] ∧
    win3_3.index t = ![0, t.val / 8] ∧ win3_4.index t = ![t.val % 8, t.val / 8] := by
  revert t; decide +kernel

theorem lt16 (t : Fin cfg3.N) : t.val < 16 := lt_of_lt_of_eq t.isLt (N_3 : cfg3.N = 16)

theorem iblkHX (c : Dev nD) (t : Fin cfg3.N) : iblk3 V c 0 t = HX V c := by funext j; blk_ext [iblk3, idx t]
theorem iblkHDY (c : Dev nD) (t : Fin cfg3.N) : iblk3 V c 1 t = HDY V c := by funext j; blk_ext [iblk3, idx t]

/-- Column block `t % 8` of the codes of `x`. -/
def xBlk (v : Vec Ideal S8192x4096 .fp8e4m3) (t : Fin cfg3.N) : Vec Ideal S8192x512 .fp8e4m3 := fun j =>
  v (ix2 (j 0) ⟨t.val % 8 * 512 + (j 1).val, by have : (j 1).val < 512 := (j 1).isLt; omega⟩)

/-- Column block `t / 8` of the codes of `dy`. -/
def dyBlk (v : Vec Ideal S8192x4096 .fp8e5m2) (t : Fin cfg3.N) : Vec Ideal S8192x2048 .fp8e5m2 := fun j =>
  v (ix2 (j 0) ⟨t.val / 8 * 2048 + (j 1).val, by have := lt16 t; have : (j 1).val < 2048 := (j 1).isLt; omega⟩)

theorem iblkX (c : Dev nD) (t : Fin cfg3.N) : iblk3 V c 2 t = xBlk (XQ V c) t := by
  funext j; unfold xBlk; blk_ext [iblk3, idx t]

theorem iblkDY (c : Dev nD) (t : Fin cfg3.N) : iblk3 V c 3 t = dyBlk (DYQ V c) t := by
  funext j; unfold dyBlk; blk_ext [iblk3, idx t]

/-! ### The body's values -/

/-- The block of the product, scaled. -/
def dwBlk (s : EReal) (x : Vec Ideal S8192x512 .fp8e4m3) (dy : Vec Ideal S8192x2048 .fp8e5m2) : Vec Ideal S512x2048 .f32 :=
  mulf (matmul (F := Ideal) (φ₁ := .fp8e4m3) (φ₂ := .fp8e5m2) dot_S8192x512_S8192x2048_S512x2048_0_0_1_1_n_n none (shapeCast S8192x512 x shapeCasts_S8192x512_S8192x512)
    (shapeCast S8192x2048 dy shapeCasts_S8192x2048_S8192x2048)
    (constant S512x2048 .f32 0x00000000#32)) (broadcast S512x2048 s)

theorem dwBlk_apply (s : EReal) (x : Vec Ideal S8192x512 .fp8e4m3) (dy : Vec Ideal S8192x2048 .fp8e5m2) (j : S512x2048.Idx) :
    dwBlk s x dy j = (∑ k : Fin 8192, x (ix2 k (j 0)) * dy (ix2 k (j 1))) * s := by
  unfold dwBlk
  simp only [shapeCast_self]
  pointwise

theorem outDW (c : Dev nD) (t : Fin cfg3.N) : outsAt3 V c t =
    dwBlk (Fp8Scale.scaleK 0x3B124925#32 (hmax (iblk3 V c 0 t)) * Fp8Scale.scaleK 0x37924925#32 (hmax (iblk3 V c 1 t))) (iblk3 V c 2 t) (iblk3 V c 3 t) := by
  unfold outsAt3
  frame_out
  rfl

/-! ### The result array -/

theorem finalDW (c : Dev nD) : (dat3 V c).arrAt 4 cfg3.N = fun j =>
    (∑ k : Fin 8192, XQ V c (ix2 k (j 0)) * DYQ V c (ix2 k (j 1))) * (Fp8Scale.scale 0x3B124925#32 (hx V c) * Fp8Scale.scale 0x37924925#32 (hdy V c)) := by
  refine (dat3 V c).arrAt_eq_of_covers 4 _ (by decide +kernel) fun t hf y => ?_
  blk_simp
  rw [after3_4, outDW, dwBlk_apply, iblkHX, iblkHDY, iblkX, iblkDY]
  simp only [hmax_eq, Fp8Scale.scaleK_maxOf]
  refine congrArg₂ (· * ·) (Finset.sum_congr rfl fun k _ => congrArg₂ (· * ·) ?_ ?_) rfl
  · unfold xBlk; blk_ext [idx t]
  · unfold dyBlk; blk_ext [idx t]

end Cert.KernelIdeal.Dw
-- ==== Proof.Whole.Value.lean ====
/- `KernelIdeal`: the results of the run at the ideal instance, as functions of the arguments. -/
module

public import proofs.«01_k».proof.Proof.Whole.Run
public import proofs.«01_k».proof.Proof.Whole.QuantWEnd
public import proofs.«01_k».proof.Proof.Whole.FwdEnd
public import proofs.«01_k».proof.Proof.Whole.BwdDxEnd
public import proofs.«01_k».proof.Proof.Whole.Dw
public import Idealize.ShloMosaic.Lib.Claim

@[expose] public section

set_option maxRecDepth 16384

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The rows of `x`. -/
def X (c : Dev nD) : Vec Ideal S8192x4096 .f32 := shapeCast S8192x4096 (m ((c : Thread nD τ).loc main_arg0)) shapeCasts_S4x2048x4096_S8192x4096
/-- The rows of `dy`. -/
def DY (c : Dev nD) : Vec Ideal S8192x4096 .f32 := shapeCast S8192x4096 (m ((c : Thread nD τ).loc main_arg2)) shapeCasts_S4x2048x4096_S8192x4096
abbrev W (c : Dev nD) : Vec Ideal S4096x4096 .f32 := m ((c : Thread nD τ).loc main_arg1)
/-- The history of `x`. -/
abbrev hx (c : Dev nD) : Fin 16 → EReal := fun k => (m ((c : Thread nD τ).loc main_arg3) : Vec Ideal S16 .f32) (ix1 k)
/-- The history of `w`. -/
abbrev hw (c : Dev nD) : Fin 16 → EReal := fun k => (m ((c : Thread nD τ).loc main_arg4) : Vec Ideal S16 .f32) (ix1 k)
/-- The history of `dy`. -/
abbrev hdy (c : Dev nD) : Fin 16 → EReal := fun k => (m ((c : Thread nD τ).loc main_arg5) : Vec Ideal S16 .f32) (ix1 k)

/-- The codes of `x`. -/
abbrev qx (c : Dev nD) : Vec Ideal S8192x4096 .fp8e4m3 := fun j =>
  Fp8Scale.code 0xC3E00000#32 0x43E00000#32 (X m c j) (Fp8Scale.inv 0x3B124925#32 (hx m c))
/-- The codes of `w`. -/
abbrev qw (c : Dev nD) : Vec Ideal S4096x4096 .fp8e4m3 := fun j =>
  Fp8Scale.code 0xC3E00000#32 0x43E00000#32 (W m c j) (Fp8Scale.inv 0x3B124925#32 (hw m c))
/-- The codes of `dy`. -/
abbrev qdy (c : Dev nD) : Vec Ideal S8192x4096 .fp8e5m2 := fun j =>
  Fp8Scale.code 0xC7600000#32 0x47600000#32 (DY m c j) (Fp8Scale.inv 0x37924925#32 (hdy m c))

/-! ### What each call reads -/

theorem V1_x (c : Dev nD) : V1 m ρ c main_v0 = X m c := by
  show StableHlo.after hostOps0 (W0 m ρ c) (Proc.devRef .tc main_v0) = X m c
  after_results
  rfl
theorem V1_dy (c : Dev nD) : V1 m ρ c main_v1 = DY m c := by
  show StableHlo.after hostOps0 (W0 m ρ c) (Proc.devRef .tc main_v1) = DY m c
  after_results
  rfl
theorem V1_w (c : Dev nD) : QuantW.W (V1 m ρ) c = W m c := W1_args m ρ c main_arg1 (by decide)
theorem V1_hw (c : Dev nD) : QuantW.hw (V1 m ρ) c = hw m c := funext fun k => congrFun (W1_args m ρ c main_arg4 (by decide)) (ix1 k)

theorem V2_x (c : Dev nD) : Fwd.X (V2 m ρ) c = X m c := (W2_of m ρ c main_v0 (by decide +kernel)).trans (V1_x m ρ c)
theorem V2_hx (c : Dev nD) : Fwd.hx (V2 m ρ) c = hx m c := funext fun k => congrFun (W2_args m ρ c main_arg3 (by decide)) (ix1 k)
theorem V2_hw (c : Dev nD) : Fwd.hw (V2 m ρ) c = hw m c := funext fun k => congrFun (W2_args m ρ c main_arg4 (by decide)) (ix1 k)
theorem V2_qw (c : Dev nD) : Fwd.WQ (V2 m ρ) c = qw m c := by
  refine (W2_arr m ρ c 2).trans ((QuantW.finalQ (V1 m ρ) c).trans ?_)
  rw [V1_w, V1_hw]

theorem V3_dy (c : Dev nD) : BwdDx.DY (V3 m ρ) c = DY m c :=
  (W3_of m ρ c main_v1 (by decide +kernel)).trans ((W2_of m ρ c main_v1 (by decide +kernel)).trans (V1_dy m ρ c))
theorem V3_hdy (c : Dev nD) : BwdDx.hdy (V3 m ρ) c = hdy m c := funext fun k => congrFun (W3_args m ρ c main_arg5 (by decide)) (ix1 k)
theorem V3_hw (c : Dev nD) : BwdDx.hw (V3 m ρ) c = hw m c := funext fun k => congrFun (W3_args m ρ c main_arg4 (by decide)) (ix1 k)
theorem V3_qw (c : Dev nD) : BwdDx.WQ (V3 m ρ) c = qw m c := (W3_of m ρ c main_v2_0 (by decide +kernel)).trans (V2_qw m ρ c)

theorem V3_qx (c : Dev nD) : V3 m ρ c main_v3_1 = qx m c := by
  refine (W3_arr m ρ c 5).trans ((Fwd.finalQ (V2 m ρ) c).trans ?_)
  rw [V2_x, V2_hx]
theorem V4_qx (c : Dev nD) : Dw.XQ (V4 m ρ) c = qx m c := (W4_of m ρ c main_v3_1 (by decide +kernel)).trans (V3_qx m ρ c)
theorem V4_qdy (c : Dev nD) : Dw.DYQ (V4 m ρ) c = qdy m c := by
  refine (W4_arr m ρ c 5).trans ((BwdDx.finalQ (V3 m ρ) c).trans ?_)
  rw [V3_dy, V3_hdy]
theorem V4_hx (c : Dev nD) : Dw.hx (V4 m ρ) c = hx m c := funext fun k => congrFun (W4_args m ρ c main_arg3 (by decide)) (ix1 k)
theorem V4_hdy (c : Dev nD) : Dw.hdy (V4 m ρ) c = hdy m c := funext fun k => congrFun (W4_args m ρ c main_arg5 (by decide)) (ix1 k)

/-! ### The results -/

/-- A buffer that no call after the first writes. -/
theorem of2 (c : Dev nD) (r : Ref sig .tc) (h1 : ∀ w : Fin cfg1.W, Pipeline.arrRef spec1 w = r → (cfg1.win w).isOut = false)
    (h2 : ∀ w : Fin cfg2.W, Pipeline.arrRef spec2 w = r → (cfg2.win w).isOut = false)
    (h3 : ∀ w : Fin cfg3.W, Pipeline.arrRef spec3 w = r → (cfg3.win w).isOut = false) :
    W5 m ρ c (Proc.devRef .tc r) = W2 m ρ c (Proc.devRef .tc r) :=
  (W5_of m ρ c r h3).trans ((W4_of m ρ c r h2).trans (W3_of m ρ c r h1))

/-- A buffer that no call after the second writes. -/
theorem of3 (c : Dev nD) (r : Ref sig .tc) (h2 : ∀ w : Fin cfg2.W, Pipeline.arrRef spec2 w = r → (cfg2.win w).isOut = false)
    (h3 : ∀ w : Fin cfg3.W, Pipeline.arrRef spec3 w = r → (cfg3.win w).isOut = false) :
    W5 m ρ c (Proc.devRef .tc r) = W3 m ρ c (Proc.devRef .tc r) :=
  (W5_of m ρ c r h3).trans (W4_of m ρ c r h2)

theorem finalY (c : Dev nD) : W5 m ρ c (Proc.devRef .tc main_v3_0) = fun j => (∑ k : Fin 4096, qx m c (ix2 (j 0) k) * qw m c (ix2 k (j 1))) * (Fp8Scale.scale 0x3B124925#32 (hx m c) * Fp8Scale.scale 0x3B124925#32 (hw m c)) := by
  refine (of3 m ρ c main_v3_0 (by decide +kernel) (by decide +kernel)).trans ((W3_arr m ρ c 4).trans ((Fwd.finalY (V2 m ρ) c).trans ?_))
  rw [V2_x, V2_qw, V2_hx, V2_hw]

theorem finalDX (c : Dev nD) : W5 m ρ c (Proc.devRef .tc main_v4_0) = fun j => (∑ k : Fin 4096, qdy m c (ix2 (j 0) k) * qw m c (ix2 (j 1) k)) * (Fp8Scale.scale 0x37924925#32 (hdy m c) * Fp8Scale.scale 0x3B124925#32 (hw m c)) := by
  refine (W5_of m ρ c main_v4_0 (by decide +kernel)).trans ((W4_arr m ρ c 4).trans ((BwdDx.finalY (V3 m ρ) c).trans ?_))
  rw [V3_dy, V3_qw, V3_hdy, V3_hw]

theorem finalDW (c : Dev nD) : W5 m ρ c (Proc.devRef .tc main_v5) = fun j => (∑ k : Fin 8192, qx m c (ix2 k (j 0)) * qdy m c (ix2 k (j 1))) * (Fp8Scale.scale 0x3B124925#32 (hx m c) * Fp8Scale.scale 0x37924925#32 (hdy m c)) := by
  refine (W5_arr m ρ c 4).trans ((Dw.finalDW (V4 m ρ) c).trans ?_)
  rw [V4_qx, V4_qdy, V4_hx, V4_hdy]

theorem finalHX (c : Dev nD) : W5 m ρ c (Proc.devRef .tc main_v3_3) = fun j => Fp8Scale.push (hx m c) (Fp8Scale.amax fun (r : Fin 8192) (k : Fin 4096) => X m c (ix2 r k)) (j 0) := by
  refine (of3 m ρ c main_v3_3 (by decide +kernel) (by decide +kernel)).trans ((W3_arr m ρ c 7).trans ((Fwd.finalH (V2 m ρ) c).trans ?_))
  rw [V2_x, V2_hx]

theorem finalHW (c : Dev nD) : W5 m ρ c (Proc.devRef .tc main_v2_2) = fun j => Fp8Scale.push (hw m c) (Fp8Scale.amax fun (r : Fin 4096) (k : Fin 4096) => W m c (ix2 r k)) (j 0) := by
  refine (of2 m ρ c main_v2_2 (by decide +kernel) (by decide +kernel) (by decide +kernel)).trans ((W2_arr m ρ c 4).trans ((QuantW.finalH (V1 m ρ) c).trans ?_))
  rw [V1_w, V1_hw]

theorem finalHDY (c : Dev nD) : W5 m ρ c (Proc.devRef .tc main_v4_3) = fun j => Fp8Scale.push (hdy m c) (Fp8Scale.amax fun (r : Fin 8192) (k : Fin 4096) => DY m c (ix2 r k)) (j 0) := by
  refine (W5_of m ρ c main_v4_3 (by decide +kernel)).trans ((W4_arr m ρ c 7).trans ((BwdDx.finalH (V3 m ρ) c).trans ?_))
  rw [V3_dy, V3_hdy]

theorem finalQX (c : Dev nD) : W5 m ρ c (Proc.devRef .tc main_v3_1) = qx m c :=
  (of3 m ρ c main_v3_1 (by decide +kernel) (by decide +kernel)).trans (V3_qx m ρ c)

theorem finalSX (c : Dev nD) : W5 m ρ c (Proc.devRef .tc main_v3_2) = fun _ => Fp8Scale.scale 0x3B124925#32 (hx m c) := by
  refine (of3 m ρ c main_v3_2 (by decide +kernel) (by decide +kernel)).trans ((W3_arr m ρ c 6).trans ((Fwd.finalS (V2 m ρ) c).trans ?_))
  rw [V2_hx]

theorem finalQW (c : Dev nD) : W5 m ρ c (Proc.devRef .tc main_v2_0) = qw m c :=
  (of2 m ρ c main_v2_0 (by decide +kernel) (by decide +kernel) (by decide +kernel)).trans (V2_qw m ρ c)

theorem finalSW (c : Dev nD) : W5 m ρ c (Proc.devRef .tc main_v2_1) = fun _ => Fp8Scale.scale 0x3B124925#32 (hw m c) := by
  refine (of2 m ρ c main_v2_1 (by decide +kernel) (by decide +kernel) (by decide +kernel)).trans ((W2_arr m ρ c 3).trans ((QuantW.finalS (V1 m ρ) c).trans ?_))
  rw [V1_hw]

theorem finalQDY (c : Dev nD) : W5 m ρ c (Proc.devRef .tc main_v4_1) = qdy m c :=
  (W5_of m ρ c main_v4_1 (by decide +kernel)).trans (V4_qdy m ρ c)

theorem finalSDY (c : Dev nD) : W5 m ρ c (Proc.devRef .tc main_v4_2) = fun _ => Fp8Scale.scale 0x37924925#32 (hdy m c) := by
  refine (W5_of m ρ c main_v4_2 (by decide +kernel)).trans ((W4_arr m ρ c 6).trans ((BwdDx.finalS (V3 m ρ) c).trans ?_))
  rw [V3_hdy]

end Cert.KernelIdeal.Whole
-- ==== Proof.Whole.Printed.lean ====
/- `Kernel` and `KernelIdeal` are printed alike, so a run of the one at the machine's words is a run of the other. -/
module

public import proofs.«01_k».proof.Defs
public import proofs.«01_k».proof.Proof.Gen.Kernel
public import proofs.«01_k».proof.Proof.Whole.Run
public import Idealize.ShloMosaic.Lib.Pipeline.Regions

@[expose] public section

noncomputable section

namespace Cert.Proof

open Idealize.ShloMosaic Idealize.SL.Sem

attribute [local instance] Cert.KernelIdeal.Gen.facts Cert.Kernel.Gen.facts

theorem printed_same : @Cert.quiescent_Kernel Cert.Kernel.Gen.facts =
    (∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)) := by
  chain_rfl

/-- The frame of the kernel as compiled. -/
theorem frame_Kernel : @Cert.quiescent_Kernel Cert.Kernel.Gen.facts := by
  rw [printed_same]
  exact fun m ρ _ => Cert.KernelIdeal.Gen.frame m ρ

end Cert.Proof
-- ==== Proof.RefWhole.lean ====
/-
  The whole step's reference at the ideal instance: its result arrays as functions of the arguments.
-/
module

public import proofs.«01_k».proof.Proof.Gen.ReferenceIdeal.Frame
public import proofs.«01_k».proof.Proof.Quant
public import Idealize.ShloMosaic.Lib.Pipeline.ValueKit
public import Idealize.ShloMosaic.Lib.Pipeline.ReadBack

@[expose] public section

set_option maxRecDepth 16384

noncomputable section

namespace Cert.ReferenceIdeal.Whole

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

/-- The rows of `x`. -/
def X (c : Dev nD) : Vec Ideal S8192x4096 .f32 := shapeCast S8192x4096 (m ((c : Thread nD τ).loc main_arg0)) shapeCasts_S4x2048x4096_S8192x4096

/-- The rows of `dy`. -/
def DY (c : Dev nD) : Vec Ideal S8192x4096 .f32 := shapeCast S8192x4096 (m ((c : Thread nD τ).loc main_arg2)) shapeCasts_S4x2048x4096_S8192x4096

abbrev W (c : Dev nD) : Vec Ideal S4096x4096 .f32 := m ((c : Thread nD τ).loc main_arg1)
abbrev HX (c : Dev nD) : Vec Ideal S16 .f32 := m ((c : Thread nD τ).loc main_arg3)
abbrev HW (c : Dev nD) : Vec Ideal S16 .f32 := m ((c : Thread nD τ).loc main_arg4)
abbrev HDY (c : Dev nD) : Vec Ideal S16 .f32 := m ((c : Thread nD τ).loc main_arg5)
/-- The history of `x`. -/
abbrev hx (c : Dev nD) : Fin 16 → EReal := fun k => HX m c (ix1 k)
/-- The history of `w`. -/
abbrev hw (c : Dev nD) : Fin 16 → EReal := fun k => HW m c (ix1 k)
/-- The history of `dy`. -/
abbrev hdy (c : Dev nD) : Fin 16 → EReal := fun k => HDY m c (ix1 k)

theorem V_x (c : Dev nD) : V m c main_v0 = X m c := by
  entry_read
  rfl

theorem V_dy (c : Dev nD) : V m c main_v1 = DY m c := by
  entry_read
  rfl

theorem idx (t : Fin cfg0.N) : win0_0.index t = ![0, 0] ∧ win0_1.index t = ![0, 0] ∧ win0_2.index t = ![0, 0] ∧ win0_3.index t = ![0] ∧
    win0_4.index t = ![0] ∧ win0_5.index t = ![0] := by
  revert t; decide +kernel

theorem iblkX (c : Dev nD) : iblk m c 0 t0_0 = X m c := by rw [← V_x]; funext j; blk_ext [iblk, idx t0_0]
theorem iblkW (c : Dev nD) : iblk m c 1 t0_0 = W m c := by funext j; blk_ext [iblk, V, idx t0_0]
theorem iblkDY (c : Dev nD) : iblk m c 2 t0_0 = DY m c := by rw [← V_dy]; funext j; blk_ext [iblk, idx t0_0]
theorem iblkHX (c : Dev nD) : iblk m c 3 t0_0 = HX m c := by funext j; blk_ext [iblk, V, idx t0_0]
theorem iblkHW (c : Dev nD) : iblk m c 4 t0_0 = HW m c := by funext j; blk_ext [iblk, V, idx t0_0]
theorem iblkHDY (c : Dev nD) : iblk m c 5 t0_0 = HDY m c := by funext j; blk_ext [iblk, V, idx t0_0]

/-! ### The printed operations -/

/-- The exponent of a history, as the reference writes it, for the reciprocal `c` of the largest code. -/
def expH (c : BitVec 32) (h : Vec Ideal S16 .f32) : EReal :=
  Fp8Scale.expR c (Fp8Scale.histMaxV shapeCasts_S16_S1x16 reduces_S1x16_S1 shapeCasts_S1_S1x1 inpos_S1x1_p0_0 h)
    (Fp8Scale.expV iota_S2x127_d0_w32 iota_S2x127_d1_w32 shapeCasts_S2x127_S1x2x127 reduces_S1x2x127_S1 shapeCasts_S1_S1x1x1 inpos_S1x1x1_p0_0_0)

theorem expH_eq (c : BitVec 32) (h : Vec Ideal S16 .f32) :
    expH c h = Fp8Scale.expR c (Fp8Scale.maxOf fun k : Fin 16 => h (ix1 k)) Fp8Scale.expOf := by
  unfold expH
  rw [Fp8Scale.histMaxV_eq, (funext (Fp8Scale.expV_eq iota_S2x127_d0_w32 iota_S2x127_d1_w32 shapeCasts_S2x127_S1x2x127 reduces_S1x2x127_S1
    shapeCasts_S1_S1x1x1 inpos_S1x1x1_p0_0_0) : _ = Fp8Scale.expOf)]

/-- The reference's choice of the exponent `0` of a history of zeros, for `dy`. -/
abbrev bitDY (h : Vec Ideal S16 .f32) : BitVec 1 := Scalar.cmpf CmpFPredicate.oeq (k0_pay13 (F := Ideal) h) (FloatOps.ofBits (F := Ideal) FTy.f32 0#32)
abbrev zero : Ideal .f32 := FloatOps.ofBits (F := Ideal) FTy.f32 0#32

theorem expX (h : Vec Ideal S16 .f32) : k0_pay4 (F := Ideal) h = expH 0x3B124925#32 h := rfl
theorem expW (h : Vec Ideal S16 .f32) : k0_pay8 (F := Ideal) h = expH 0x3B124925#32 h := rfl
theorem expDY (h : Vec Ideal S16 .f32) : k0_pay15 (F := Ideal) (k0_pay14 h) (bitDY h) zero = expH 0x37924925#32 h := rfl

theorem scaleX (h : Vec Ideal S16 .f32) : k0_pay5 (F := Ideal) h = Fp8Scale.scale 0x3B124925#32 fun k : Fin 16 => h (ix1 k) := by
  unfold k0_pay5 Fp8Scale.scale
  rw [expX, expH_eq]
  rfl

theorem scaleW (h : Vec Ideal S16 .f32) : k0_pay9 (F := Ideal) h = Fp8Scale.scale 0x3B124925#32 fun k : Fin 16 => h (ix1 k) := by
  unfold k0_pay9 Fp8Scale.scale
  rw [expW, expH_eq]
  rfl

theorem scaleDY (h : Vec Ideal S16 .f32) :
    k0_pay16 (F := Ideal) (k0_pay14 h) (bitDY h) zero = Fp8Scale.scale 0x37924925#32 fun k : Fin 16 => h (ix1 k) := by
  unfold k0_pay16 Fp8Scale.scale
  rw [expDY, expH_eq]
  rfl

theorem codeX (v : Vec Ideal S8192x4096 .f32) (h : Vec Ideal S16 .f32) (j : S8192x4096.Idx) : k0_pay7 (F := Ideal) (k0_pay2 v) (k0_pay6 h) j =
    Fp8Scale.code 0xC3E00000#32 0x43E00000#32 (v j) (Fp8Scale.inv 0x3B124925#32 fun k : Fin 16 => h (ix1 k)) := by
  unfold k0_pay7 k0_pay6 k0_pay2 Fp8Scale.code Fp8Scale.inv
  rw [expX, expH_eq, shapeCast_self]
  rfl

theorem codeW (v : Vec Ideal S4096x4096 .f32) (h : Vec Ideal S16 .f32) (j : S4096x4096.Idx) : k0_pay11 (F := Ideal) (k0_pay10 v h) j =
    Fp8Scale.code 0xC3E00000#32 0x43E00000#32 (v j) (Fp8Scale.inv 0x3B124925#32 fun k : Fin 16 => h (ix1 k)) := by
  unfold k0_pay11 k0_pay10 Fp8Scale.code Fp8Scale.inv
  rw [expW, expH_eq]
  rfl

theorem codeDY (v : Vec Ideal S8192x4096 .f32) (h : Vec Ideal S16 .f32) (j : S8192x4096.Idx) :
    k0_pay17 (F := Ideal) (k0_pay3 v) (k0_pay14 h) (bitDY h) zero j =
    Fp8Scale.code 0xC7600000#32 0x47600000#32 (v j) (Fp8Scale.inv 0x37924925#32 fun k : Fin 16 => h (ix1 k)) := by
  unfold k0_pay17 k0_pay3 Fp8Scale.code Fp8Scale.inv
  rw [expDY, expH_eq, shapeCast_self]
  rfl

theorem prodY (s t : EReal) (q : Vec Ideal S8192x4096 .fp8e4m3) (w : Vec Ideal S4096x4096 .fp8e4m3) (j : S8192x4096.Idx) :
    (matmul (F := Ideal) (φ₁ := .fp8e4m3) (φ₂ := .fp8e4m3) dot_S8192x4096_S4096x4096_S8192x4096_1_0_0_1_n_n none q w
      (broadcast S8192x4096 (Scalar.ofBits .f32 0x00000000#32)) j : EReal) * (s * t) =
      (∑ k : Fin 4096, q (ix2 (j 0) k) * w (ix2 k (j 1))) * (s * t) := by
  pointwise

theorem prodDX (s t : EReal) (q : Vec Ideal S8192x4096 .fp8e5m2) (w : Vec Ideal S4096x4096 .fp8e4m3) (j : S8192x4096.Idx) :
    (matmul (F := Ideal) (φ₁ := .fp8e5m2) (φ₂ := .fp8e4m3) dot_S8192x4096_S4096x4096_S8192x4096_1_1_0_0_n_n none q w
      (broadcast S8192x4096 (Scalar.ofBits .f32 0x00000000#32)) j : EReal) * (s * t) =
      (∑ k : Fin 4096, q (ix2 (j 0) k) * w (ix2 (j 1) k)) * (s * t) := by
  pointwise

theorem prodDW (s t : EReal) (q : Vec Ideal S8192x4096 .fp8e4m3) (d : Vec Ideal S8192x4096 .fp8e5m2) (j : S4096x4096.Idx) :
    (matmul (F := Ideal) (φ₁ := .fp8e4m3) (φ₂ := .fp8e5m2) dot_S8192x4096_S8192x4096_S4096x4096_0_0_1_1_n_n none q d
      (broadcast S4096x4096 (Scalar.ofBits .f32 0x00000000#32)) j : EReal) * (s * t) =
      (∑ k : Fin 8192, q (ix2 k (j 0)) * d (ix2 k (j 1))) * (s * t) := by
  pointwise

theorem y_eq (s t : EReal) (q : Vec Ideal S8192x4096 .fp8e4m3) (w : Vec Ideal S4096x4096 .f32) (j : S8192x4096.Idx) :
    k0_pay12 (F := Ideal) s q t w j = (∑ k : Fin 4096, q (ix2 (j 0) k) * k0_pay11 (F := Ideal) w (ix2 k (j 1))) * (s * t) :=
  Eq.trans rfl (prodY s t q (k0_pay11 (F := Ideal) w) j)

theorem dx_eq (d : Vec Ideal S8192x4096 .f32) (t : EReal) (w : Vec Ideal S4096x4096 .fp8e4m3) (e : EReal) (b : BitVec 1) (z : EReal) (j : S8192x4096.Idx) :
    k0_pay18 (F := Ideal) d t w e b z j = (∑ k : Fin 4096, k0_pay17 (F := Ideal) d e b z (ix2 (j 0) k) * w (ix2 (j 1) k)) *
      (k0_pay16 (F := Ideal) e b z * t) :=
  Eq.trans rfl (prodDX (k0_pay16 (F := Ideal) e b z) t (k0_pay17 (F := Ideal) d e b z) w j)

theorem dw_eq (d : Vec Ideal S8192x4096 .f32) (s : EReal) (q : Vec Ideal S8192x4096 .fp8e4m3) (e : EReal) (b : BitVec 1) (z : EReal) (j : S4096x4096.Idx) :
    k0_pay19 (F := Ideal) d s q e b z j = (∑ k : Fin 8192, q (ix2 k (j 0)) * k0_pay17 (F := Ideal) d e b z (ix2 k (j 1))) *
      (s * k0_pay16 (F := Ideal) e b z) :=
  Eq.trans rfl (prodDW s (k0_pay16 (F := Ideal) e b z) q (k0_pay17 (F := Ideal) d e b z) j)

/-- The greatest magnitude of `x` or `dy`, as the reference writes it. -/
def amaxV (x : Vec Ideal S8192x4096 .f32) : EReal :=
  extractAt ![0, 0, 0] (shapeCast S1x1x1 (multiReduction (F := Ideal) (φ := .f32) .maximumf [1, 2] S1
    (shapeCast S1x8192x4096 (absf x) shapeCasts_S8192x4096_S1x8192x4096) 0xFF800000#32 reduces_S1x8192x4096_S1 (.inl rfl) rfl)
    shapeCasts_S1_S1x1x1) inpos_S1x1x1_p0_0_0

theorem amaxV_eq (x : Vec Ideal S8192x4096 .f32) : amaxV x = Fp8Scale.amax fun (r : Fin 8192) (k : Fin 4096) => x (ix2 r k) := by
  unfold Fp8Scale.amax
  rw [← Fp8Scale.fold_eq_maxOf]
  unfold amaxV
  pointwise
  rfl

/-- The greatest magnitude of `w`, as the reference writes it. -/
def amaxW (x : Vec Ideal S4096x4096 .f32) : EReal :=
  extractAt ![0, 0, 0] (shapeCast S1x1x1 (multiReduction (F := Ideal) (φ := .f32) .maximumf [1, 2] S1
    (shapeCast S1x4096x4096 (absf x) shapeCasts_S4096x4096_S1x4096x4096) 0xFF800000#32 reduces_S1x4096x4096_S1 (.inl rfl) rfl)
    shapeCasts_S1_S1x1x1) inpos_S1x1x1_p0_0_0

theorem amaxW_eq (x : Vec Ideal S4096x4096 .f32) : amaxW x = Fp8Scale.amax fun (r : Fin 4096) (k : Fin 4096) => x (ix2 r k) := by
  unfold Fp8Scale.amax
  rw [← Fp8Scale.fold_eq_maxOf]
  unfold amaxW
  pointwise
  rfl

/-- The new history, as the reference writes it. -/
def pushV (h : Vec Ideal S15 .f32) (a : EReal) : Vec Ideal S16 .f32 :=
  concatenate S16 0 [⟨S15, h⟩, ⟨S1, broadcast S1 a⟩] concatenates_S15_S1_S16_d0

theorem pushV_eq (h : Vec Ideal S16 .f32) (a : EReal) (j : S16.Idx) :
    pushV (View.ld h (Rect.unit ![1] ![15] inb_S16_S15_1)) a j = Fp8Scale.push (fun k => h (ix1 k)) a (j 0) := by
  unfold pushV Fp8Scale.push
  pointwise
  split_ifs with h1 h2 h2
  · exact congrArg (fun i => h (ix1 i)) (Fin.ext (by dsimp only; omega))
  · omega
  · omega
  · rfl

theorem histX (x : Vec Ideal S8192x4096 .f32) (h : Vec Ideal S15 .f32) : k0_pay20 (F := Ideal) (k0_pay2 x) h = pushV h (amaxV x) := by
  unfold k0_pay2
  rw [shapeCast_self]
  rfl

theorem histDY (x : Vec Ideal S8192x4096 .f32) (h : Vec Ideal S15 .f32) : k0_pay1 (F := Ideal) (k0_pay3 x) h = pushV h (amaxV x) := by
  unfold k0_pay3
  rw [shapeCast_self]
  rfl

theorem histW (x : Vec Ideal S4096x4096 .f32) (h : Vec Ideal S15 .f32) : k0_pay21 (F := Ideal) x h = pushV h (amaxW x) := rfl

/-! ### The result arrays -/

theorem finalY (c : Dev nD) : (dats m 0 c).arrAt 6 cfg0.N = fun j =>
    (∑ k : Fin 4096, Fp8Scale.code 0xC3E00000#32 0x43E00000#32 (X m c (ix2 (j 0) k)) (Fp8Scale.inv 0x3B124925#32 (hx m c)) *
      Fp8Scale.code 0xC3E00000#32 0x43E00000#32 (W m c (ix2 k (j 1))) (Fp8Scale.inv 0x3B124925#32 (hw m c))) * (Fp8Scale.scale 0x3B124925#32 (hx m c) * Fp8Scale.scale 0x3B124925#32 (hw m c)) := by
  refine (dats m 0 c).arrAt_eq_of_after_last 6 t0_0 (by decide +kernel) _ fun j => ?_
  blk_simp
  rw [after0_6]
  unfold outsAt0
  frame_out
  simp only [read_unread_whole, iblkX, iblkW, iblkDY, iblkHX, iblkHW, iblkHDY]
  rw [y_eq, scaleX, scaleW]
  simp only [codeX, codeW]

theorem finalDX (c : Dev nD) : (dats m 0 c).arrAt 7 cfg0.N = fun j =>
    (∑ k : Fin 4096, Fp8Scale.code 0xC7600000#32 0x47600000#32 (DY m c (ix2 (j 0) k)) (Fp8Scale.inv 0x37924925#32 (hdy m c)) *
      Fp8Scale.code 0xC3E00000#32 0x43E00000#32 (W m c (ix2 (j 1) k)) (Fp8Scale.inv 0x3B124925#32 (hw m c))) * (Fp8Scale.scale 0x37924925#32 (hdy m c) * Fp8Scale.scale 0x3B124925#32 (hw m c)) := by
  refine (dats m 0 c).arrAt_eq_of_after_last 7 t0_0 (by decide +kernel) _ fun j => ?_
  blk_simp
  rw [after0_7]
  unfold outsAt0
  frame_out
  simp only [read_unread_whole, iblkX, iblkW, iblkDY, iblkHX, iblkHW, iblkHDY]
  rw [dx_eq, scaleDY, scaleW]
  simp only [codeDY, codeW]

theorem finalDW (c : Dev nD) : (dats m 0 c).arrAt 8 cfg0.N = fun j =>
    (∑ k : Fin 8192, Fp8Scale.code 0xC3E00000#32 0x43E00000#32 (X m c (ix2 k (j 0))) (Fp8Scale.inv 0x3B124925#32 (hx m c)) *
      Fp8Scale.code 0xC7600000#32 0x47600000#32 (DY m c (ix2 k (j 1))) (Fp8Scale.inv 0x37924925#32 (hdy m c))) * (Fp8Scale.scale 0x3B124925#32 (hx m c) * Fp8Scale.scale 0x37924925#32 (hdy m c)) := by
  refine (dats m 0 c).arrAt_eq_of_after_last 8 t0_0 (by decide +kernel) _ fun j => ?_
  blk_simp
  rw [after0_8]
  unfold outsAt0
  frame_out
  simp only [read_unread_whole, iblkX, iblkW, iblkDY, iblkHX, iblkHW, iblkHDY]
  rw [dw_eq, scaleDY, scaleX]
  simp only [codeX, codeDY]

theorem finalHX (c : Dev nD) : (dats m 0 c).arrAt 9 cfg0.N = fun j =>
    Fp8Scale.push (hx m c) (Fp8Scale.amax fun (r : Fin 8192) (k : Fin 4096) => X m c (ix2 r k)) (j 0) := by
  refine (dats m 0 c).arrAt_eq_of_after_last 9 t0_0 (by decide +kernel) _ fun j => ?_
  blk_simp
  rw [after0_9]
  unfold outsAt0
  frame_out
  simp only [read_unread_whole, iblkX, iblkW, iblkDY, iblkHX, iblkHW, iblkHDY]
  rw [histX, pushV_eq, amaxV_eq]

theorem finalHW (c : Dev nD) : (dats m 0 c).arrAt 10 cfg0.N = fun j =>
    Fp8Scale.push (hw m c) (Fp8Scale.amax fun (r : Fin 4096) (k : Fin 4096) => W m c (ix2 r k)) (j 0) := by
  refine (dats m 0 c).arrAt_eq_of_after_last 10 t0_0 (by decide +kernel) _ fun j => ?_
  blk_simp
  rw [after0_10]
  unfold outsAt0
  frame_out
  simp only [read_unread_whole, iblkX, iblkW, iblkDY, iblkHX, iblkHW, iblkHDY]
  rw [histW, pushV_eq, amaxW_eq]

theorem finalHDY (c : Dev nD) : (dats m 0 c).arrAt 11 cfg0.N = fun j =>
    Fp8Scale.push (hdy m c) (Fp8Scale.amax fun (r : Fin 8192) (k : Fin 4096) => DY m c (ix2 r k)) (j 0) := by
  refine (dats m 0 c).arrAt_eq_of_after_last 11 t0_0 (by decide +kernel) _ fun j => ?_
  blk_simp
  rw [after0_11]
  unfold outsAt0
  frame_out
  simp only [read_unread_whole, iblkX, iblkW, iblkDY, iblkHX, iblkHW, iblkHDY]
  rw [histDY, pushV_eq, amaxV_eq]

theorem finalQX (c : Dev nD) : (dats m 0 c).arrAt 12 cfg0.N = fun j =>
    Fp8Scale.code 0xC3E00000#32 0x43E00000#32 (X m c j) (Fp8Scale.inv 0x3B124925#32 (hx m c)) := by
  refine (dats m 0 c).arrAt_eq_of_after_last 12 t0_0 (by decide +kernel) _ fun j => ?_
  blk_simp
  rw [after0_12]
  unfold outsAt0
  frame_out
  simp only [read_unread_whole, iblkX, iblkW, iblkDY, iblkHX, iblkHW, iblkHDY]
  rw [codeX]

theorem finalSX (c : Dev nD) : (dats m 0 c).arrAt 13 cfg0.N = fun _ => Fp8Scale.scale 0x3B124925#32 (hx m c) := by
  refine (dats m 0 c).arrAt_eq_of_after_last 13 t0_0 (by decide +kernel) _ fun j => ?_
  blk_simp
  rw [after0_13]
  unfold outsAt0
  frame_out
  simp only [read_unread_whole, iblkX, iblkW, iblkDY, iblkHX, iblkHW, iblkHDY]
  rw [scaleX]

theorem finalQW (c : Dev nD) : (dats m 0 c).arrAt 14 cfg0.N = fun j =>
    Fp8Scale.code 0xC3E00000#32 0x43E00000#32 (W m c j) (Fp8Scale.inv 0x3B124925#32 (hw m c)) := by
  refine (dats m 0 c).arrAt_eq_of_after_last 14 t0_0 (by decide +kernel) _ fun j => ?_
  blk_simp
  rw [after0_14]
  unfold outsAt0
  frame_out
  simp only [read_unread_whole, iblkX, iblkW, iblkDY, iblkHX, iblkHW, iblkHDY]
  rw [codeW]

theorem finalSW (c : Dev nD) : (dats m 0 c).arrAt 15 cfg0.N = fun _ => Fp8Scale.scale 0x3B124925#32 (hw m c) := by
  refine (dats m 0 c).arrAt_eq_of_after_last 15 t0_0 (by decide +kernel) _ fun j => ?_
  blk_simp
  rw [after0_15]
  unfold outsAt0
  frame_out
  simp only [read_unread_whole, iblkX, iblkW, iblkDY, iblkHX, iblkHW, iblkHDY]
  rw [scaleW]

theorem finalQDY (c : Dev nD) : (dats m 0 c).arrAt 16 cfg0.N = fun j =>
    Fp8Scale.code 0xC7600000#32 0x47600000#32 (DY m c j) (Fp8Scale.inv 0x37924925#32 (hdy m c)) := by
  refine (dats m 0 c).arrAt_eq_of_after_last 16 t0_0 (by decide +kernel) _ fun j => ?_
  blk_simp
  rw [after0_16]
  unfold outsAt0
  frame_out
  simp only [read_unread_whole, iblkX, iblkW, iblkDY, iblkHX, iblkHW, iblkHDY]
  rw [codeDY]

theorem finalSDY (c : Dev nD) : (dats m 0 c).arrAt 17 cfg0.N = fun _ => Fp8Scale.scale 0x37924925#32 (hdy m c) := by
  refine (dats m 0 c).arrAt_eq_of_after_last 17 t0_0 (by decide +kernel) _ fun j => ?_
  blk_simp
  rw [after0_17]
  unfold outsAt0
  frame_out
  simp only [read_unread_whole, iblkX, iblkW, iblkDY, iblkHX, iblkHW, iblkHDY]
  rw [scaleDY]

/-! ### The run -/

/-- The run ends with each result array as the call leaves it, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2_0) = (dats m 0 c).arrAt 6 cfg0.N
      ∧ r.2.mem ((c : Thread nD τ).loc main_v2_1) = (dats m 0 c).arrAt 7 cfg0.N
      ∧ r.2.mem ((c : Thread nD τ).loc main_v2_2) = (dats m 0 c).arrAt 8 cfg0.N
      ∧ r.2.mem ((c : Thread nD τ).loc main_v2_3) = (dats m 0 c).arrAt 9 cfg0.N
      ∧ r.2.mem ((c : Thread nD τ).loc main_v2_4) = (dats m 0 c).arrAt 10 cfg0.N
      ∧ r.2.mem ((c : Thread nD τ).loc main_v2_5) = (dats m 0 c).arrAt 11 cfg0.N
      ∧ r.2.mem ((c : Thread nD τ).loc main_v2_6) = (dats m 0 c).arrAt 12 cfg0.N
      ∧ r.2.mem ((c : Thread nD τ).loc main_v2_7) = (dats m 0 c).arrAt 13 cfg0.N
      ∧ r.2.mem ((c : Thread nD τ).loc main_v2_8) = (dats m 0 c).arrAt 14 cfg0.N
      ∧ r.2.mem ((c : Thread nD τ).loc main_v2_9) = (dats m 0 c).arrAt 15 cfg0.N
      ∧ r.2.mem ((c : Thread nD τ).loc main_v2_10) = (dats m 0 c).arrAt 16 cfg0.N
      ∧ r.2.mem ((c : Thread nD τ).loc main_v2_11) = (dats m 0 c).arrAt 17 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
    (h c).1 7,
    (h c).1 8,
    (h c).1 9,
    (h c).1 10,
    (h c).1 11,
    (h c).1 12,
    (h c).1 13,
    (h c).1 14,
    (h c).1 15,
    (h c).1 16,
    (h c).1 17,
    ((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩)
    (run_main m ρ)

end Cert.ReferenceIdeal.Whole
-- ==== Proof.KerFwd.lean ====
/-
  The forward call at the ideal instance: what each grid point leaves in the output windows and
  in the carried scratch, as functions of the blocks it reads.
-/
module

public import proofs.«01_k».proof.Proof.Gen.KernelFwdIdeal.Value
public import proofs.«01_k».proof.Proof.Quant
public import Idealize.ShloMosaic.Lib.Pipeline.ValueKit
public import Idealize.ShloMosaic.Lib.Pipeline.ReadBack

@[expose] public section

set_option maxRecDepth 16384

noncomputable section

namespace Cert.KernelFwdIdeal.Fwd

open Cert.KernelFwdIdeal Cert.KernelFwdIdeal.Gen Idealize.ShloMosaic Idealize.ShloMosaic.TcCoe Idealize.SL.Sem
open Idealize.ShloMosaic.Pipeline (Dat)

variable (m : (ℓ : Loc nD τ sig) → Buf (Elt Ideal) ℓ)

abbrev X (c : Dev nD) : Vec Ideal S8192x4096 .f32 := m ((c : Thread nD τ).loc main_arg0)
abbrev WQ (c : Dev nD) : Vec Ideal S4096x4096 .fp8e4m3 := m ((c : Thread nD τ).loc main_arg1)
abbrev HX (c : Dev nD) : Vec Ideal S16 .f32 := m ((c : Thread nD τ).loc main_arg2)
abbrev HW (c : Dev nD) : Vec Ideal S16 .f32 := m ((c : Thread nD τ).loc main_arg3)

/-! ### The blocks a grid point reads -/

theorem idx (t : Fin cfg0.N) : win0_0.index t = ![0] ∧ win0_2.index t = ![t.val, 0] ∧ win0_5.index t = ![t.val, 0] ∧ win0_1.index t = ![0] ∧ win0_3.index t = ![0, 0] ∧ win0_4.index t = ![t.val, 0] := by
  revert t; decide +kernel

theorem lt16 (t : Fin cfg0.N) : t.val < 16 := lt_of_lt_of_eq t.isLt (N_0 : cfg0.N = 16)

theorem iblkH (c : Dev nD) (t : Fin cfg0.N) : iblk m c 0 t = HX m c := by funext j; blk_ext [iblk, V, idx t]
theorem iblkHW (c : Dev nD) (t : Fin cfg0.N) : iblk m c 1 t = HW m c := by funext j; blk_ext [iblk, V, idx t]
theorem iblkW (c : Dev nD) (t : Fin cfg0.N) : iblk m c 3 t = WQ m c := by funext j; blk_ext [iblk, V, idx t]

/-- Row block `t` of `v`. -/
def rowBlk (v : Vec Ideal S8192x4096 .f32) (t : Fin cfg0.N) : Vec Ideal S512x4096 .f32 := fun j =>
  v (ix2 ⟨t.val * 512 + (j 0).val, by have := lt16 t; have : (j 0).val < 512 := (j 0).isLt; omega⟩ (j 1))

theorem iblkV (c : Dev nD) (t : Fin cfg0.N) : iblk m c 2 t = rowBlk (X m c) t := by
  funext j; unfold rowBlk; blk_ext [iblk, V, idx t]

/-! ### The body's values -/

/-- Element `k` of a history, as the body loads it. -/
def rd (h : Vec Ideal S16 .f32) (k : ℕ) (inb : ∀ a, (![k] : Fin 1 → ℕ) a + (![1] : Fin 1 → ℕ) a ≤ S16.size a) : EReal :=
  View.ld h (Rect.unit ![k] ![1] inb) (Shape.Idx.first (Nat.lt_of_lt_of_eq Nat.zero_lt_one numel1_S1.symm))

theorem lt_of_inb {k : ℕ} (inb : ∀ a, (![k] : Fin 1 → ℕ) a + (![1] : Fin 1 → ℕ) a ≤ S16.size a) : k < 16 := inb 0

theorem rd_eq (h : Vec Ideal S16 .f32) (k : ℕ) (inb : ∀ a, (![k] : Fin 1 → ℕ) a + (![1] : Fin 1 → ℕ) a ≤ S16.size a) :
    rd h k inb = h (ix1 ⟨k, lt_of_inb inb⟩) := by
  unfold rd View.ld
  refine congrArg h (funext fun a => Fin.ext ?_)
  have : a = 0 := Subsingleton.elim a 0
  subst this
  rfl

/-- The body's maximum of two scalars. -/
def maxS (a b : EReal) : EReal := Scalar.maximumf (F := Ideal) (φ := .f32) a b

/-- The maximum of a history, as the body computes it. -/
def hmax (h : Vec Ideal S16 .f32) : EReal :=
  maxS (maxS (maxS (maxS (maxS (maxS (maxS (maxS (maxS (maxS (maxS (maxS (maxS (maxS (maxS (rd h 0 inb_S16_S1_0) (rd h 1 inb_S16_S1_1)) (rd h 2 inb_S16_S1_2)) (rd h 3 inb_S16_S1_3)) (rd h 4 inb_S16_S1_4)) (rd h 5 inb_S16_S1_5)) (rd h 6 inb_S16_S1_6)) (rd h 7 inb_S16_S1_7)) (rd h 8 inb_S16_S1_8)) (rd h 9 inb_S16_S1_9)) (rd h 10 inb_S16_S1_10)) (rd h 11 inb_S16_S1_11)) (rd h 12 inb_S16_S1_12)) (rd h 13 inb_S16_S1_13)) (rd h 14 inb_S16_S1_14)) (rd h 15 inb_S16_S1_15)

theorem hmax_eq (h : Vec Ideal S16 .f32) : hmax h = Fp8Scale.maxOf fun k : Fin 16 => h (ix1 k) := by
  refine Fp8Scale.eq_maxOf_of _ _ fun b => ?_
  unfold hmax maxS
  simp only [rd_eq, Ideal.scalar_maximumf_def, max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ ⟨i, hi⟩
    interval_cases i <;> assumption
  · intro hb
    simp only [hb, and_self]

/-- One chunk of columns of the product, scaled. -/
def prodBlk (s : EReal) (w : Vec Ideal S4096x512 .fp8e4m3) (q : Vec Ideal S512x4096 .fp8e4m3) : Vec Ideal S512x512 .f32 :=
  k0_pay41 (F := Ideal) s w q

/-- The block's product, chunk by chunk. -/
def yBlk (s : EReal) (q : Vec Ideal S512x4096 .fp8e4m3) (w : Vec Ideal S4096x4096 .fp8e4m3) : Vec Ideal S512x4096 .f32 :=
  View.canon (Val := Elt Ideal) [
      ⟨Rect.unit ![0, 3584] ![512, 512] inb_S512x4096_S512x512_0_3584, prodBlk s (View.ld w (Rect.unit ![0, 3584] ![4096, 512] inb_S4096x4096_S4096x512_0_3584)) q⟩,
      ⟨Rect.unit ![0, 3072] ![512, 512] inb_S512x4096_S512x512_0_3072, prodBlk s (View.ld w (Rect.unit ![0, 3072] ![4096, 512] inb_S4096x4096_S4096x512_0_3072)) q⟩,
      ⟨Rect.unit ![0, 2560] ![512, 512] inb_S512x4096_S512x512_0_2560, prodBlk s (View.ld w (Rect.unit ![0, 2560] ![4096, 512] inb_S4096x4096_S4096x512_0_2560)) q⟩,
      ⟨Rect.unit ![0, 2048] ![512, 512] inb_S512x4096_S512x512_0_2048, prodBlk s (View.ld w (Rect.unit ![0, 2048] ![4096, 512] inb_S4096x4096_S4096x512_0_2048)) q⟩,
      ⟨Rect.unit ![0, 1536] ![512, 512] inb_S512x4096_S512x512_0_1536, prodBlk s (View.ld w (Rect.unit ![0, 1536] ![4096, 512] inb_S4096x4096_S4096x512_0_1536)) q⟩,
      ⟨Rect.unit ![0, 1024] ![512, 512] inb_S512x4096_S512x512_0_1024, prodBlk s (View.ld w (Rect.unit ![0, 1024] ![4096, 512] inb_S4096x4096_S4096x512_0_1024)) q⟩,
      ⟨Rect.unit ![0, 512] ![512, 512] inb_S512x4096_S512x512_0_512, prodBlk s (View.ld w (Rect.unit ![0, 512] ![4096, 512] inb_S4096x4096_S4096x512_0_512)) q⟩,
      ⟨Rect.unit ![0, 0] ![512, 512] inb_S512x4096_S512x512_0_0, prodBlk s (View.ld w (Rect.unit ![0, 0] ![4096, 512] inb_S4096x4096_S4096x512_0_0)) q⟩]

theorem yBlk_apply (s : EReal) (q : Vec Ideal S512x4096 .fp8e4m3) (w : Vec Ideal S4096x4096 .fp8e4m3) (j : S512x4096.Idx) :
    yBlk s q w j = (∑ k : Fin 4096, q (ix2 (j 0) k) * w (ix2 k (j 1))) * s := by
  unfold yBlk
  canon_tiles x h
  all_goals
    unfold prodBlk k0_pay41
    pointwise
    refine congrArg (· * s) (Finset.sum_congr rfl fun k _ => ?_)
    congr 1 <;> blk_ext []

/-- The codes of a block. -/
def qBlk (i : EReal) (v : Vec Ideal S512x4096 .f32) : Vec Ideal S512x4096 .fp8e4m3 :=
  truncf .fp8e4m3 (minimumf (F := Ideal) (broadcast S512x4096 (Scalar.ofBits .f32 0x43E00000#32))
    (maximumf (broadcast S512x4096 (Scalar.ofBits .f32 0xC3E00000#32)) (mulf v (broadcast S512x4096 i)))) bitsLt_fp8e4m3_f32

theorem qBlk_apply (i : EReal) (v : Vec Ideal S512x4096 .f32) (j : S512x4096.Idx) :
    qBlk i v j = Fp8Scale.code 0xC3E00000#32 0x43E00000#32 (v j) i := by
  unfold qBlk Fp8Scale.code
  pointwise

/-- The greatest magnitudes of a block, folded to 8 rows. -/
def partBlk (v : Vec Ideal S512x4096 .f32) : Vec Ideal S8x4096 .f32 := k0_pay48 (F := Ideal) v

theorem partBlk_apply (v : Vec Ideal S512x4096 .f32) (j : S8x4096.Idx) :
    partBlk v j = Fp8Scale.maxOf fun a : Fin 64 =>
      let i : S512x4096.Idx := ix2 ⟨a.val * 8 + (j 0).val, by have : (j 0).val < 8 := (j 0).isLt; have := a.isLt; omega⟩ (j 1)
      max (v i) (-v i) := by
  rw [← Fp8Scale.fold_eq_maxOf]
  unfold partBlk k0_pay48
  pointwise
  rfl

/-- The new history. -/
def histBlk (h : Vec Ideal S16 .f32) (a : EReal) : Vec Ideal S16 .f32 :=
  View.canon (Val := Elt Ideal) [
      ⟨Rect.unit ![15] ![1] inb_S16_S1_15, fun _ => a⟩,
      ⟨Rect.unit ![14] ![1] inb_S16_S1_14, fun _ => rd h 15 inb_S16_S1_15⟩,
      ⟨Rect.unit ![13] ![1] inb_S16_S1_13, fun _ => rd h 14 inb_S16_S1_14⟩,
      ⟨Rect.unit ![12] ![1] inb_S16_S1_12, fun _ => rd h 13 inb_S16_S1_13⟩,
      ⟨Rect.unit ![11] ![1] inb_S16_S1_11, fun _ => rd h 12 inb_S16_S1_12⟩,
      ⟨Rect.unit ![10] ![1] inb_S16_S1_10, fun _ => rd h 11 inb_S16_S1_11⟩,
      ⟨Rect.unit ![9] ![1] inb_S16_S1_9, fun _ => rd h 10 inb_S16_S1_10⟩,
      ⟨Rect.unit ![8] ![1] inb_S16_S1_8, fun _ => rd h 9 inb_S16_S1_9⟩,
      ⟨Rect.unit ![7] ![1] inb_S16_S1_7, fun _ => rd h 8 inb_S16_S1_8⟩,
      ⟨Rect.unit ![6] ![1] inb_S16_S1_6, fun _ => rd h 7 inb_S16_S1_7⟩,
      ⟨Rect.unit ![5] ![1] inb_S16_S1_5, fun _ => rd h 6 inb_S16_S1_6⟩,
      ⟨Rect.unit ![4] ![1] inb_S16_S1_4, fun _ => rd h 5 inb_S16_S1_5⟩,
      ⟨Rect.unit ![3] ![1] inb_S16_S1_3, fun _ => rd h 4 inb_S16_S1_4⟩,
      ⟨Rect.unit ![2] ![1] inb_S16_S1_2, fun _ => rd h 3 inb_S16_S1_3⟩,
      ⟨Rect.unit ![1] ![1] inb_S16_S1_1, fun _ => rd h 2 inb_S16_S1_2⟩,
      ⟨Rect.unit ![0] ![1] inb_S16_S1_0, fun _ => rd h 1 inb_S16_S1_1⟩]

theorem histBlk_apply (h : Vec Ideal S16 .f32) (a : EReal) (j : S16.Idx) :
    histBlk h a j = Fp8Scale.push (fun k => h (ix1 k)) a (j 0) := by
  unfold histBlk
  canon_tiles x hx
  all_goals
    unfold Fp8Scale.push
    dsimp only
    split_ifs with hk
    all_goals first
      | (exfalso; omega)
      | rfl
      | (rw [rd_eq]
         exact congrArg (fun i => h (ix1 i)) (Fin.ext (by dsimp only; omega)))

/-! ### What a grid point leaves -/

theorem caseABC (t : Fin cfg0.N) : (t.val % 16 = 0 ∧ ¬1 ≤ t.val ∧ ¬t.val % 16 = 15) ∨
    (¬t.val % 16 = 0 ∧ 1 ≤ t.val ∧ ¬t.val % 16 = 15) ∨ (¬t.val % 16 = 0 ∧ 1 ≤ t.val ∧ t.val % 16 = 15) := by
  have := lt16 t
  omega

theorem outY (c : Dev nD) (t : Fin cfg0.N) : (outsAt0 m c t.val t.isLt).1 =
    yBlk ((Fp8Scale.scaleK 0x3B124925#32 (hmax (iblk m c 0 t))) * Fp8Scale.scaleK 0x3B124925#32 (hmax (iblk m c 1 t)))
      (qBlk (Fp8Scale.invK 0x3B124925#32 (hmax (iblk m c 0 t))) (iblk m c 2 t)) (iblk m c 3 t) := by
  rcases caseABC t with ⟨h0, h1, h2⟩ | ⟨h0, h1, h2⟩ | ⟨h0, h1, h2⟩
  · rw [outsAt0_A m c t h0 h1 h2]
    frame_out
    rfl
  · rw [outsAt0_B m c t h0 h1 h2]
    frame_out
    rfl
  · rw [outsAt0_C m c t h0 h1 h2]
    frame_out
    rfl

theorem outQ (c : Dev nD) (t : Fin cfg0.N) : (outsAt0 m c t.val t.isLt).2.1 =
    qBlk (Fp8Scale.invK 0x3B124925#32 (hmax (iblk m c 0 t))) (iblk m c 2 t) := by
  rcases caseABC t with ⟨h0, h1, h2⟩ | ⟨h0, h1, h2⟩ | ⟨h0, h1, h2⟩
  · rw [outsAt0_A m c t h0 h1 h2]
    frame_out
    rfl
  · rw [outsAt0_B m c t h0 h1 h2]
    frame_out
    rfl
  · rw [outsAt0_C m c t h0 h1 h2]
    frame_out
    rfl

theorem outS (c : Dev nD) (t : Fin cfg0.N) : (outsAt0 m c t.val t.isLt).2.2.1 = fun _ => (Fp8Scale.scaleK 0x3B124925#32 (hmax (iblk m c 0 t))) := by
  rcases caseABC t with ⟨h0, h1, h2⟩ | ⟨h0, h1, h2⟩ | ⟨h0, h1, h2⟩
  · rw [outsAt0_A m c t h0 h1 h2]
    frame_out
    rfl
  · rw [outsAt0_B m c t h0 h1 h2]
    frame_out
    rfl
  · rw [outsAt0_C m c t h0 h1 h2]
    frame_out
    rfl

/-- The scratch after point `n`. -/
abbrev scr (c : Dev nD) (n : ℕ) (h : n < cfg0.N) : Vec Ideal S8x4096 .f32 := (outsAt0 m c n h).2.2.2.2

theorem scr_zero (c : Dev nD) (t : Fin cfg0.N) (h : t.val = 0) : scr m c t.val t.isLt = partBlk (iblk m c 2 t) := by
  unfold scr
  rw [outsAt0_A m c t (by omega) (by omega) (by omega)]
  frame_out
  unfold k0_pay49 partBlk
  rw [shapeCast_self]

theorem scr_succ (c : Dev nD) (t : Fin cfg0.N) (h : 1 ≤ t.val) : scr m c t.val t.isLt =
    fun j => max (scr m c (t.val - 1) (Nat.lt_of_le_of_lt (Nat.sub_le _ _) t.isLt) j) (partBlk (iblk m c 2 t) j) := by
  have := lt16 t
  unfold scr
  by_cases h2 : t.val % 16 = 15
  · rw [outsAt0_C m c t (by omega) h h2]
    frame_out
    simp only [read_unread_whole]
    funext j
    unfold k0_pay1 partBlk
    rw [shapeCast_self]
    rfl
  · rw [outsAt0_B m c t (by omega) h h2]
    frame_out
    simp only [read_unread_whole]
    funext j
    unfold k0_pay1 partBlk
    rw [shapeCast_self]
    rfl

/-- The maximum of the whole scratch. -/
def totBlk (v : Vec Ideal S8x4096 .f32) : EReal := k0_pay2 (F := Ideal) v

theorem totBlk_eq (v : Vec Ideal S8x4096 .f32) : totBlk v = Fp8Scale.maxOf fun i : Fin 8 × Fin 4096 => v (ix2 i.1 i.2) := by
  rw [← Fp8Scale.fold_eq_maxOf]
  unfold totBlk k0_pay2
  pointwise

theorem outH (c : Dev nD) (t : Fin cfg0.N) (h : t.val = 15) :
    (outsAt0 m c t.val t.isLt).2.2.2.1 = histBlk (iblk m c 0 t) (totBlk (scr m c t.val t.isLt)) := by
  unfold scr
  rw [outsAt0_C m c t (by omega) (by omega) (by omega)]
  frame_out
  rfl

end Cert.KernelFwdIdeal.Fwd
-- ==== Proof.KerFwdEnd.lean ====
/-
  The forward call at the ideal instance, after the run: the result arrays as functions of the
  arguments. The carried scratch after point `t` bounds the magnitudes of the first `t + 1` row blocks.
-/
module

public import proofs.«01_k».proof.Proof.KerFwd

@[expose] public section

set_option maxRecDepth 16384

noncomputable section

namespace Cert.KernelFwdIdeal.Fwd

open Cert.KernelFwdIdeal Cert.KernelFwdIdeal.Gen Idealize.ShloMosaic Idealize.ShloMosaic.TcCoe Idealize.SL.Sem
open Idealize.ShloMosaic.Pipeline (Dat)

variable (m : (ℓ : Loc nD τ sig) → Buf (Elt Ideal) ℓ)

/-! ### The carried maximum -/

theorem partBlk_rowBlk_le (v : Vec Ideal S8192x4096 .f32) (t : Fin cfg0.N) (j : S8x4096.Idx) (b : EReal) :
    partBlk (rowBlk v t) j ≤ b ↔ ∀ r : Fin 8192, r.val % 8 = (j 0).val → r.val / 512 = t.val →
      max (v (ix2 r (j 1))) (-v (ix2 r (j 1))) ≤ b := by
  have hj : (j 0).val < 8 := (j 0).isLt
  have ht := lt16 t
  rw [partBlk_apply, Fp8Scale.maxOf_le_iff]
  constructor
  · intro h r h1 h2
    have hr := r.isLt
    have h3 := h ⟨r.val % 512 / 8, by omega⟩
    have : (⟨t.val * 512 + (r.val % 512 / 8 * 8 + (j 0).val), by omega⟩ : Fin 8192) = r := Fin.ext (by dsimp only; omega)
    dsimp only [rowBlk, ix2] at h3
    rw [← this]
    exact h3
  · intro h a
    have ha := a.isLt
    exact h ⟨t.val * 512 + (a.val * 8 + (j 0).val), by omega⟩ (by dsimp only; omega) (by dsimp only; omega)

theorem scr_le (c : Dev nD) (j : S8x4096.Idx) (b : EReal) : ∀ (n : ℕ) (hn : n < cfg0.N), scr m c n hn j ≤ b ↔
    ∀ r : Fin 8192, r.val % 8 = (j 0).val → r.val / 512 ≤ n → max (X m c (ix2 r (j 1))) (-X m c (ix2 r (j 1))) ≤ b
  | 0, hn => by
    rw [scr_zero m c ⟨0, hn⟩ rfl, iblkV, partBlk_rowBlk_le]
    exact forall_congr' fun r => imp_congr_right fun _ => imp_congr_left (by dsimp only; omega)
  | n + 1, hn => by
    rw [scr_succ m c ⟨n + 1, hn⟩ (by dsimp only; omega), iblkV]
    dsimp only
    rw [max_le_iff, partBlk_rowBlk_le]
    simp only [Nat.add_sub_cancel]
    rw [scr_le c j b n (by omega)]
    constructor
    · rintro ⟨h1, h2⟩ r hr hn
      by_cases hc : r.val / 512 = n + 1
      · exact h2 r hr hc
      · exact h1 r hr (by omega)
    · intro h
      exact ⟨fun r hr hc => h r hr (by omega), fun r hr hc => h r hr (by omega)⟩

theorem tot_eq (c : Dev nD) (t : Fin cfg0.N) (h : t.val = 15) :
    totBlk (scr m c t.val t.isLt) = Fp8Scale.amax fun (r : Fin 8192) (k : Fin 4096) => X m c (ix2 r k) := by
  refine Fp8Scale.eq_maxOf_of _ _ fun b => ?_
  rw [totBlk_eq, Fp8Scale.maxOf_le_iff]
  constructor
  · intro hb i
    have := i.1.isLt
    exact (scr_le m c (ix2 ⟨i.1.val % 8, by omega⟩ i.2) b t.val t.isLt).mp (hb (⟨i.1.val % 8, by omega⟩, i.2)) i.1 rfl (by omega)
  · intro hb i
    exact (scr_le m c (ix2 i.1 i.2) b t.val t.isLt).mpr fun r _ _ => hb (r, i.2)

/-! ### The result arrays -/

/-- The history of the quantised operand. -/
abbrev hx (c : Dev nD) : Fin 16 → EReal := fun k => HX m c (ix1 k)
/-- The history of `w`. -/
abbrev hw (c : Dev nD) : Fin 16 → EReal := fun k => HW m c (ix1 k)

theorem finalY (c : Dev nD) : (dats m 0 c).arrAt 4 cfg0.N = fun j =>
    (∑ k : Fin 4096, Fp8Scale.code 0xC3E00000#32 0x43E00000#32 (X m c (ix2 (j 0) k)) (Fp8Scale.inv 0x3B124925#32 (hx m c)) *
      WQ m c (ix2 k (j 1))) * (Fp8Scale.scale 0x3B124925#32 (hx m c) * Fp8Scale.scale 0x3B124925#32 (hw m c)) := by
  refine (dats m 0 c).arrAt_eq_of_covers 4 _ (by decide +kernel) fun t hf y => ?_
  blk_simp
  rw [after0_4, outY, yBlk_apply, iblkH, iblkHW, iblkV, iblkW]
  simp only [hmax_eq, Fp8Scale.scaleK_maxOf, Fp8Scale.invK_maxOf, qBlk_apply]
  refine congrArg₂ (· * ·) (Finset.sum_congr rfl fun k _ => congrArg₂ (· * ·) (congrArg (Fp8Scale.code _ _ · _) ?_) ?_) rfl
  · unfold rowBlk; blk_ext [idx t]
  · blk_ext [idx t]

theorem finalQ (c : Dev nD) : (dats m 0 c).arrAt 5 cfg0.N = fun j =>
    Fp8Scale.code 0xC3E00000#32 0x43E00000#32 (X m c j) (Fp8Scale.inv 0x3B124925#32 (hx m c)) := by
  refine (dats m 0 c).arrAt_eq_of_covers 5 _ (by decide +kernel) fun t hf y => ?_
  blk_simp
  rw [after0_5, outQ, qBlk_apply, iblkH, iblkV]
  simp only [hmax_eq, Fp8Scale.invK_maxOf]
  refine congrArg (Fp8Scale.code _ _ · _) ?_
  unfold rowBlk; blk_ext [idx t]

theorem finalS (c : Dev nD) : (dats m 0 c).arrAt 6 cfg0.N = fun _ => Fp8Scale.scale 0x3B124925#32 (hx m c) := by
  refine (dats m 0 c).arrAt_eq_of_after_last 6 t0_15 (by decide +kernel) _ fun j => ?_
  blk_simp
  rw [after0_6, outS, iblkH, hmax_eq, Fp8Scale.scaleK_maxOf]

theorem finalH (c : Dev nD) : (dats m 0 c).arrAt 7 cfg0.N = fun j =>
    Fp8Scale.push (hx m c) (Fp8Scale.amax fun (r : Fin 8192) (k : Fin 4096) => X m c (ix2 r k)) (j 0) := by
  refine (dats m 0 c).arrAt_eq_of_after_last 7 t0_15 (by decide +kernel) _ fun j => ?_
  blk_simp
  rw [after0_7, outH m c t0_15 rfl, tot_eq m c t0_15 rfl, iblkH, histBlk_apply]

end Cert.KernelFwdIdeal.Fwd
-- ==== Proof.RefFwd.lean ====
/-
  The forward reference at the ideal instance: its result arrays as functions of the arguments.
-/
module

public import proofs.«01_k».proof.Proof.Gen.ReferenceFwdIdeal.Value
public import proofs.«01_k».proof.Proof.Quant
public import Idealize.ShloMosaic.Lib.Pipeline.ValueKit
public import Idealize.ShloMosaic.Lib.Pipeline.ReadBack

@[expose] public section

set_option maxRecDepth 16384

noncomputable section

namespace Cert.ReferenceFwdIdeal.Fwd

open Cert.ReferenceFwdIdeal Cert.ReferenceFwdIdeal.Gen Idealize.ShloMosaic Idealize.ShloMosaic.TcCoe Idealize.SL.Sem
open Idealize.ShloMosaic.Pipeline (Dat)

variable (m : (ℓ : Loc nD τ sig) → Buf (Elt Ideal) ℓ)

abbrev X (c : Dev nD) : Vec Ideal S8192x4096 .f32 := m ((c : Thread nD τ).loc main_arg0)
abbrev WQ (c : Dev nD) : Vec Ideal S4096x4096 .fp8e4m3 := m ((c : Thread nD τ).loc main_arg1)
abbrev HX (c : Dev nD) : Vec Ideal S16 .f32 := m ((c : Thread nD τ).loc main_arg2)
abbrev HW (c : Dev nD) : Vec Ideal S16 .f32 := m ((c : Thread nD τ).loc main_arg3)
/-- The history of the quantised operand. -/
abbrev hx (c : Dev nD) : Fin 16 → EReal := fun k => HX m c (ix1 k)
/-- The history of `w`. -/
abbrev hw (c : Dev nD) : Fin 16 → EReal := fun k => HW m c (ix1 k)

theorem idx (t : Fin cfg0.N) : win0_0.index t = ![0] ∧ win0_2.index t = ![0, 0] ∧ win0_1.index t = ![0] ∧ win0_3.index t = ![0, 0] := by
  revert t; decide +kernel

theorem iblkH (c : Dev nD) : iblk m c 0 t0_0 = HX m c := by funext j; blk_ext [iblk, V, idx t0_0]
theorem iblkV (c : Dev nD) : iblk m c 2 t0_0 = X m c := by funext j; blk_ext [iblk, V, idx t0_0]
theorem iblkHW (c : Dev nD) : iblk m c 1 t0_0 = HW m c := by funext j; blk_ext [iblk, V, idx t0_0]
theorem iblkW (c : Dev nD) : iblk m c 3 t0_0 = WQ m c := by funext j; blk_ext [iblk, V, idx t0_0]

/-! ### The printed operations -/

theorem exp_eq (h : Vec Ideal S16 .f32) :
    k0_pay2 (F := Ideal) h = Fp8Scale.expR 0x3B124925#32 (Fp8Scale.maxOf fun k : Fin 16 => h (ix1 k)) Fp8Scale.expOf := by
  rw [← Fp8Scale.histMaxV_eq shapeCasts_S16_S1x16 reduces_S1x16_S1 shapeCasts_S1_S1x1 inpos_S1x1_p0_0,
    ← (funext (Fp8Scale.expV_eq iota_S2x127_d0_w32 iota_S2x127_d1_w32 shapeCasts_S2x127_S1x2x127 reduces_S1x2x127_S1 shapeCasts_S1_S1x1x1
      inpos_S1x1x1_p0_0_0) : _ = Fp8Scale.expOf)]
  rfl

theorem scale_eq (h : Vec Ideal S16 .f32) : k0_pay3 (F := Ideal) h = Fp8Scale.scale 0x3B124925#32 fun k : Fin 16 => h (ix1 k) := by
  unfold k0_pay3 Fp8Scale.scale
  rw [exp_eq]
  rfl

theorem code_eq (v : Vec Ideal S8192x4096 .f32) (h : Vec Ideal S16 .f32) (j : S8192x4096.Idx) : k0_pay4 (F := Ideal) v h j =
    Fp8Scale.code 0xC3E00000#32 0x43E00000#32 (v j) (Fp8Scale.inv 0x3B124925#32 fun k : Fin 16 => h (ix1 k)) := by
  unfold k0_pay4 Fp8Scale.code Fp8Scale.inv
  rw [exp_eq]
  rfl

/-- The scale of `w`'s history, as the reference writes it. -/
def scaleW (h : Vec Ideal S16 .f32) : EReal :=
  Ideal.exp2 (Fp8Scale.expR 0x3B124925#32 (Fp8Scale.histMaxV shapeCasts_S16_S1x16 reduces_S1x16_S1 shapeCasts_S1_S1x1 inpos_S1x1_p0_0 h)
    (Fp8Scale.expV iota_S2x127_d0_w32 iota_S2x127_d1_w32 shapeCasts_S2x127_S1x2x127 reduces_S1x2x127_S1 shapeCasts_S1_S1x1x1 inpos_S1x1x1_p0_0_0))

theorem scaleW_eq (h : Vec Ideal S16 .f32) : scaleW h = Fp8Scale.scale 0x3B124925#32 fun k : Fin 16 => h (ix1 k) := by
  unfold scaleW Fp8Scale.scale
  rw [Fp8Scale.histMaxV_eq, (funext (Fp8Scale.expV_eq iota_S2x127_d0_w32 iota_S2x127_d1_w32 shapeCasts_S2x127_S1x2x127 reduces_S1x2x127_S1
    shapeCasts_S1_S1x1x1 inpos_S1x1x1_p0_0_0) : _ = Fp8Scale.expOf)]

theorem y_eq (s : EReal) (q : Vec Ideal S8192x4096 .f32) (h : Vec Ideal S16 .f32) (w : Vec Ideal S4096x4096 .fp8e4m3) (j : S8192x4096.Idx) :
    k0_pay6 (F := Ideal) s q h w j =
      (∑ k : Fin 4096, q (ix2 (j 0) k) * w (ix2 k (j 1))) * (s * Fp8Scale.scale 0x3B124925#32 fun k : Fin 16 => h (ix1 k)) := by
  have e : k0_pay6 (F := Ideal) s q h w = fun j => (matmul (F := Ideal) (φ₁ := .fp8e4m3) (φ₂ := .fp8e4m3)
    dot_S8192x4096_S4096x4096_S8192x4096_1_0_0_1_n_n none q w (broadcast S8192x4096 (Scalar.ofBits .f32 0x00000000#32)) j : EReal) * (s * scaleW h) := rfl
  rw [e, scaleW_eq]
  pointwise

/-- The greatest magnitude, as the reference writes it. -/
def amaxV (x : Vec Ideal S8192x4096 .f32) : EReal :=
  extractAt ![0, 0, 0] (shapeCast S1x1x1 (multiReduction (F := Ideal) (φ := .f32) .maximumf [1, 2] S1
    (shapeCast S1x8192x4096 (absf x) shapeCasts_S8192x4096_S1x8192x4096) 0xFF800000#32 reduces_S1x8192x4096_S1 (.inl rfl) rfl)
    shapeCasts_S1_S1x1x1) inpos_S1x1x1_p0_0_0

theorem amaxV_eq (x : Vec Ideal S8192x4096 .f32) : amaxV x = Fp8Scale.amax fun (r : Fin 8192) (k : Fin 4096) => x (ix2 r k) := by
  unfold Fp8Scale.amax
  rw [← Fp8Scale.fold_eq_maxOf]
  unfold amaxV
  pointwise
  rfl

/-- The new history, as the reference writes it. -/
def pushV (h : Vec Ideal S15 .f32) (a : EReal) : Vec Ideal S16 .f32 :=
  concatenate S16 0 [⟨S15, h⟩, ⟨S1, broadcast S1 a⟩] concatenates_S15_S1_S16_d0

theorem pushV_eq (h : Vec Ideal S16 .f32) (a : EReal) (j : S16.Idx) :
    pushV (View.ld h (Rect.unit ![1] ![15] inb_S16_S15_1)) a j = Fp8Scale.push (fun k => h (ix1 k)) a (j 0) := by
  unfold pushV Fp8Scale.push
  pointwise
  split_ifs with h1 h2 h2
  · exact congrArg (fun i => h (ix1 i)) (Fin.ext (by dsimp only; omega))
  · omega
  · omega
  · rfl

theorem hist_eq (x : Vec Ideal S8192x4096 .f32) (h : Vec Ideal S15 .f32) : k0_pay1 (F := Ideal) x h = pushV h (amaxV x) := rfl

/-! ### The result arrays -/

theorem arrY (c : Dev nD) : (dats m 0 c).arrAt 4 cfg0.N =
    k0_pay6 (F := Ideal) (k0_pay3 (HX m c)) (k0_pay4 (F := Ideal) (X m c) (HX m c)) (HW m c) (WQ m c) := by
  refine (dats m 0 c).arrAt_eq_of_after_last 4 t0_0 (by decide +kernel) _ fun j => ?_
  blk_simp
  rw [after0_4]
  unfold outsAt0
  frame_out
  simp only [read_unread_whole, iblkH, iblkV, iblkHW, iblkW]

theorem finalY (c : Dev nD) : (dats m 0 c).arrAt 4 cfg0.N = fun j =>
    (∑ k : Fin 4096, Fp8Scale.code 0xC3E00000#32 0x43E00000#32 (X m c (ix2 (j 0) k)) (Fp8Scale.inv 0x3B124925#32 (hx m c)) *
      WQ m c (ix2 k (j 1))) * (Fp8Scale.scale 0x3B124925#32 (hx m c) * Fp8Scale.scale 0x3B124925#32 (hw m c)) := by
  rw [arrY]
  funext j
  rw [y_eq, scale_eq]
  simp only [code_eq]

theorem arrQ (c : Dev nD) : (dats m 0 c).arrAt 5 cfg0.N =
    k0_pay5 (F := Ideal) (k0_pay4 (F := Ideal) (X m c) (HX m c)) := by
  refine (dats m 0 c).arrAt_eq_of_after_last 5 t0_0 (by decide +kernel) _ fun j => ?_
  blk_simp
  rw [after0_5]
  unfold outsAt0
  frame_out
  simp only [read_unread_whole, iblkH, iblkV, iblkHW, iblkW]

theorem finalQ (c : Dev nD) : (dats m 0 c).arrAt 5 cfg0.N = fun j =>
    Fp8Scale.code 0xC3E00000#32 0x43E00000#32 (X m c j) (Fp8Scale.inv 0x3B124925#32 (hx m c)) := by
  rw [arrQ]
  funext j
  exact code_eq _ _ j

theorem arrS (c : Dev nD) : (dats m 0 c).arrAt 6 cfg0.N = fun _ =>
    k0_pay3 (F := Ideal) (HX m c) := by
  refine (dats m 0 c).arrAt_eq_of_after_last 6 t0_0 (by decide +kernel) _ fun j => ?_
  blk_simp
  rw [after0_6]
  unfold outsAt0
  frame_out
  simp only [read_unread_whole, iblkH, iblkV, iblkHW, iblkW]

theorem finalS (c : Dev nD) : (dats m 0 c).arrAt 6 cfg0.N = fun _ => Fp8Scale.scale 0x3B124925#32 (hx m c) := by
  rw [arrS]
  rw [scale_eq]

theorem arrH (c : Dev nD) : (dats m 0 c).arrAt 7 cfg0.N =
    k0_pay1 (F := Ideal) (X m c) (View.ld (HX m c) (Rect.unit ![1] ![15] inb_S16_S15_1)) := by
  refine (dats m 0 c).arrAt_eq_of_after_last 7 t0_0 (by decide +kernel) _ fun j => ?_
  blk_simp
  rw [after0_7]
  unfold outsAt0
  frame_out
  simp only [read_unread_whole, iblkH, iblkV, iblkHW, iblkW]

theorem finalH (c : Dev nD) : (dats m 0 c).arrAt 7 cfg0.N = fun j =>
    Fp8Scale.push (hx m c) (Fp8Scale.amax fun (r : Fin 8192) (k : Fin 4096) => X m c (ix2 r k)) (j 0) := by
  rw [arrH]
  funext j
  rw [hist_eq, pushV_eq, amaxV_eq]

end Cert.ReferenceFwdIdeal.Fwd
-- ==== Proof.KerBwdDx.lean ====
/-
  The input-gradient call at the ideal instance: what each grid point leaves in the output windows and
  in the carried scratch, as functions of the blocks it reads.
-/
module

public import proofs.«01_k».proof.Proof.Gen.KernelBwdDxIdeal.Value
public import proofs.«01_k».proof.Proof.Quant
public import Idealize.ShloMosaic.Lib.Pipeline.ValueKit
public import Idealize.ShloMosaic.Lib.Pipeline.ReadBack

@[expose] public section

set_option maxRecDepth 16384

noncomputable section

namespace Cert.KernelBwdDxIdeal.BwdDx

open Cert.KernelBwdDxIdeal Cert.KernelBwdDxIdeal.Gen Idealize.ShloMosaic Idealize.ShloMosaic.TcCoe Idealize.SL.Sem
open Idealize.ShloMosaic.Pipeline (Dat)

variable (m : (ℓ : Loc nD τ sig) → Buf (Elt Ideal) ℓ)

abbrev DY (c : Dev nD) : Vec Ideal S8192x4096 .f32 := m ((c : Thread nD τ).loc main_arg0)
abbrev WQ (c : Dev nD) : Vec Ideal S4096x4096 .fp8e4m3 := m ((c : Thread nD τ).loc main_arg1)
abbrev HDY (c : Dev nD) : Vec Ideal S16 .f32 := m ((c : Thread nD τ).loc main_arg2)
abbrev HW (c : Dev nD) : Vec Ideal S16 .f32 := m ((c : Thread nD τ).loc main_arg3)

/-! ### The blocks a grid point reads -/

theorem idx (t : Fin cfg0.N) : win0_0.index t = ![0] ∧ win0_2.index t = ![t.val, 0] ∧ win0_5.index t = ![t.val, 0] ∧ win0_1.index t = ![0] ∧ win0_3.index t = ![0, 0] ∧ win0_4.index t = ![t.val, 0] := by
  revert t; decide +kernel

theorem lt16 (t : Fin cfg0.N) : t.val < 16 := lt_of_lt_of_eq t.isLt (N_0 : cfg0.N = 16)

theorem iblkH (c : Dev nD) (t : Fin cfg0.N) : iblk m c 0 t = HDY m c := by funext j; blk_ext [iblk, V, idx t]
theorem iblkHW (c : Dev nD) (t : Fin cfg0.N) : iblk m c 1 t = HW m c := by funext j; blk_ext [iblk, V, idx t]
theorem iblkW (c : Dev nD) (t : Fin cfg0.N) : iblk m c 3 t = WQ m c := by funext j; blk_ext [iblk, V, idx t]

/-- Row block `t` of `v`. -/
def rowBlk (v : Vec Ideal S8192x4096 .f32) (t : Fin cfg0.N) : Vec Ideal S512x4096 .f32 := fun j =>
  v (ix2 ⟨t.val * 512 + (j 0).val, by have := lt16 t; have : (j 0).val < 512 := (j 0).isLt; omega⟩ (j 1))

theorem iblkV (c : Dev nD) (t : Fin cfg0.N) : iblk m c 2 t = rowBlk (DY m c) t := by
  funext j; unfold rowBlk; blk_ext [iblk, V, idx t]

/-! ### The body's values -/

/-- Element `k` of a history, as the body loads it. -/
def rd (h : Vec Ideal S16 .f32) (k : ℕ) (inb : ∀ a, (![k] : Fin 1 → ℕ) a + (![1] : Fin 1 → ℕ) a ≤ S16.size a) : EReal :=
  View.ld h (Rect.unit ![k] ![1] inb) (Shape.Idx.first (Nat.lt_of_lt_of_eq Nat.zero_lt_one numel1_S1.symm))

theorem lt_of_inb {k : ℕ} (inb : ∀ a, (![k] : Fin 1 → ℕ) a + (![1] : Fin 1 → ℕ) a ≤ S16.size a) : k < 16 := inb 0

theorem rd_eq (h : Vec Ideal S16 .f32) (k : ℕ) (inb : ∀ a, (![k] : Fin 1 → ℕ) a + (![1] : Fin 1 → ℕ) a ≤ S16.size a) :
    rd h k inb = h (ix1 ⟨k, lt_of_inb inb⟩) := by
  unfold rd View.ld
  refine congrArg h (funext fun a => Fin.ext ?_)
  have : a = 0 := Subsingleton.elim a 0
  subst this
  rfl

/-- The body's maximum of two scalars. -/
def maxS (a b : EReal) : EReal := Scalar.maximumf (F := Ideal) (φ := .f32) a b

/-- The maximum of a history, as the body computes it. -/
def hmax (h : Vec Ideal S16 .f32) : EReal :=
  maxS (maxS (maxS (maxS (maxS (maxS (maxS (maxS (maxS (maxS (maxS (maxS (maxS (maxS (maxS (rd h 0 inb_S16_S1_0) (rd h 1 inb_S16_S1_1)) (rd h 2 inb_S16_S1_2)) (rd h 3 inb_S16_S1_3)) (rd h 4 inb_S16_S1_4)) (rd h 5 inb_S16_S1_5)) (rd h 6 inb_S16_S1_6)) (rd h 7 inb_S16_S1_7)) (rd h 8 inb_S16_S1_8)) (rd h 9 inb_S16_S1_9)) (rd h 10 inb_S16_S1_10)) (rd h 11 inb_S16_S1_11)) (rd h 12 inb_S16_S1_12)) (rd h 13 inb_S16_S1_13)) (rd h 14 inb_S16_S1_14)) (rd h 15 inb_S16_S1_15)

theorem hmax_eq (h : Vec Ideal S16 .f32) : hmax h = Fp8Scale.maxOf fun k : Fin 16 => h (ix1 k) := by
  refine Fp8Scale.eq_maxOf_of _ _ fun b => ?_
  unfold hmax maxS
  simp only [rd_eq, Ideal.scalar_maximumf_def, max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ ⟨i, hi⟩
    interval_cases i <;> assumption
  · intro hb
    simp only [hb, and_self]

/-- One chunk of columns of the product, scaled. -/
def prodBlk (s : EReal) (w : Vec Ideal S512x4096 .fp8e4m3) (q : Vec Ideal S512x4096 .fp8e5m2) : Vec Ideal S512x512 .f32 :=
  k0_pay41 (F := Ideal) s w q

/-- The block's product, chunk by chunk. -/
def yBlk (s : EReal) (q : Vec Ideal S512x4096 .fp8e5m2) (w : Vec Ideal S4096x4096 .fp8e4m3) : Vec Ideal S512x4096 .f32 :=
  View.canon (Val := Elt Ideal) [
      ⟨Rect.unit ![0, 3584] ![512, 512] inb_S512x4096_S512x512_0_3584, prodBlk s (View.ld w (Rect.unit ![3584, 0] ![512, 4096] inb_S4096x4096_S512x4096_3584_0)) q⟩,
      ⟨Rect.unit ![0, 3072] ![512, 512] inb_S512x4096_S512x512_0_3072, prodBlk s (View.ld w (Rect.unit ![3072, 0] ![512, 4096] inb_S4096x4096_S512x4096_3072_0)) q⟩,
      ⟨Rect.unit ![0, 2560] ![512, 512] inb_S512x4096_S512x512_0_2560, prodBlk s (View.ld w (Rect.unit ![2560, 0] ![512, 4096] inb_S4096x4096_S512x4096_2560_0)) q⟩,
      ⟨Rect.unit ![0, 2048] ![512, 512] inb_S512x4096_S512x512_0_2048, prodBlk s (View.ld w (Rect.unit ![2048, 0] ![512, 4096] inb_S4096x4096_S512x4096_2048_0)) q⟩,
      ⟨Rect.unit ![0, 1536] ![512, 512] inb_S512x4096_S512x512_0_1536, prodBlk s (View.ld w (Rect.unit ![1536, 0] ![512, 4096] inb_S4096x4096_S512x4096_1536_0)) q⟩,
      ⟨Rect.unit ![0, 1024] ![512, 512] inb_S512x4096_S512x512_0_1024, prodBlk s (View.ld w (Rect.unit ![1024, 0] ![512, 4096] inb_S4096x4096_S512x4096_1024_0)) q⟩,
      ⟨Rect.unit ![0, 512] ![512, 512] inb_S512x4096_S512x512_0_512, prodBlk s (View.ld w (Rect.unit ![512, 0] ![512, 4096] inb_S4096x4096_S512x4096_512_0)) q⟩,
      ⟨Rect.unit ![0, 0] ![512, 512] inb_S512x4096_S512x512_0_0, prodBlk s (View.ld w (Rect.unit ![0, 0] ![512, 4096] inb_S4096x4096_S512x4096_0_0)) q⟩]

theorem yBlk_apply (s : EReal) (q : Vec Ideal S512x4096 .fp8e5m2) (w : Vec Ideal S4096x4096 .fp8e4m3) (j : S512x4096.Idx) :
    yBlk s q w j = (∑ k : Fin 4096, q (ix2 (j 0) k) * w (ix2 (j 1) k)) * s := by
  unfold yBlk
  canon_tiles x h
  all_goals
    unfold prodBlk k0_pay41
    pointwise
    refine congrArg (· * s) (Finset.sum_congr rfl fun k _ => ?_)
    congr 1 <;> blk_ext []

/-- The codes of a block. -/
def qBlk (i : EReal) (v : Vec Ideal S512x4096 .f32) : Vec Ideal S512x4096 .fp8e5m2 :=
  truncf .fp8e5m2 (minimumf (F := Ideal) (broadcast S512x4096 (Scalar.ofBits .f32 0x47600000#32))
    (maximumf (broadcast S512x4096 (Scalar.ofBits .f32 0xC7600000#32)) (mulf v (broadcast S512x4096 i)))) bitsLt_fp8e5m2_f32

theorem qBlk_apply (i : EReal) (v : Vec Ideal S512x4096 .f32) (j : S512x4096.Idx) :
    qBlk i v j = Fp8Scale.code 0xC7600000#32 0x47600000#32 (v j) i := by
  unfold qBlk Fp8Scale.code
  pointwise

/-- The greatest magnitudes of a block, folded to 8 rows. -/
def partBlk (v : Vec Ideal S512x4096 .f32) : Vec Ideal S8x4096 .f32 := k0_pay48 (F := Ideal) v

theorem partBlk_apply (v : Vec Ideal S512x4096 .f32) (j : S8x4096.Idx) :
    partBlk v j = Fp8Scale.maxOf fun a : Fin 64 =>
      let i : S512x4096.Idx := ix2 ⟨a.val * 8 + (j 0).val, by have : (j 0).val < 8 := (j 0).isLt; have := a.isLt; omega⟩ (j 1)
      max (v i) (-v i) := by
  rw [← Fp8Scale.fold_eq_maxOf]
  unfold partBlk k0_pay48
  pointwise
  rfl

/-- The new history. -/
def histBlk (h : Vec Ideal S16 .f32) (a : EReal) : Vec Ideal S16 .f32 :=
  View.canon (Val := Elt Ideal) [
      ⟨Rect.unit ![15] ![1] inb_S16_S1_15, fun _ => a⟩,
      ⟨Rect.unit ![14] ![1] inb_S16_S1_14, fun _ => rd h 15 inb_S16_S1_15⟩,
      ⟨Rect.unit ![13] ![1] inb_S16_S1_13, fun _ => rd h 14 inb_S16_S1_14⟩,
      ⟨Rect.unit ![12] ![1] inb_S16_S1_12, fun _ => rd h 13 inb_S16_S1_13⟩,
      ⟨Rect.unit ![11] ![1] inb_S16_S1_11, fun _ => rd h 12 inb_S16_S1_12⟩,
      ⟨Rect.unit ![10] ![1] inb_S16_S1_10, fun _ => rd h 11 inb_S16_S1_11⟩,
      ⟨Rect.unit ![9] ![1] inb_S16_S1_9, fun _ => rd h 10 inb_S16_S1_10⟩,
      ⟨Rect.unit ![8] ![1] inb_S16_S1_8, fun _ => rd h 9 inb_S16_S1_9⟩,
      ⟨Rect.unit ![7] ![1] inb_S16_S1_7, fun _ => rd h 8 inb_S16_S1_8⟩,
      ⟨Rect.unit ![6] ![1] inb_S16_S1_6, fun _ => rd h 7 inb_S16_S1_7⟩,
      ⟨Rect.unit ![5] ![1] inb_S16_S1_5, fun _ => rd h 6 inb_S16_S1_6⟩,
      ⟨Rect.unit ![4] ![1] inb_S16_S1_4, fun _ => rd h 5 inb_S16_S1_5⟩,
      ⟨Rect.unit ![3] ![1] inb_S16_S1_3, fun _ => rd h 4 inb_S16_S1_4⟩,
      ⟨Rect.unit ![2] ![1] inb_S16_S1_2, fun _ => rd h 3 inb_S16_S1_3⟩,
      ⟨Rect.unit ![1] ![1] inb_S16_S1_1, fun _ => rd h 2 inb_S16_S1_2⟩,
      ⟨Rect.unit ![0] ![1] inb_S16_S1_0, fun _ => rd h 1 inb_S16_S1_1⟩]

theorem histBlk_apply (h : Vec Ideal S16 .f32) (a : EReal) (j : S16.Idx) :
    histBlk h a j = Fp8Scale.push (fun k => h (ix1 k)) a (j 0) := by
  unfold histBlk
  canon_tiles x hx
  all_goals
    unfold Fp8Scale.push
    dsimp only
    split_ifs with hk
    all_goals first
      | (exfalso; omega)
      | rfl
      | (rw [rd_eq]
         exact congrArg (fun i => h (ix1 i)) (Fin.ext (by dsimp only; omega)))

/-! ### What a grid point leaves -/

theorem caseABC (t : Fin cfg0.N) : (t.val % 16 = 0 ∧ ¬1 ≤ t.val ∧ ¬t.val % 16 = 15) ∨
    (¬t.val % 16 = 0 ∧ 1 ≤ t.val ∧ ¬t.val % 16 = 15) ∨ (¬t.val % 16 = 0 ∧ 1 ≤ t.val ∧ t.val % 16 = 15) := by
  have := lt16 t
  omega

theorem outY (c : Dev nD) (t : Fin cfg0.N) : (outsAt0 m c t.val t.isLt).1 =
    yBlk ((Fp8Scale.scaleK 0x37924925#32 (hmax (iblk m c 0 t))) * Fp8Scale.scaleK 0x3B124925#32 (hmax (iblk m c 1 t)))
      (qBlk (Fp8Scale.invK 0x37924925#32 (hmax (iblk m c 0 t))) (iblk m c 2 t)) (iblk m c 3 t) := by
  rcases caseABC t with ⟨h0, h1, h2⟩ | ⟨h0, h1, h2⟩ | ⟨h0, h1, h2⟩
  · rw [outsAt0_A m c t h0 h1 h2]
    frame_out
    rfl
  · rw [outsAt0_B m c t h0 h1 h2]
    frame_out
    rfl
  · rw [outsAt0_C m c t h0 h1 h2]
    frame_out
    rfl

theorem outQ (c : Dev nD) (t : Fin cfg0.N) : (outsAt0 m c t.val t.isLt).2.1 =
    qBlk (Fp8Scale.invK 0x37924925#32 (hmax (iblk m c 0 t))) (iblk m c 2 t) := by
  rcases caseABC t with ⟨h0, h1, h2⟩ | ⟨h0, h1, h2⟩ | ⟨h0, h1, h2⟩
  · rw [outsAt0_A m c t h0 h1 h2]
    frame_out
    rfl
  · rw [outsAt0_B m c t h0 h1 h2]
    frame_out
    rfl
  · rw [outsAt0_C m c t h0 h1 h2]
    frame_out
    rfl

theorem outS (c : Dev nD) (t : Fin cfg0.N) : (outsAt0 m c t.val t.isLt).2.2.1 = fun _ => (Fp8Scale.scaleK 0x37924925#32 (hmax (iblk m c 0 t))) := by
  rcases caseABC t with ⟨h0, h1, h2⟩ | ⟨h0, h1, h2⟩ | ⟨h0, h1, h2⟩
  · rw [outsAt0_A m c t h0 h1 h2]
    frame_out
    rfl
  · rw [outsAt0_B m c t h0 h1 h2]
    frame_out
    rfl
  · rw [outsAt0_C m c t h0 h1 h2]
    frame_out
    rfl

/-- The scratch after point `n`. -/
abbrev scr (c : Dev nD) (n : ℕ) (h : n < cfg0.N) : Vec Ideal S8x4096 .f32 := (outsAt0 m c n h).2.2.2.2

theorem scr_zero (c : Dev nD) (t : Fin cfg0.N) (h : t.val = 0) : scr m c t.val t.isLt = partBlk (iblk m c 2 t) := by
  unfold scr
  rw [outsAt0_A m c t (by omega) (by omega) (by omega)]
  frame_out
  unfold k0_pay49 partBlk
  rw [shapeCast_self]

theorem scr_succ (c : Dev nD) (t : Fin cfg0.N) (h : 1 ≤ t.val) : scr m c t.val t.isLt =
    fun j => max (scr m c (t.val - 1) (Nat.lt_of_le_of_lt (Nat.sub_le _ _) t.isLt) j) (partBlk (iblk m c 2 t) j) := by
  have := lt16 t
  unfold scr
  by_cases h2 : t.val % 16 = 15
  · rw [outsAt0_C m c t (by omega) h h2]
    frame_out
    simp only [read_unread_whole]
    funext j
    unfold k0_pay1 partBlk
    rw [shapeCast_self]
    rfl
  · rw [outsAt0_B m c t (by omega) h h2]
    frame_out
    simp only [read_unread_whole]
    funext j
    unfold k0_pay1 partBlk
    rw [shapeCast_self]
    rfl

/-- The maximum of the whole scratch. -/
def totBlk (v : Vec Ideal S8x4096 .f32) : EReal := k0_pay2 (F := Ideal) v

theorem totBlk_eq (v : Vec Ideal S8x4096 .f32) : totBlk v = Fp8Scale.maxOf fun i : Fin 8 × Fin 4096 => v (ix2 i.1 i.2) := by
  rw [← Fp8Scale.fold_eq_maxOf]
  unfold totBlk k0_pay2
  pointwise

theorem outH (c : Dev nD) (t : Fin cfg0.N) (h : t.val = 15) :
    (outsAt0 m c t.val t.isLt).2.2.2.1 = histBlk (iblk m c 0 t) (totBlk (scr m c t.val t.isLt)) := by
  unfold scr
  rw [outsAt0_C m c t (by omega) (by omega) (by omega)]
  frame_out
  rfl

end Cert.KernelBwdDxIdeal.BwdDx
-- ==== Proof.KerBwdDxEnd.lean ====
/-
  The input-gradient call at the ideal instance, after the run: the result arrays as functions of the
  arguments. The carried scratch after point `t` bounds the magnitudes of the first `t + 1` row blocks.
-/
module

public import proofs.«01_k».proof.Proof.KerBwdDx

@[expose] public section

set_option maxRecDepth 16384

noncomputable section

namespace Cert.KernelBwdDxIdeal.BwdDx

open Cert.KernelBwdDxIdeal Cert.KernelBwdDxIdeal.Gen Idealize.ShloMosaic Idealize.ShloMosaic.TcCoe Idealize.SL.Sem
open Idealize.ShloMosaic.Pipeline (Dat)

variable (m : (ℓ : Loc nD τ sig) → Buf (Elt Ideal) ℓ)

/-! ### The carried maximum -/

theorem partBlk_rowBlk_le (v : Vec Ideal S8192x4096 .f32) (t : Fin cfg0.N) (j : S8x4096.Idx) (b : EReal) :
    partBlk (rowBlk v t) j ≤ b ↔ ∀ r : Fin 8192, r.val % 8 = (j 0).val → r.val / 512 = t.val →
      max (v (ix2 r (j 1))) (-v (ix2 r (j 1))) ≤ b := by
  have hj : (j 0).val < 8 := (j 0).isLt
  have ht := lt16 t
  rw [partBlk_apply, Fp8Scale.maxOf_le_iff]
  constructor
  · intro h r h1 h2
    have hr := r.isLt
    have h3 := h ⟨r.val % 512 / 8, by omega⟩
    have : (⟨t.val * 512 + (r.val % 512 / 8 * 8 + (j 0).val), by omega⟩ : Fin 8192) = r := Fin.ext (by dsimp only; omega)
    dsimp only [rowBlk, ix2] at h3
    rw [← this]
    exact h3
  · intro h a
    have ha := a.isLt
    exact h ⟨t.val * 512 + (a.val * 8 + (j 0).val), by omega⟩ (by dsimp only; omega) (by dsimp only; omega)

theorem scr_le (c : Dev nD) (j : S8x4096.Idx) (b : EReal) : ∀ (n : ℕ) (hn : n < cfg0.N), scr m c n hn j ≤ b ↔
    ∀ r : Fin 8192, r.val % 8 = (j 0).val → r.val / 512 ≤ n → max (DY m c (ix2 r (j 1))) (-DY m c (ix2 r (j 1))) ≤ b
  | 0, hn => by
    rw [scr_zero m c ⟨0, hn⟩ rfl, iblkV, partBlk_rowBlk_le]
    exact forall_congr' fun r => imp_congr_right fun _ => imp_congr_left (by dsimp only; omega)
  | n + 1, hn => by
    rw [scr_succ m c ⟨n + 1, hn⟩ (by dsimp only; omega), iblkV]
    dsimp only
    rw [max_le_iff, partBlk_rowBlk_le]
    simp only [Nat.add_sub_cancel]
    rw [scr_le c j b n (by omega)]
    constructor
    · rintro ⟨h1, h2⟩ r hr hn
      by_cases hc : r.val / 512 = n + 1
      · exact h2 r hr hc
      · exact h1 r hr (by omega)
    · intro h
      exact ⟨fun r hr hc => h r hr (by omega), fun r hr hc => h r hr (by omega)⟩

theorem tot_eq (c : Dev nD) (t : Fin cfg0.N) (h : t.val = 15) :
    totBlk (scr m c t.val t.isLt) = Fp8Scale.amax fun (r : Fin 8192) (k : Fin 4096) => DY m c (ix2 r k) := by
  refine Fp8Scale.eq_maxOf_of _ _ fun b => ?_
  rw [totBlk_eq, Fp8Scale.maxOf_le_iff]
  constructor
  · intro hb i
    have := i.1.isLt
    exact (scr_le m c (ix2 ⟨i.1.val % 8, by omega⟩ i.2) b t.val t.isLt).mp (hb (⟨i.1.val % 8, by omega⟩, i.2)) i.1 rfl (by omega)
  · intro hb i
    exact (scr_le m c (ix2 i.1 i.2) b t.val t.isLt).mpr fun r _ _ => hb (r, i.2)

/-! ### The result arrays -/

/-- The history of the quantised operand. -/
abbrev hdy (c : Dev nD) : Fin 16 → EReal := fun k => HDY m c (ix1 k)
/-- The history of `w`. -/
abbrev hw (c : Dev nD) : Fin 16 → EReal := fun k => HW m c (ix1 k)

theorem finalY (c : Dev nD) : (dats m 0 c).arrAt 4 cfg0.N = fun j =>
    (∑ k : Fin 4096, Fp8Scale.code 0xC7600000#32 0x47600000#32 (DY m c (ix2 (j 0) k)) (Fp8Scale.inv 0x37924925#32 (hdy m c)) *
      WQ m c (ix2 (j 1) k)) * (Fp8Scale.scale 0x37924925#32 (hdy m c) * Fp8Scale.scale 0x3B124925#32 (hw m c)) := by
  refine (dats m 0 c).arrAt_eq_of_covers 4 _ (by decide +kernel) fun t hf y => ?_
  blk_simp
  rw [after0_4, outY, yBlk_apply, iblkH, iblkHW, iblkV, iblkW]
  simp only [hmax_eq, Fp8Scale.scaleK_maxOf, Fp8Scale.invK_maxOf, qBlk_apply]
  refine congrArg₂ (· * ·) (Finset.sum_congr rfl fun k _ => congrArg₂ (· * ·) (congrArg (Fp8Scale.code _ _ · _) ?_) ?_) rfl
  · unfold rowBlk; blk_ext [idx t]
  · blk_ext [idx t]

theorem finalQ (c : Dev nD) : (dats m 0 c).arrAt 5 cfg0.N = fun j =>
    Fp8Scale.code 0xC7600000#32 0x47600000#32 (DY m c j) (Fp8Scale.inv 0x37924925#32 (hdy m c)) := by
  refine (dats m 0 c).arrAt_eq_of_covers 5 _ (by decide +kernel) fun t hf y => ?_
  blk_simp
  rw [after0_5, outQ, qBlk_apply, iblkH, iblkV]
  simp only [hmax_eq, Fp8Scale.invK_maxOf]
  refine congrArg (Fp8Scale.code _ _ · _) ?_
  unfold rowBlk; blk_ext [idx t]

theorem finalS (c : Dev nD) : (dats m 0 c).arrAt 6 cfg0.N = fun _ => Fp8Scale.scale 0x37924925#32 (hdy m c) := by
  refine (dats m 0 c).arrAt_eq_of_after_last 6 t0_15 (by decide +kernel) _ fun j => ?_
  blk_simp
  rw [after0_6, outS, iblkH, hmax_eq, Fp8Scale.scaleK_maxOf]

theorem finalH (c : Dev nD) : (dats m 0 c).arrAt 7 cfg0.N = fun j =>
    Fp8Scale.push (hdy m c) (Fp8Scale.amax fun (r : Fin 8192) (k : Fin 4096) => DY m c (ix2 r k)) (j 0) := by
  refine (dats m 0 c).arrAt_eq_of_after_last 7 t0_15 (by decide +kernel) _ fun j => ?_
  blk_simp
  rw [after0_7, outH m c t0_15 rfl, tot_eq m c t0_15 rfl, iblkH, histBlk_apply]

end Cert.KernelBwdDxIdeal.BwdDx
-- ==== Proof.RefBwdDx.lean ====
/-
  The input-gradient reference at the ideal instance: its result arrays as functions of the arguments.
-/
module

public import proofs.«01_k».proof.Proof.Gen.ReferenceBwdDxIdeal.Value
public import proofs.«01_k».proof.Proof.Quant
public import Idealize.ShloMosaic.Lib.Pipeline.ValueKit
public import Idealize.ShloMosaic.Lib.Pipeline.ReadBack

@[expose] public section

set_option maxRecDepth 16384

noncomputable section

namespace Cert.ReferenceBwdDxIdeal.BwdDx

open Cert.ReferenceBwdDxIdeal Cert.ReferenceBwdDxIdeal.Gen Idealize.ShloMosaic Idealize.ShloMosaic.TcCoe Idealize.SL.Sem
open Idealize.ShloMosaic.Pipeline (Dat)

variable (m : (ℓ : Loc nD τ sig) → Buf (Elt Ideal) ℓ)

abbrev DY (c : Dev nD) : Vec Ideal S8192x4096 .f32 := m ((c : Thread nD τ).loc main_arg0)
abbrev WQ (c : Dev nD) : Vec Ideal S4096x4096 .fp8e4m3 := m ((c : Thread nD τ).loc main_arg1)
abbrev HDY (c : Dev nD) : Vec Ideal S16 .f32 := m ((c : Thread nD τ).loc main_arg2)
abbrev HW (c : Dev nD) : Vec Ideal S16 .f32 := m ((c : Thread nD τ).loc main_arg3)
/-- The history of the quantised operand. -/
abbrev hdy (c : Dev nD) : Fin 16 → EReal := fun k => HDY m c (ix1 k)
/-- The history of `w`. -/
abbrev hw (c : Dev nD) : Fin 16 → EReal := fun k => HW m c (ix1 k)

theorem idx (t : Fin cfg0.N) : win0_0.index t = ![0] ∧ win0_2.index t = ![0, 0] ∧ win0_1.index t = ![0] ∧ win0_3.index t = ![0, 0] := by
  revert t; decide +kernel

theorem iblkH (c : Dev nD) : iblk m c 0 t0_0 = HDY m c := by funext j; blk_ext [iblk, V, idx t0_0]
theorem iblkV (c : Dev nD) : iblk m c 2 t0_0 = DY m c := by funext j; blk_ext [iblk, V, idx t0_0]
theorem iblkHW (c : Dev nD) : iblk m c 1 t0_0 = HW m c := by funext j; blk_ext [iblk, V, idx t0_0]
theorem iblkW (c : Dev nD) : iblk m c 3 t0_0 = WQ m c := by funext j; blk_ext [iblk, V, idx t0_0]

/-! ### The printed operations -/

theorem exp_eq (h : Vec Ideal S16 .f32) :
    k0_pay2 (F := Ideal) h = Fp8Scale.expR 0x37924925#32 (Fp8Scale.maxOf fun k : Fin 16 => h (ix1 k)) Fp8Scale.expOf := by
  rw [← Fp8Scale.histMaxV_eq shapeCasts_S16_S1x16 reduces_S1x16_S1 shapeCasts_S1_S1x1 inpos_S1x1_p0_0,
    ← (funext (Fp8Scale.expV_eq iota_S2x127_d0_w32 iota_S2x127_d1_w32 shapeCasts_S2x127_S1x2x127 reduces_S1x2x127_S1 shapeCasts_S1_S1x1x1
      inpos_S1x1x1_p0_0_0) : _ = Fp8Scale.expOf)]
  rfl

theorem scale_eq (h : Vec Ideal S16 .f32) : k0_pay3 (F := Ideal) h = Fp8Scale.scale 0x37924925#32 fun k : Fin 16 => h (ix1 k) := by
  unfold k0_pay3 Fp8Scale.scale
  rw [exp_eq]
  rfl

theorem code_eq (v : Vec Ideal S8192x4096 .f32) (h : Vec Ideal S16 .f32) (j : S8192x4096.Idx) : k0_pay4 (F := Ideal) v h j =
    Fp8Scale.code 0xC7600000#32 0x47600000#32 (v j) (Fp8Scale.inv 0x37924925#32 fun k : Fin 16 => h (ix1 k)) := by
  unfold k0_pay4 Fp8Scale.code Fp8Scale.inv
  rw [exp_eq]
  rfl

/-- The scale of `w`'s history, as the reference writes it. -/
def scaleW (h : Vec Ideal S16 .f32) : EReal :=
  Ideal.exp2 (Fp8Scale.expR 0x3B124925#32 (Fp8Scale.histMaxV shapeCasts_S16_S1x16 reduces_S1x16_S1 shapeCasts_S1_S1x1 inpos_S1x1_p0_0 h)
    (Fp8Scale.expV iota_S2x127_d0_w32 iota_S2x127_d1_w32 shapeCasts_S2x127_S1x2x127 reduces_S1x2x127_S1 shapeCasts_S1_S1x1x1 inpos_S1x1x1_p0_0_0))

theorem scaleW_eq (h : Vec Ideal S16 .f32) : scaleW h = Fp8Scale.scale 0x3B124925#32 fun k : Fin 16 => h (ix1 k) := by
  unfold scaleW Fp8Scale.scale
  rw [Fp8Scale.histMaxV_eq, (funext (Fp8Scale.expV_eq iota_S2x127_d0_w32 iota_S2x127_d1_w32 shapeCasts_S2x127_S1x2x127 reduces_S1x2x127_S1
    shapeCasts_S1_S1x1x1 inpos_S1x1x1_p0_0_0) : _ = Fp8Scale.expOf)]

theorem y_eq (s : EReal) (q : Vec Ideal S8192x4096 .f32) (h : Vec Ideal S16 .f32) (w : Vec Ideal S4096x4096 .fp8e4m3) (j : S8192x4096.Idx) :
    k0_pay6 (F := Ideal) s q h w j =
      (∑ k : Fin 4096, q (ix2 (j 0) k) * w (ix2 (j 1) k)) * (s * Fp8Scale.scale 0x3B124925#32 fun k : Fin 16 => h (ix1 k)) := by
  have e : k0_pay6 (F := Ideal) s q h w = fun j => (matmul (F := Ideal) (φ₁ := .fp8e5m2) (φ₂ := .fp8e4m3)
    dot_S8192x4096_S4096x4096_S8192x4096_1_1_0_0_n_n none q w (broadcast S8192x4096 (Scalar.ofBits .f32 0x00000000#32)) j : EReal) * (s * scaleW h) := rfl
  rw [e, scaleW_eq]
  pointwise

/-- The greatest magnitude, as the reference writes it. -/
def amaxV (x : Vec Ideal S8192x4096 .f32) : EReal :=
  extractAt ![0, 0, 0] (shapeCast S1x1x1 (multiReduction (F := Ideal) (φ := .f32) .maximumf [1, 2] S1
    (shapeCast S1x8192x4096 (absf x) shapeCasts_S8192x4096_S1x8192x4096) 0xFF800000#32 reduces_S1x8192x4096_S1 (.inl rfl) rfl)
    shapeCasts_S1_S1x1x1) inpos_S1x1x1_p0_0_0

theorem amaxV_eq (x : Vec Ideal S8192x4096 .f32) : amaxV x = Fp8Scale.amax fun (r : Fin 8192) (k : Fin 4096) => x (ix2 r k) := by
  unfold Fp8Scale.amax
  rw [← Fp8Scale.fold_eq_maxOf]
  unfold amaxV
  pointwise
  rfl

/-- The new history, as the reference writes it. -/
def pushV (h : Vec Ideal S15 .f32) (a : EReal) : Vec Ideal S16 .f32 :=
  concatenate S16 0 [⟨S15, h⟩, ⟨S1, broadcast S1 a⟩] concatenates_S15_S1_S16_d0

theorem pushV_eq (h : Vec Ideal S16 .f32) (a : EReal) (j : S16.Idx) :
    pushV (View.ld h (Rect.unit ![1] ![15] inb_S16_S15_1)) a j = Fp8Scale.push (fun k => h (ix1 k)) a (j 0) := by
  unfold pushV Fp8Scale.push
  pointwise
  split_ifs with h1 h2 h2
  · exact congrArg (fun i => h (ix1 i)) (Fin.ext (by dsimp only; omega))
  · omega
  · omega
  · rfl

theorem hist_eq (x : Vec Ideal S8192x4096 .f32) (h : Vec Ideal S15 .f32) : k0_pay1 (F := Ideal) x h = pushV h (amaxV x) := rfl

/-! ### The result arrays -/

theorem arrY (c : Dev nD) : (dats m 0 c).arrAt 4 cfg0.N =
    k0_pay6 (F := Ideal) (k0_pay3 (HDY m c)) (k0_pay4 (F := Ideal) (DY m c) (HDY m c)) (HW m c) (WQ m c) := by
  refine (dats m 0 c).arrAt_eq_of_after_last 4 t0_0 (by decide +kernel) _ fun j => ?_
  blk_simp
  rw [after0_4]
  unfold outsAt0
  frame_out
  simp only [read_unread_whole, iblkH, iblkV, iblkHW, iblkW]

theorem finalY (c : Dev nD) : (dats m 0 c).arrAt 4 cfg0.N = fun j =>
    (∑ k : Fin 4096, Fp8Scale.code 0xC7600000#32 0x47600000#32 (DY m c (ix2 (j 0) k)) (Fp8Scale.inv 0x37924925#32 (hdy m c)) *
      WQ m c (ix2 (j 1) k)) * (Fp8Scale.scale 0x37924925#32 (hdy m c) * Fp8Scale.scale 0x3B124925#32 (hw m c)) := by
  rw [arrY]
  funext j
  rw [y_eq, scale_eq]
  simp only [code_eq]

theorem arrQ (c : Dev nD) : (dats m 0 c).arrAt 5 cfg0.N =
    k0_pay5 (F := Ideal) (k0_pay4 (F := Ideal) (DY m c) (HDY m c)) := by
  refine (dats m 0 c).arrAt_eq_of_after_last 5 t0_0 (by decide +kernel) _ fun j => ?_
  blk_simp
  rw [after0_5]
  unfold outsAt0
  frame_out
  simp only [read_unread_whole, iblkH, iblkV, iblkHW, iblkW]

theorem finalQ (c : Dev nD) : (dats m 0 c).arrAt 5 cfg0.N = fun j =>
    Fp8Scale.code 0xC7600000#32 0x47600000#32 (DY m c j) (Fp8Scale.inv 0x37924925#32 (hdy m c)) := by
  rw [arrQ]
  funext j
  exact code_eq _ _ j

theorem arrS (c : Dev nD) : (dats m 0 c).arrAt 6 cfg0.N = fun _ =>
    k0_pay3 (F := Ideal) (HDY m c) := by
  refine (dats m 0 c).arrAt_eq_of_after_last 6 t0_0 (by decide +kernel) _ fun j => ?_
  blk_simp
  rw [after0_6]
  unfold outsAt0
  frame_out
  simp only [read_unread_whole, iblkH, iblkV, iblkHW, iblkW]

theorem finalS (c : Dev nD) : (dats m 0 c).arrAt 6 cfg0.N = fun _ => Fp8Scale.scale 0x37924925#32 (hdy m c) := by
  rw [arrS]
  rw [scale_eq]

theorem arrH (c : Dev nD) : (dats m 0 c).arrAt 7 cfg0.N =
    k0_pay1 (F := Ideal) (DY m c) (View.ld (HDY m c) (Rect.unit ![1] ![15] inb_S16_S15_1)) := by
  refine (dats m 0 c).arrAt_eq_of_after_last 7 t0_0 (by decide +kernel) _ fun j => ?_
  blk_simp
  rw [after0_7]
  unfold outsAt0
  frame_out
  simp only [read_unread_whole, iblkH, iblkV, iblkHW, iblkW]

theorem finalH (c : Dev nD) : (dats m 0 c).arrAt 7 cfg0.N = fun j =>
    Fp8Scale.push (hdy m c) (Fp8Scale.amax fun (r : Fin 8192) (k : Fin 4096) => DY m c (ix2 r k)) (j 0) := by
  rw [arrH]
  funext j
  rw [hist_eq, pushV_eq, amaxV_eq]

end Cert.ReferenceBwdDxIdeal.BwdDx
-- ==== Proof.KerQuantW.lean ====
/-
  The weight-quantising call at the ideal instance: what each grid point leaves in the output windows and
  in the carried scratch, as functions of the blocks it reads.
-/
module

public import proofs.«01_k».proof.Proof.Gen.KernelQuantWIdeal.Value
public import proofs.«01_k».proof.Proof.Quant
public import Idealize.ShloMosaic.Lib.Pipeline.ValueKit
public import Idealize.ShloMosaic.Lib.Pipeline.ReadBack

@[expose] public section

set_option maxRecDepth 16384

noncomputable section

namespace Cert.KernelQuantWIdeal.QuantW

open Cert.KernelQuantWIdeal Cert.KernelQuantWIdeal.Gen Idealize.ShloMosaic Idealize.ShloMosaic.TcCoe Idealize.SL.Sem
open Idealize.ShloMosaic.Pipeline (Dat)

variable (m : (ℓ : Loc nD τ sig) → Buf (Elt Ideal) ℓ)

abbrev W (c : Dev nD) : Vec Ideal S4096x4096 .f32 := m ((c : Thread nD τ).loc main_arg0)
abbrev HW (c : Dev nD) : Vec Ideal S16 .f32 := m ((c : Thread nD τ).loc main_arg1)

/-! ### The blocks a grid point reads -/

theorem idx (t : Fin cfg0.N) : win0_0.index t = ![0] ∧ win0_1.index t = ![t.val, 0] ∧ win0_2.index t = ![t.val, 0] := by
  revert t; decide +kernel

theorem lt16 (t : Fin cfg0.N) : t.val < 16 := lt_of_lt_of_eq t.isLt (N_0 : cfg0.N = 16)

theorem iblkH (c : Dev nD) (t : Fin cfg0.N) : iblk m c 0 t = HW m c := by funext j; blk_ext [iblk, V, idx t]

/-- Row block `t` of `v`. -/
def rowBlk (v : Vec Ideal S4096x4096 .f32) (t : Fin cfg0.N) : Vec Ideal S256x4096 .f32 := fun j =>
  v (ix2 ⟨t.val * 256 + (j 0).val, by have := lt16 t; have : (j 0).val < 256 := (j 0).isLt; omega⟩ (j 1))

theorem iblkV (c : Dev nD) (t : Fin cfg0.N) : iblk m c 1 t = rowBlk (W m c) t := by
  funext j; unfold rowBlk; blk_ext [iblk, V, idx t]

/-! ### The body's values -/

/-- Element `k` of a history, as the body loads it. -/
def rd (h : Vec Ideal S16 .f32) (k : ℕ) (inb : ∀ a, (![k] : Fin 1 → ℕ) a + (![1] : Fin 1 → ℕ) a ≤ S16.size a) : EReal :=
  View.ld h (Rect.unit ![k] ![1] inb) (Shape.Idx.first (Nat.lt_of_lt_of_eq Nat.zero_lt_one numel1_S1.symm))

theorem lt_of_inb {k : ℕ} (inb : ∀ a, (![k] : Fin 1 → ℕ) a + (![1] : Fin 1 → ℕ) a ≤ S16.size a) : k < 16 := inb 0

theorem rd_eq (h : Vec Ideal S16 .f32) (k : ℕ) (inb : ∀ a, (![k] : Fin 1 → ℕ) a + (![1] : Fin 1 → ℕ) a ≤ S16.size a) :
    rd h k inb = h (ix1 ⟨k, lt_of_inb inb⟩) := by
  unfold rd View.ld
  refine congrArg h (funext fun a => Fin.ext ?_)
  have : a = 0 := Subsingleton.elim a 0
  subst this
  rfl

/-- The body's maximum of two scalars. -/
def maxS (a b : EReal) : EReal := Scalar.maximumf (F := Ideal) (φ := .f32) a b

/-- The maximum of a history, as the body computes it. -/
def hmax (h : Vec Ideal S16 .f32) : EReal :=
  maxS (maxS (maxS (maxS (maxS (maxS (maxS (maxS (maxS (maxS (maxS (maxS (maxS (maxS (maxS (rd h 0 inb_S16_S1_0) (rd h 1 inb_S16_S1_1)) (rd h 2 inb_S16_S1_2)) (rd h 3 inb_S16_S1_3)) (rd h 4 inb_S16_S1_4)) (rd h 5 inb_S16_S1_5)) (rd h 6 inb_S16_S1_6)) (rd h 7 inb_S16_S1_7)) (rd h 8 inb_S16_S1_8)) (rd h 9 inb_S16_S1_9)) (rd h 10 inb_S16_S1_10)) (rd h 11 inb_S16_S1_11)) (rd h 12 inb_S16_S1_12)) (rd h 13 inb_S16_S1_13)) (rd h 14 inb_S16_S1_14)) (rd h 15 inb_S16_S1_15)

theorem hmax_eq (h : Vec Ideal S16 .f32) : hmax h = Fp8Scale.maxOf fun k : Fin 16 => h (ix1 k) := by
  refine Fp8Scale.eq_maxOf_of _ _ fun b => ?_
  unfold hmax maxS
  simp only [rd_eq, Ideal.scalar_maximumf_def, max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ ⟨i, hi⟩
    interval_cases i <;> assumption
  · intro hb
    simp only [hb, and_self]

/-- The codes of a block. -/
def qBlk (i : EReal) (v : Vec Ideal S256x4096 .f32) : Vec Ideal S256x4096 .fp8e4m3 :=
  truncf .fp8e4m3 (minimumf (F := Ideal) (broadcast S256x4096 (Scalar.ofBits .f32 0x43E00000#32))
    (maximumf (broadcast S256x4096 (Scalar.ofBits .f32 0xC3E00000#32)) (mulf v (broadcast S256x4096 i)))) bitsLt_fp8e4m3_f32

theorem qBlk_apply (i : EReal) (v : Vec Ideal S256x4096 .f32) (j : S256x4096.Idx) :
    qBlk i v j = Fp8Scale.code 0xC3E00000#32 0x43E00000#32 (v j) i := by
  unfold qBlk Fp8Scale.code
  pointwise

/-- The greatest magnitudes of a block, folded to 8 rows. -/
def partBlk (v : Vec Ideal S256x4096 .f32) : Vec Ideal S8x4096 .f32 := k0_pay21 (F := Ideal) v

theorem partBlk_apply (v : Vec Ideal S256x4096 .f32) (j : S8x4096.Idx) :
    partBlk v j = Fp8Scale.maxOf fun a : Fin 32 =>
      let i : S256x4096.Idx := ix2 ⟨a.val * 8 + (j 0).val, by have : (j 0).val < 8 := (j 0).isLt; have := a.isLt; omega⟩ (j 1)
      max (v i) (-v i) := by
  rw [← Fp8Scale.fold_eq_maxOf]
  unfold partBlk k0_pay21
  pointwise
  rfl

/-- The new history. -/
def histBlk (h : Vec Ideal S16 .f32) (a : EReal) : Vec Ideal S16 .f32 :=
  View.canon (Val := Elt Ideal) [
      ⟨Rect.unit ![15] ![1] inb_S16_S1_15, fun _ => a⟩,
      ⟨Rect.unit ![14] ![1] inb_S16_S1_14, fun _ => rd h 15 inb_S16_S1_15⟩,
      ⟨Rect.unit ![13] ![1] inb_S16_S1_13, fun _ => rd h 14 inb_S16_S1_14⟩,
      ⟨Rect.unit ![12] ![1] inb_S16_S1_12, fun _ => rd h 13 inb_S16_S1_13⟩,
      ⟨Rect.unit ![11] ![1] inb_S16_S1_11, fun _ => rd h 12 inb_S16_S1_12⟩,
      ⟨Rect.unit ![10] ![1] inb_S16_S1_10, fun _ => rd h 11 inb_S16_S1_11⟩,
      ⟨Rect.unit ![9] ![1] inb_S16_S1_9, fun _ => rd h 10 inb_S16_S1_10⟩,
      ⟨Rect.unit ![8] ![1] inb_S16_S1_8, fun _ => rd h 9 inb_S16_S1_9⟩,
      ⟨Rect.unit ![7] ![1] inb_S16_S1_7, fun _ => rd h 8 inb_S16_S1_8⟩,
      ⟨Rect.unit ![6] ![1] inb_S16_S1_6, fun _ => rd h 7 inb_S16_S1_7⟩,
      ⟨Rect.unit ![5] ![1] inb_S16_S1_5, fun _ => rd h 6 inb_S16_S1_6⟩,
      ⟨Rect.unit ![4] ![1] inb_S16_S1_4, fun _ => rd h 5 inb_S16_S1_5⟩,
      ⟨Rect.unit ![3] ![1] inb_S16_S1_3, fun _ => rd h 4 inb_S16_S1_4⟩,
      ⟨Rect.unit ![2] ![1] inb_S16_S1_2, fun _ => rd h 3 inb_S16_S1_3⟩,
      ⟨Rect.unit ![1] ![1] inb_S16_S1_1, fun _ => rd h 2 inb_S16_S1_2⟩,
      ⟨Rect.unit ![0] ![1] inb_S16_S1_0, fun _ => rd h 1 inb_S16_S1_1⟩]

theorem histBlk_apply (h : Vec Ideal S16 .f32) (a : EReal) (j : S16.Idx) :
    histBlk h a j = Fp8Scale.push (fun k => h (ix1 k)) a (j 0) := by
  unfold histBlk
  canon_tiles x hx
  all_goals
    unfold Fp8Scale.push
    dsimp only
    split_ifs with hk
    all_goals first
      | (exfalso; omega)
      | rfl
      | (rw [rd_eq]
         exact congrArg (fun i => h (ix1 i)) (Fin.ext (by dsimp only; omega)))

/-! ### What a grid point leaves -/

theorem caseABC (t : Fin cfg0.N) : (t.val % 16 = 0 ∧ ¬1 ≤ t.val ∧ ¬t.val % 16 = 15) ∨
    (¬t.val % 16 = 0 ∧ 1 ≤ t.val ∧ ¬t.val % 16 = 15) ∨ (¬t.val % 16 = 0 ∧ 1 ≤ t.val ∧ t.val % 16 = 15) := by
  have := lt16 t
  omega

theorem outQ (c : Dev nD) (t : Fin cfg0.N) : (outsAt0 m c t.val t.isLt).1 =
    qBlk (Fp8Scale.invK 0x3B124925#32 (hmax (iblk m c 0 t))) (iblk m c 1 t) := by
  rcases caseABC t with ⟨h0, h1, h2⟩ | ⟨h0, h1, h2⟩ | ⟨h0, h1, h2⟩
  · rw [outsAt0_A m c t h0 h1 h2]
    frame_out
    rfl
  · rw [outsAt0_B m c t h0 h1 h2]
    frame_out
    rfl
  · rw [outsAt0_C m c t h0 h1 h2]
    frame_out
    rfl

theorem outS (c : Dev nD) (t : Fin cfg0.N) : (outsAt0 m c t.val t.isLt).2.1 = fun _ => (Fp8Scale.scaleK 0x3B124925#32 (hmax (iblk m c 0 t))) := by
  rcases caseABC t with ⟨h0, h1, h2⟩ | ⟨h0, h1, h2⟩ | ⟨h0, h1, h2⟩
  · rw [outsAt0_A m c t h0 h1 h2]
    frame_out
    rfl
  · rw [outsAt0_B m c t h0 h1 h2]
    frame_out
    rfl
  · rw [outsAt0_C m c t h0 h1 h2]
    frame_out
    rfl

/-- The scratch after point `n`. -/
abbrev scr (c : Dev nD) (n : ℕ) (h : n < cfg0.N) : Vec Ideal S8x4096 .f32 := (outsAt0 m c n h).2.2.2

theorem scr_zero (c : Dev nD) (t : Fin cfg0.N) (h : t.val = 0) : scr m c t.val t.isLt = partBlk (iblk m c 1 t) := by
  unfold scr
  rw [outsAt0_A m c t (by omega) (by omega) (by omega)]
  frame_out
  unfold k0_pay22 partBlk
  rw [shapeCast_self]

theorem scr_succ (c : Dev nD) (t : Fin cfg0.N) (h : 1 ≤ t.val) : scr m c t.val t.isLt =
    fun j => max (scr m c (t.val - 1) (Nat.lt_of_le_of_lt (Nat.sub_le _ _) t.isLt) j) (partBlk (iblk m c 1 t) j) := by
  have := lt16 t
  unfold scr
  by_cases h2 : t.val % 16 = 15
  · rw [outsAt0_C m c t (by omega) h h2]
    frame_out
    simp only [read_unread_whole]
    funext j
    unfold k0_pay23 partBlk
    rw [shapeCast_self]
    rfl
  · rw [outsAt0_B m c t (by omega) h h2]
    frame_out
    simp only [read_unread_whole]
    funext j
    unfold k0_pay23 partBlk
    rw [shapeCast_self]
    rfl

/-- The maximum of the whole scratch. -/
def totBlk (v : Vec Ideal S8x4096 .f32) : EReal := k0_pay1 (F := Ideal) v

theorem totBlk_eq (v : Vec Ideal S8x4096 .f32) : totBlk v = Fp8Scale.maxOf fun i : Fin 8 × Fin 4096 => v (ix2 i.1 i.2) := by
  rw [← Fp8Scale.fold_eq_maxOf]
  unfold totBlk k0_pay1
  pointwise

theorem outH (c : Dev nD) (t : Fin cfg0.N) (h : t.val = 15) :
    (outsAt0 m c t.val t.isLt).2.2.1 = histBlk (iblk m c 0 t) (totBlk (scr m c t.val t.isLt)) := by
  unfold scr
  rw [outsAt0_C m c t (by omega) (by omega) (by omega)]
  frame_out
  rfl

end Cert.KernelQuantWIdeal.QuantW
-- ==== Proof.KerQuantWEnd.lean ====
/-
  The weight-quantising call at the ideal instance, after the run: the result arrays as functions of the
  arguments. The carried scratch after point `t` bounds the magnitudes of the first `t + 1` row blocks.
-/
module

public import proofs.«01_k».proof.Proof.KerQuantW

@[expose] public section

set_option maxRecDepth 16384

noncomputable section

namespace Cert.KernelQuantWIdeal.QuantW

open Cert.KernelQuantWIdeal Cert.KernelQuantWIdeal.Gen Idealize.ShloMosaic Idealize.ShloMosaic.TcCoe Idealize.SL.Sem
open Idealize.ShloMosaic.Pipeline (Dat)

variable (m : (ℓ : Loc nD τ sig) → Buf (Elt Ideal) ℓ)

/-! ### The carried maximum -/

theorem partBlk_rowBlk_le (v : Vec Ideal S4096x4096 .f32) (t : Fin cfg0.N) (j : S8x4096.Idx) (b : EReal) :
    partBlk (rowBlk v t) j ≤ b ↔ ∀ r : Fin 4096, r.val % 8 = (j 0).val → r.val / 256 = t.val →
      max (v (ix2 r (j 1))) (-v (ix2 r (j 1))) ≤ b := by
  have hj : (j 0).val < 8 := (j 0).isLt
  have ht := lt16 t
  rw [partBlk_apply, Fp8Scale.maxOf_le_iff]
  constructor
  · intro h r h1 h2
    have hr := r.isLt
    have h3 := h ⟨r.val % 256 / 8, by omega⟩
    have : (⟨t.val * 256 + (r.val % 256 / 8 * 8 + (j 0).val), by omega⟩ : Fin 4096) = r := Fin.ext (by dsimp only; omega)
    dsimp only [rowBlk, ix2] at h3
    rw [← this]
    exact h3
  · intro h a
    have ha := a.isLt
    exact h ⟨t.val * 256 + (a.val * 8 + (j 0).val), by omega⟩ (by dsimp only; omega) (by dsimp only; omega)

theorem scr_le (c : Dev nD) (j : S8x4096.Idx) (b : EReal) : ∀ (n : ℕ) (hn : n < cfg0.N), scr m c n hn j ≤ b ↔
    ∀ r : Fin 4096, r.val % 8 = (j 0).val → r.val / 256 ≤ n → max (W m c (ix2 r (j 1))) (-W m c (ix2 r (j 1))) ≤ b
  | 0, hn => by
    rw [scr_zero m c ⟨0, hn⟩ rfl, iblkV, partBlk_rowBlk_le]
    exact forall_congr' fun r => imp_congr_right fun _ => imp_congr_left (by dsimp only; omega)
  | n + 1, hn => by
    rw [scr_succ m c ⟨n + 1, hn⟩ (by dsimp only; omega), iblkV]
    dsimp only
    rw [max_le_iff, partBlk_rowBlk_le]
    simp only [Nat.add_sub_cancel]
    rw [scr_le c j b n (by omega)]
    constructor
    · rintro ⟨h1, h2⟩ r hr hn
      by_cases hc : r.val / 256 = n + 1
      · exact h2 r hr hc
      · exact h1 r hr (by omega)
    · intro h
      exact ⟨fun r hr hc => h r hr (by omega), fun r hr hc => h r hr (by omega)⟩

theorem tot_eq (c : Dev nD) (t : Fin cfg0.N) (h : t.val = 15) :
    totBlk (scr m c t.val t.isLt) = Fp8Scale.amax fun (r : Fin 4096) (k : Fin 4096) => W m c (ix2 r k) := by
  refine Fp8Scale.eq_maxOf_of _ _ fun b => ?_
  rw [totBlk_eq, Fp8Scale.maxOf_le_iff]
  constructor
  · intro hb i
    have := i.1.isLt
    exact (scr_le m c (ix2 ⟨i.1.val % 8, by omega⟩ i.2) b t.val t.isLt).mp (hb (⟨i.1.val % 8, by omega⟩, i.2)) i.1 rfl (by omega)
  · intro hb i
    exact (scr_le m c (ix2 i.1 i.2) b t.val t.isLt).mpr fun r _ _ => hb (r, i.2)

/-! ### The result arrays -/

/-- The history of the quantised operand. -/
abbrev hw (c : Dev nD) : Fin 16 → EReal := fun k => HW m c (ix1 k)

theorem finalQ (c : Dev nD) : (dats m 0 c).arrAt 2 cfg0.N = fun j =>
    Fp8Scale.code 0xC3E00000#32 0x43E00000#32 (W m c j) (Fp8Scale.inv 0x3B124925#32 (hw m c)) := by
  refine (dats m 0 c).arrAt_eq_of_covers 2 _ (by decide +kernel) fun t hf y => ?_
  blk_simp
  rw [after0_2, outQ, qBlk_apply, iblkH, iblkV]
  simp only [hmax_eq, Fp8Scale.invK_maxOf]
  refine congrArg (Fp8Scale.code _ _ · _) ?_
  unfold rowBlk; blk_ext [idx t]

theorem finalS (c : Dev nD) : (dats m 0 c).arrAt 3 cfg0.N = fun _ => Fp8Scale.scale 0x3B124925#32 (hw m c) := by
  refine (dats m 0 c).arrAt_eq_of_after_last 3 t0_15 (by decide +kernel) _ fun j => ?_
  blk_simp
  rw [after0_3, outS, iblkH, hmax_eq, Fp8Scale.scaleK_maxOf]

theorem finalH (c : Dev nD) : (dats m 0 c).arrAt 4 cfg0.N = fun j =>
    Fp8Scale.push (hw m c) (Fp8Scale.amax fun (r : Fin 4096) (k : Fin 4096) => W m c (ix2 r k)) (j 0) := by
  refine (dats m 0 c).arrAt_eq_of_after_last 4 t0_15 (by decide +kernel) _ fun j => ?_
  blk_simp
  rw [after0_4, outH m c t0_15 rfl, tot_eq m c t0_15 rfl, iblkH, histBlk_apply]

end Cert.KernelQuantWIdeal.QuantW
-- ==== Proof.RefQuantW.lean ====
/-
  The weight-quantising reference at the ideal instance: its result arrays as functions of the arguments.
-/
module

public import proofs.«01_k».proof.Proof.Gen.ReferenceQuantWIdeal.Value
public import proofs.«01_k».proof.Proof.Quant
public import Idealize.ShloMosaic.Lib.Pipeline.ValueKit
public import Idealize.ShloMosaic.Lib.Pipeline.ReadBack

@[expose] public section

set_option maxRecDepth 16384

noncomputable section

namespace Cert.ReferenceQuantWIdeal.QuantW

open Cert.ReferenceQuantWIdeal Cert.ReferenceQuantWIdeal.Gen Idealize.ShloMosaic Idealize.ShloMosaic.TcCoe Idealize.SL.Sem
open Idealize.ShloMosaic.Pipeline (Dat)

variable (m : (ℓ : Loc nD τ sig) → Buf (Elt Ideal) ℓ)

abbrev W (c : Dev nD) : Vec Ideal S4096x4096 .f32 := m ((c : Thread nD τ).loc main_arg0)
abbrev HW (c : Dev nD) : Vec Ideal S16 .f32 := m ((c : Thread nD τ).loc main_arg1)
/-- The history of the quantised operand. -/
abbrev hw (c : Dev nD) : Fin 16 → EReal := fun k => HW m c (ix1 k)

theorem idx (t : Fin cfg0.N) : win0_0.index t = ![0] ∧ win0_1.index t = ![0, 0] := by
  revert t; decide +kernel

theorem iblkH (c : Dev nD) : iblk m c 0 t0_0 = HW m c := by funext j; blk_ext [iblk, V, idx t0_0]
theorem iblkV (c : Dev nD) : iblk m c 1 t0_0 = W m c := by funext j; blk_ext [iblk, V, idx t0_0]

/-! ### The printed operations -/

theorem exp_eq (h : Vec Ideal S16 .f32) :
    k0_pay3 (F := Ideal) h = Fp8Scale.expR 0x3B124925#32 (Fp8Scale.maxOf fun k : Fin 16 => h (ix1 k)) Fp8Scale.expOf := by
  rw [← Fp8Scale.histMaxV_eq shapeCasts_S16_S1x16 reduces_S1x16_S1 shapeCasts_S1_S1x1 inpos_S1x1_p0_0,
    ← (funext (Fp8Scale.expV_eq iota_S2x127_d0_w32 iota_S2x127_d1_w32 shapeCasts_S2x127_S1x2x127 reduces_S1x2x127_S1 shapeCasts_S1_S1x1x1
      inpos_S1x1x1_p0_0_0) : _ = Fp8Scale.expOf)]
  rfl

theorem scale_eq (h : Vec Ideal S16 .f32) : k0_pay4 (F := Ideal) h = Fp8Scale.scale 0x3B124925#32 fun k : Fin 16 => h (ix1 k) := by
  unfold k0_pay4 Fp8Scale.scale
  rw [exp_eq]
  rfl

theorem code_eq (v : Vec Ideal S4096x4096 .f32) (h : Vec Ideal S16 .f32) (j : S4096x4096.Idx) : k0_pay5 (F := Ideal) v h j =
    Fp8Scale.code 0xC3E00000#32 0x43E00000#32 (v j) (Fp8Scale.inv 0x3B124925#32 fun k : Fin 16 => h (ix1 k)) := by
  unfold k0_pay5 Fp8Scale.code Fp8Scale.inv
  rw [exp_eq]
  rfl

/-- The greatest magnitude, as the reference writes it. -/
def amaxV (x : Vec Ideal S4096x4096 .f32) : EReal :=
  extractAt ![0, 0, 0] (shapeCast S1x1x1 (multiReduction (F := Ideal) (φ := .f32) .maximumf [1, 2] S1
    (shapeCast S1x4096x4096 (absf x) shapeCasts_S4096x4096_S1x4096x4096) 0xFF800000#32 reduces_S1x4096x4096_S1 (.inl rfl) rfl)
    shapeCasts_S1_S1x1x1) inpos_S1x1x1_p0_0_0

theorem amaxV_eq (x : Vec Ideal S4096x4096 .f32) : amaxV x = Fp8Scale.amax fun (r : Fin 4096) (k : Fin 4096) => x (ix2 r k) := by
  unfold Fp8Scale.amax
  rw [← Fp8Scale.fold_eq_maxOf]
  unfold amaxV
  pointwise
  rfl

/-- The new history, as the reference writes it. -/
def pushV (h : Vec Ideal S15 .f32) (a : EReal) : Vec Ideal S16 .f32 :=
  concatenate S16 0 [⟨S15, h⟩, ⟨S1, broadcast S1 a⟩] concatenates_S15_S1_S16_d0

theorem pushV_eq (h : Vec Ideal S16 .f32) (a : EReal) (j : S16.Idx) :
    pushV (View.ld h (Rect.unit ![1] ![15] inb_S16_S15_1)) a j = Fp8Scale.push (fun k => h (ix1 k)) a (j 0) := by
  unfold pushV Fp8Scale.push
  pointwise
  split_ifs with h1 h2 h2
  · exact congrArg (fun i => h (ix1 i)) (Fin.ext (by dsimp only; omega))
  · omega
  · omega
  · rfl

theorem hist_eq (x : Vec Ideal S4096x4096 .f32) (h : Vec Ideal S15 .f32) : k0_pay2 (F := Ideal) x h = pushV h (amaxV x) := rfl

/-! ### The result arrays -/

theorem arrQ (c : Dev nD) : (dats m 0 c).arrAt 2 cfg0.N =
    k0_pay1 (F := Ideal) (k0_pay5 (F := Ideal) (W m c) (HW m c)) := by
  refine (dats m 0 c).arrAt_eq_of_after_last 2 t0_0 (by decide +kernel) _ fun j => ?_
  blk_simp
  rw [after0_2]
  unfold outsAt0
  frame_out
  simp only [read_unread_whole, iblkH, iblkV]

theorem finalQ (c : Dev nD) : (dats m 0 c).arrAt 2 cfg0.N = fun j =>
    Fp8Scale.code 0xC3E00000#32 0x43E00000#32 (W m c j) (Fp8Scale.inv 0x3B124925#32 (hw m c)) := by
  rw [arrQ]
  funext j
  exact code_eq _ _ j

theorem arrS (c : Dev nD) : (dats m 0 c).arrAt 3 cfg0.N = fun _ =>
    k0_pay4 (F := Ideal) (HW m c) := by
  refine (dats m 0 c).arrAt_eq_of_after_last 3 t0_0 (by decide +kernel) _ fun j => ?_
  blk_simp
  rw [after0_3]
  unfold outsAt0
  frame_out
  simp only [read_unread_whole, iblkH, iblkV]

theorem finalS (c : Dev nD) : (dats m 0 c).arrAt 3 cfg0.N = fun _ => Fp8Scale.scale 0x3B124925#32 (hw m c) := by
  rw [arrS]
  rw [scale_eq]

theorem arrH (c : Dev nD) : (dats m 0 c).arrAt 4 cfg0.N =
    k0_pay2 (F := Ideal) (W m c) (View.ld (HW m c) (Rect.unit ![1] ![15] inb_S16_S15_1)) := by
  refine (dats m 0 c).arrAt_eq_of_after_last 4 t0_0 (by decide +kernel) _ fun j => ?_
  blk_simp
  rw [after0_4]
  unfold outsAt0
  frame_out
  simp only [read_unread_whole, iblkH, iblkV]

theorem finalH (c : Dev nD) : (dats m 0 c).arrAt 4 cfg0.N = fun j =>
    Fp8Scale.push (hw m c) (Fp8Scale.amax fun (r : Fin 4096) (k : Fin 4096) => W m c (ix2 r k)) (j 0) := by
  rw [arrH]
  funext j
  rw [hist_eq, pushV_eq, amaxV_eq]

end Cert.ReferenceQuantWIdeal.QuantW
-- ==== Proof.KerDw.lean ====
/-
  The weight-gradient call at the ideal instance: what each grid point leaves in the output window, and
  the result array after the run as a function of the arguments.
-/
module

public import proofs.«01_k».proof.Proof.Gen.KernelDwIdeal.Value
public import proofs.«01_k».proof.Proof.Quant
public import Idealize.ShloMosaic.Lib.Pipeline.ValueKit
public import Idealize.ShloMosaic.Lib.Pipeline.ReadBack

@[expose] public section

set_option maxRecDepth 16384

noncomputable section

namespace Cert.KernelDwIdeal.Dw

open Cert.KernelDwIdeal Cert.KernelDwIdeal.Gen Idealize.ShloMosaic Idealize.ShloMosaic.TcCoe Idealize.SL.Sem
open Idealize.ShloMosaic.Pipeline (Dat)

variable (m : (ℓ : Loc nD τ sig) → Buf (Elt Ideal) ℓ)

abbrev XQ (c : Dev nD) : Vec Ideal S8192x4096 .fp8e4m3 := m ((c : Thread nD τ).loc main_arg0)
abbrev DYQ (c : Dev nD) : Vec Ideal S8192x4096 .fp8e5m2 := m ((c : Thread nD τ).loc main_arg1)
abbrev HX (c : Dev nD) : Vec Ideal S16 .f32 := m ((c : Thread nD τ).loc main_arg2)
abbrev HDY (c : Dev nD) : Vec Ideal S16 .f32 := m ((c : Thread nD τ).loc main_arg3)
/-- The history of `x`. -/
abbrev hx (c : Dev nD) : Fin 16 → EReal := fun k => HX m c (ix1 k)
/-- The history of `dy`. -/
abbrev hdy (c : Dev nD) : Fin 16 → EReal := fun k => HDY m c (ix1 k)

/-! ### The blocks a grid point reads -/

theorem idx (t : Fin cfg0.N) : win0_0.index t = ![0] ∧ win0_1.index t = ![0] ∧ win0_2.index t = ![0, t.val % 8] ∧
    win0_3.index t = ![0, t.val / 8] ∧ win0_4.index t = ![t.val % 8, t.val / 8] := by
  revert t; decide +kernel

theorem lt16 (t : Fin cfg0.N) : t.val < 16 := lt_of_lt_of_eq t.isLt (N_0 : cfg0.N = 16)

theorem iblkHX (c : Dev nD) (t : Fin cfg0.N) : iblk m c 0 t = HX m c := by funext j; blk_ext [iblk, V, idx t]
theorem iblkHDY (c : Dev nD) (t : Fin cfg0.N) : iblk m c 1 t = HDY m c := by funext j; blk_ext [iblk, V, idx t]

/-- Column block `t % 8` of the codes of `x`. -/
def xBlk (v : Vec Ideal S8192x4096 .fp8e4m3) (t : Fin cfg0.N) : Vec Ideal S8192x512 .fp8e4m3 := fun j =>
  v (ix2 (j 0) ⟨t.val % 8 * 512 + (j 1).val, by have : (j 1).val < 512 := (j 1).isLt; omega⟩)

/-- Column block `t / 8` of the codes of `dy`. -/
def dyBlk (v : Vec Ideal S8192x4096 .fp8e5m2) (t : Fin cfg0.N) : Vec Ideal S8192x2048 .fp8e5m2 := fun j =>
  v (ix2 (j 0) ⟨t.val / 8 * 2048 + (j 1).val, by have := lt16 t; have : (j 1).val < 2048 := (j 1).isLt; omega⟩)

theorem iblkX (c : Dev nD) (t : Fin cfg0.N) : iblk m c 2 t = xBlk (XQ m c) t := by
  funext j; unfold xBlk; blk_ext [iblk, V, idx t]

theorem iblkDY (c : Dev nD) (t : Fin cfg0.N) : iblk m c 3 t = dyBlk (DYQ m c) t := by
  funext j; unfold dyBlk; blk_ext [iblk, V, idx t]

/-! ### The body's values -/

/-- Element `k` of a history, as the body loads it. -/
def rd (h : Vec Ideal S16 .f32) (k : ℕ) (inb : ∀ a, (![k] : Fin 1 → ℕ) a + (![1] : Fin 1 → ℕ) a ≤ S16.size a) : EReal :=
  View.ld h (Rect.unit ![k] ![1] inb) (Shape.Idx.first (Nat.lt_of_lt_of_eq Nat.zero_lt_one numel1_S1.symm))

theorem lt_of_inb {k : ℕ} (inb : ∀ a, (![k] : Fin 1 → ℕ) a + (![1] : Fin 1 → ℕ) a ≤ S16.size a) : k < 16 := inb 0

theorem rd_eq (h : Vec Ideal S16 .f32) (k : ℕ) (inb : ∀ a, (![k] : Fin 1 → ℕ) a + (![1] : Fin 1 → ℕ) a ≤ S16.size a) :
    rd h k inb = h (ix1 ⟨k, lt_of_inb inb⟩) := by
  unfold rd View.ld
  refine congrArg h (funext fun a => Fin.ext ?_)
  have : a = 0 := Subsingleton.elim a 0
  subst this
  rfl

/-- The body's maximum of two scalars. -/
def maxS (a b : EReal) : EReal := Scalar.maximumf (F := Ideal) (φ := .f32) a b

/-- The maximum of a history, as the body computes it. -/
def hmax (h : Vec Ideal S16 .f32) : EReal :=
  maxS (maxS (maxS (maxS (maxS (maxS (maxS (maxS (maxS (maxS (maxS (maxS (maxS (maxS (maxS (rd h 0 inb_S16_S1_0) (rd h 1 inb_S16_S1_1)) (rd h 2 inb_S16_S1_2)) (rd h 3 inb_S16_S1_3)) (rd h 4 inb_S16_S1_4)) (rd h 5 inb_S16_S1_5)) (rd h 6 inb_S16_S1_6)) (rd h 7 inb_S16_S1_7)) (rd h 8 inb_S16_S1_8)) (rd h 9 inb_S16_S1_9)) (rd h 10 inb_S16_S1_10)) (rd h 11 inb_S16_S1_11)) (rd h 12 inb_S16_S1_12)) (rd h 13 inb_S16_S1_13)) (rd h 14 inb_S16_S1_14)) (rd h 15 inb_S16_S1_15)

theorem hmax_eq (h : Vec Ideal S16 .f32) : hmax h = Fp8Scale.maxOf fun k : Fin 16 => h (ix1 k) := by
  refine Fp8Scale.eq_maxOf_of _ _ fun b => ?_
  unfold hmax maxS
  simp only [rd_eq, Ideal.scalar_maximumf_def, max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ ⟨i, hi⟩
    interval_cases i <;> assumption
  · intro hb
    simp only [hb, and_self]

/-- The block of the product, scaled. -/
def dwBlk (s : EReal) (x : Vec Ideal S8192x512 .fp8e4m3) (dy : Vec Ideal S8192x2048 .fp8e5m2) : Vec Ideal S512x2048 .f32 :=
  mulf (matmul (F := Ideal) (φ₁ := .fp8e4m3) (φ₂ := .fp8e5m2) dot_S8192x512_S8192x2048_S512x2048_0_0_1_1_n_n none x dy
    (constant S512x2048 .f32 0x00000000#32)) (broadcast S512x2048 s)

theorem dwBlk_apply (s : EReal) (x : Vec Ideal S8192x512 .fp8e4m3) (dy : Vec Ideal S8192x2048 .fp8e5m2) (j : S512x2048.Idx) :
    dwBlk s x dy j = (∑ k : Fin 8192, x (ix2 k (j 0)) * dy (ix2 k (j 1))) * s := by
  unfold dwBlk
  pointwise

theorem outDW (c : Dev nD) (t : Fin cfg0.N) : outsAt0 m c t =
    dwBlk (Fp8Scale.scaleK 0x3B124925#32 (hmax (iblk m c 0 t)) * Fp8Scale.scaleK 0x37924925#32 (hmax (iblk m c 1 t))) (iblk m c 2 t) (iblk m c 3 t) := by
  unfold outsAt0
  frame_out
  rfl

/-! ### The result array -/

theorem finalDW (c : Dev nD) : (dats m 0 c).arrAt 4 cfg0.N = fun j =>
    (∑ k : Fin 8192, XQ m c (ix2 k (j 0)) * DYQ m c (ix2 k (j 1))) * (Fp8Scale.scale 0x3B124925#32 (hx m c) * Fp8Scale.scale 0x37924925#32 (hdy m c)) := by
  refine (dats m 0 c).arrAt_eq_of_covers 4 _ (by decide +kernel) fun t hf y => ?_
  blk_simp
  rw [after0_4, outDW, dwBlk_apply, iblkHX, iblkHDY, iblkX, iblkDY]
  simp only [hmax_eq, Fp8Scale.scaleK_maxOf]
  refine congrArg₂ (· * ·) (Finset.sum_congr rfl fun k _ => congrArg₂ (· * ·) ?_ ?_) rfl
  · unfold xBlk; blk_ext [idx t]
  · unfold dyBlk; blk_ext [idx t]

end Cert.KernelDwIdeal.Dw
-- ==== Proof.RefDw.lean ====
/-
  The weight-gradient reference at the ideal instance: its result array as a function of the arguments.
-/
module

public import proofs.«01_k».proof.Proof.Gen.ReferenceDwIdeal.Value
public import proofs.«01_k».proof.Proof.Quant
public import Idealize.ShloMosaic.Lib.Pipeline.ValueKit
public import Idealize.ShloMosaic.Lib.Pipeline.ReadBack

@[expose] public section

set_option maxRecDepth 16384

noncomputable section

namespace Cert.ReferenceDwIdeal.Dw

open Cert.ReferenceDwIdeal Cert.ReferenceDwIdeal.Gen Idealize.ShloMosaic Idealize.ShloMosaic.TcCoe Idealize.SL.Sem
open Idealize.ShloMosaic.Pipeline (Dat)

variable (m : (ℓ : Loc nD τ sig) → Buf (Elt Ideal) ℓ)

abbrev XQ (c : Dev nD) : Vec Ideal S8192x4096 .fp8e4m3 := m ((c : Thread nD τ).loc main_arg0)
abbrev DYQ (c : Dev nD) : Vec Ideal S8192x4096 .fp8e5m2 := m ((c : Thread nD τ).loc main_arg1)
abbrev HX (c : Dev nD) : Vec Ideal S16 .f32 := m ((c : Thread nD τ).loc main_arg2)
abbrev HDY (c : Dev nD) : Vec Ideal S16 .f32 := m ((c : Thread nD τ).loc main_arg3)
/-- The history of `x`. -/
abbrev hx (c : Dev nD) : Fin 16 → EReal := fun k => HX m c (ix1 k)
/-- The history of `dy`. -/
abbrev hdy (c : Dev nD) : Fin 16 → EReal := fun k => HDY m c (ix1 k)

/-- The scale of a history, as the reference writes it, for the reciprocal `c` of the largest code. -/
def scaleV (c : BitVec 32) (h : Vec Ideal S16 .f32) : EReal :=
  Ideal.exp2 (Fp8Scale.expR c (Fp8Scale.histMaxV shapeCasts_S16_S1x16 reduces_S1x16_S1 shapeCasts_S1_S1x1 inpos_S1x1_p0_0 h)
    (Fp8Scale.expV iota_S2x127_d0_w32 iota_S2x127_d1_w32 shapeCasts_S2x127_S1x2x127 reduces_S1x2x127_S1 shapeCasts_S1_S1x1x1 inpos_S1x1x1_p0_0_0))

theorem scaleV_eq (c : BitVec 32) (h : Vec Ideal S16 .f32) : scaleV c h = Fp8Scale.scale c fun k : Fin 16 => h (ix1 k) := by
  unfold scaleV Fp8Scale.scale
  rw [Fp8Scale.histMaxV_eq, (funext (Fp8Scale.expV_eq iota_S2x127_d0_w32 iota_S2x127_d1_w32 shapeCasts_S2x127_S1x2x127 reduces_S1x2x127_S1
    shapeCasts_S1_S1x1x1 inpos_S1x1x1_p0_0_0) : _ = Fp8Scale.expOf)]

theorem dw_eq (hx hdy : Vec Ideal S16 .f32) (x : Vec Ideal S8192x4096 .fp8e4m3) (dy : Vec Ideal S8192x4096 .fp8e5m2) (j : S4096x4096.Idx) :
    k0_pay1 (F := Ideal) (k0_pay2 hx) (k0_pay3 hdy) (k0_pay4 hdy) k0_pay5 x dy j = (∑ k : Fin 8192, x (ix2 k (j 0)) * dy (ix2 k (j 1))) *
      (Fp8Scale.scale 0x3B124925#32 (fun k : Fin 16 => hx (ix1 k)) * Fp8Scale.scale 0x37924925#32 fun k : Fin 16 => hdy (ix1 k)) := by
  have e : k0_pay1 (F := Ideal) (k0_pay2 hx) (k0_pay3 hdy) (k0_pay4 hdy) k0_pay5 x dy = fun j => (matmul (F := Ideal) (φ₁ := .fp8e4m3)
    (φ₂ := .fp8e5m2) dot_S8192x4096_S8192x4096_S4096x4096_0_0_1_1_n_n none x dy
    (broadcast S4096x4096 (Scalar.ofBits .f32 0x00000000#32)) j : EReal) * (scaleV 0x3B124925#32 hx * scaleV 0x37924925#32 hdy) := rfl
  rw [e, scaleV_eq, scaleV_eq]
  pointwise

theorem finalDW (c : Dev nD) : (dats m 0 c).arrAt 4 cfg0.N = fun j =>
    (∑ k : Fin 8192, XQ m c (ix2 k (j 0)) * DYQ m c (ix2 k (j 1))) * (Fp8Scale.scale 0x3B124925#32 (hx m c) * Fp8Scale.scale 0x37924925#32 (hdy m c)) := by
  rw [Value.final4]
  funext j
  exact dw_eq _ _ _ _ j

end Cert.ReferenceDwIdeal.Dw
-- ==== Proof.lean ====
/-
  The certificate's claims: the frames, the kernels' ideal readings (no rewrite), and for the whole step and
  for each of its four calls the equality over the extended reals of the kernel's results and the reference's.
-/
module

public import proofs.«01_k».proof.Defs
public import proofs.«01_k».proof.Proof.Gen.ReferenceIdeal.Frame
public import proofs.«01_k».proof.Proof.Gen.KernelFwd.Frame
public import proofs.«01_k».proof.Proof.Gen.KernelFwdIdeal.Frame
public import proofs.«01_k».proof.Proof.Gen.ReferenceFwdIdeal.Frame
public import proofs.«01_k».proof.Proof.Gen.KernelBwdDx.Frame
public import proofs.«01_k».proof.Proof.Gen.KernelBwdDxIdeal.Frame
public import proofs.«01_k».proof.Proof.Gen.ReferenceBwdDxIdeal.Frame
public import proofs.«01_k».proof.Proof.Gen.KernelQuantW.Frame
public import proofs.«01_k».proof.Proof.Gen.KernelQuantWIdeal.Frame
public import proofs.«01_k».proof.Proof.Gen.ReferenceQuantWIdeal.Frame
public import proofs.«01_k».proof.Proof.Gen.KernelDw.Frame
public import proofs.«01_k».proof.Proof.Gen.KernelDwIdeal.Frame
public import proofs.«01_k».proof.Proof.Gen.ReferenceDwIdeal.Frame
public import proofs.«01_k».proof.Proof.Whole.Value
public import proofs.«01_k».proof.Proof.Whole.Printed
public import proofs.«01_k».proof.Proof.RefWhole
public import proofs.«01_k».proof.Proof.KerFwdEnd
public import proofs.«01_k».proof.Proof.RefFwd
public import proofs.«01_k».proof.Proof.KerBwdDxEnd
public import proofs.«01_k».proof.Proof.RefBwdDx
public import proofs.«01_k».proof.Proof.KerQuantWEnd
public import proofs.«01_k».proof.Proof.RefQuantW
public import proofs.«01_k».proof.Proof.KerDw
public import proofs.«01_k».proof.Proof.RefDw
public import Idealize.ShloMosaic.Adequacy
public import Idealize.ShloMosaic.Init

@[expose] public section

noncomputable section

namespace Cert.Proof

open Idealize.ShloMosaic Idealize.ShloMosaic.TcCoe Idealize.SL.Sem

section Whole

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (eX : Cert.ReferenceIdeal.Whole.X m' c = Cert.KernelIdeal.Whole.X m c) (eDY : Cert.ReferenceIdeal.Whole.DY m' c = Cert.KernelIdeal.Whole.DY m c)
  (eW : Cert.ReferenceIdeal.Whole.W m' c = Cert.KernelIdeal.Whole.W m c) (ehx : Cert.ReferenceIdeal.Whole.hx m' c = Cert.KernelIdeal.Whole.hx m c)
  (ehw : Cert.ReferenceIdeal.Whole.hw m' c = Cert.KernelIdeal.Whole.hw m c) (ehdy : Cert.ReferenceIdeal.Whole.hdy m' c = Cert.KernelIdeal.Whole.hdy m c)

include eX eW ehx ehw in
theorem sameY : (Cert.ReferenceIdeal.Gen.dats m' 0 c).arrAt 6 Cert.ReferenceIdeal.cfg0.N =
    Cert.KernelIdeal.Gen.W5 m ρ c (Proc.devRef .tc Cert.KernelIdeal.main_v3_0) :=
  (Cert.ReferenceIdeal.Whole.finalY m' c).trans (Eq.trans (by rw [eX, eW, ehx, ehw]; try rfl) (Cert.KernelIdeal.Whole.finalY m ρ c).symm)

include eDY eW ehdy ehw in
theorem sameDX : (Cert.ReferenceIdeal.Gen.dats m' 0 c).arrAt 7 Cert.ReferenceIdeal.cfg0.N =
    Cert.KernelIdeal.Gen.W5 m ρ c (Proc.devRef .tc Cert.KernelIdeal.main_v4_0) :=
  (Cert.ReferenceIdeal.Whole.finalDX m' c).trans (Eq.trans (by rw [eDY, eW, ehdy, ehw]; try rfl) (Cert.KernelIdeal.Whole.finalDX m ρ c).symm)

include eX eDY ehx ehdy in
theorem sameDW : (Cert.ReferenceIdeal.Gen.dats m' 0 c).arrAt 8 Cert.ReferenceIdeal.cfg0.N =
    Cert.KernelIdeal.Gen.W5 m ρ c (Proc.devRef .tc Cert.KernelIdeal.main_v5) :=
  (Cert.ReferenceIdeal.Whole.finalDW m' c).trans (Eq.trans (by rw [eX, eDY, ehx, ehdy]; try rfl) (Cert.KernelIdeal.Whole.finalDW m ρ c).symm)

include eX ehx in
theorem sameHX : (Cert.ReferenceIdeal.Gen.dats m' 0 c).arrAt 9 Cert.ReferenceIdeal.cfg0.N =
    Cert.KernelIdeal.Gen.W5 m ρ c (Proc.devRef .tc Cert.KernelIdeal.main_v3_3) :=
  (Cert.ReferenceIdeal.Whole.finalHX m' c).trans (Eq.trans (by rw [eX, ehx]; try rfl) (Cert.KernelIdeal.Whole.finalHX m ρ c).symm)

include eW ehw in
theorem sameHW : (Cert.ReferenceIdeal.Gen.dats m' 0 c).arrAt 10 Cert.ReferenceIdeal.cfg0.N =
    Cert.KernelIdeal.Gen.W5 m ρ c (Proc.devRef .tc Cert.KernelIdeal.main_v2_2) :=
  (Cert.ReferenceIdeal.Whole.finalHW m' c).trans (Eq.trans (by rw [eW, ehw]; try rfl) (Cert.KernelIdeal.Whole.finalHW m ρ c).symm)

include eDY ehdy in
theorem sameHDY : (Cert.ReferenceIdeal.Gen.dats m' 0 c).arrAt 11 Cert.ReferenceIdeal.cfg0.N =
    Cert.KernelIdeal.Gen.W5 m ρ c (Proc.devRef .tc Cert.KernelIdeal.main_v4_3) :=
  (Cert.ReferenceIdeal.Whole.finalHDY m' c).trans (Eq.trans (by rw [eDY, ehdy]; try rfl) (Cert.KernelIdeal.Whole.finalHDY m ρ c).symm)

include eX ehx in
theorem sameQX : (Cert.ReferenceIdeal.Gen.dats m' 0 c).arrAt 12 Cert.ReferenceIdeal.cfg0.N =
    Cert.KernelIdeal.Gen.W5 m ρ c (Proc.devRef .tc Cert.KernelIdeal.main_v3_1) :=
  (Cert.ReferenceIdeal.Whole.finalQX m' c).trans (Eq.trans (by rw [eX, ehx]; try rfl) (Cert.KernelIdeal.Whole.finalQX m ρ c).symm)

include ehx in
theorem sameSX : (Cert.ReferenceIdeal.Gen.dats m' 0 c).arrAt 13 Cert.ReferenceIdeal.cfg0.N =
    Cert.KernelIdeal.Gen.W5 m ρ c (Proc.devRef .tc Cert.KernelIdeal.main_v3_2) :=
  (Cert.ReferenceIdeal.Whole.finalSX m' c).trans (Eq.trans (by rw [ehx]; try rfl) (Cert.KernelIdeal.Whole.finalSX m ρ c).symm)

include eW ehw in
theorem sameQW : (Cert.ReferenceIdeal.Gen.dats m' 0 c).arrAt 14 Cert.ReferenceIdeal.cfg0.N =
    Cert.KernelIdeal.Gen.W5 m ρ c (Proc.devRef .tc Cert.KernelIdeal.main_v2_0) :=
  (Cert.ReferenceIdeal.Whole.finalQW m' c).trans (Eq.trans (by rw [eW, ehw]; try rfl) (Cert.KernelIdeal.Whole.finalQW m ρ c).symm)

include ehw in
theorem sameSW : (Cert.ReferenceIdeal.Gen.dats m' 0 c).arrAt 15 Cert.ReferenceIdeal.cfg0.N =
    Cert.KernelIdeal.Gen.W5 m ρ c (Proc.devRef .tc Cert.KernelIdeal.main_v2_1) :=
  (Cert.ReferenceIdeal.Whole.finalSW m' c).trans (Eq.trans (by rw [ehw]; try rfl) (Cert.KernelIdeal.Whole.finalSW m ρ c).symm)

include eDY ehdy in
theorem sameQDY : (Cert.ReferenceIdeal.Gen.dats m' 0 c).arrAt 16 Cert.ReferenceIdeal.cfg0.N =
    Cert.KernelIdeal.Gen.W5 m ρ c (Proc.devRef .tc Cert.KernelIdeal.main_v4_1) :=
  (Cert.ReferenceIdeal.Whole.finalQDY m' c).trans (Eq.trans (by rw [eDY, ehdy]; try rfl) (Cert.KernelIdeal.Whole.finalQDY m ρ c).symm)

include ehdy in
theorem sameSDY : (Cert.ReferenceIdeal.Gen.dats m' 0 c).arrAt 17 Cert.ReferenceIdeal.cfg0.N =
    Cert.KernelIdeal.Gen.W5 m ρ c (Proc.devRef .tc Cert.KernelIdeal.main_v4_2) :=
  (Cert.ReferenceIdeal.Whole.finalSDY m' c).trans (Eq.trans (by rw [ehdy]; try rfl) (Cert.KernelIdeal.Whole.finalSDY m ρ c).symm)

end Whole

/-- The whole step and its reference end with the same twelve arrays. -/
theorem algebraic_Whole : Cert.algebraic_KernelIdeal_ReferenceIdeal := by
  intro m ρ m' ρ' _ hagree
  refine ⟨fun c => Cert.KernelIdeal.Gen.W5 m ρ c (Proc.devRef .tc Cert.KernelIdeal.main_v3_0),
    fun c => Cert.KernelIdeal.Gen.W5 m ρ c (Proc.devRef .tc Cert.KernelIdeal.main_v4_0),
    fun c => Cert.KernelIdeal.Gen.W5 m ρ c (Proc.devRef .tc Cert.KernelIdeal.main_v5),
    fun c => Cert.KernelIdeal.Gen.W5 m ρ c (Proc.devRef .tc Cert.KernelIdeal.main_v3_3),
    fun c => Cert.KernelIdeal.Gen.W5 m ρ c (Proc.devRef .tc Cert.KernelIdeal.main_v2_2),
    fun c => Cert.KernelIdeal.Gen.W5 m ρ c (Proc.devRef .tc Cert.KernelIdeal.main_v4_3),
    fun c => Cert.KernelIdeal.Gen.W5 m ρ c (Proc.devRef .tc Cert.KernelIdeal.main_v3_1),
    fun c => Cert.KernelIdeal.Gen.W5 m ρ c (Proc.devRef .tc Cert.KernelIdeal.main_v3_2),
    fun c => Cert.KernelIdeal.Gen.W5 m ρ c (Proc.devRef .tc Cert.KernelIdeal.main_v2_0),
    fun c => Cert.KernelIdeal.Gen.W5 m ρ c (Proc.devRef .tc Cert.KernelIdeal.main_v2_1),
    fun c => Cert.KernelIdeal.Gen.W5 m ρ c (Proc.devRef .tc Cert.KernelIdeal.main_v4_1),
    fun c => Cert.KernelIdeal.Gen.W5 m ρ c (Proc.devRef .tc Cert.KernelIdeal.main_v4_2), ?_, ?_⟩
  · exact (θ_run Cert.KernelIdeal.defs _ _).mono (fun r h c =>
      ⟨h.1 c _ (Cert.KernelIdeal.Gen.mem_uc Cert.KernelIdeal.main_v3_0 (by decide)),
        h.1 c _ (Cert.KernelIdeal.Gen.mem_uc Cert.KernelIdeal.main_v4_0 (by decide)),
        h.1 c _ (Cert.KernelIdeal.Gen.mem_uc Cert.KernelIdeal.main_v5 (by decide)),
        h.1 c _ (Cert.KernelIdeal.Gen.mem_uc Cert.KernelIdeal.main_v3_3 (by decide)),
        h.1 c _ (Cert.KernelIdeal.Gen.mem_uc Cert.KernelIdeal.main_v2_2 (by decide)),
        h.1 c _ (Cert.KernelIdeal.Gen.mem_uc Cert.KernelIdeal.main_v4_3 (by decide)),
        h.1 c _ (Cert.KernelIdeal.Gen.mem_uc Cert.KernelIdeal.main_v3_1 (by decide)),
        h.1 c _ (Cert.KernelIdeal.Gen.mem_uc Cert.KernelIdeal.main_v3_2 (by decide)),
        h.1 c _ (Cert.KernelIdeal.Gen.mem_uc Cert.KernelIdeal.main_v2_0 (by decide)),
        h.1 c _ (Cert.KernelIdeal.Gen.mem_uc Cert.KernelIdeal.main_v2_1 (by decide)),
        h.1 c _ (Cert.KernelIdeal.Gen.mem_uc Cert.KernelIdeal.main_v4_1 (by decide)),
        h.1 c _ (Cert.KernelIdeal.Gen.mem_uc Cert.KernelIdeal.main_v4_2 (by decide)),
        (h.1 c _ (Cert.KernelIdeal.Gen.mem_uc Cert.KernelIdeal.main_arg0 (by decide))).trans (Cert.KernelIdeal.Gen.W5_main_arg0 m ρ c),
        (h.1 c _ (Cert.KernelIdeal.Gen.mem_uc Cert.KernelIdeal.main_arg1 (by decide))).trans (Cert.KernelIdeal.Gen.W5_main_arg1 m ρ c),
        (h.1 c _ (Cert.KernelIdeal.Gen.mem_uc Cert.KernelIdeal.main_arg2 (by decide))).trans (Cert.KernelIdeal.Gen.W5_main_arg2 m ρ c),
        (h.1 c _ (Cert.KernelIdeal.Gen.mem_uc Cert.KernelIdeal.main_arg3 (by decide))).trans (Cert.KernelIdeal.Gen.W5_main_arg3 m ρ c),
        (h.1 c _ (Cert.KernelIdeal.Gen.mem_uc Cert.KernelIdeal.main_arg4 (by decide))).trans (Cert.KernelIdeal.Gen.W5_main_arg4 m ρ c),
        (h.1 c _ (Cert.KernelIdeal.Gen.mem_uc Cert.KernelIdeal.main_arg5 (by decide))).trans (Cert.KernelIdeal.Gen.W5_main_arg5 m ρ c)⟩)
      (Cert.KernelIdeal.Gen.run_all m ρ)
  refine (θ_run Cert.ReferenceIdeal.defs _ _).mono (fun r h c => ?_) (Cert.ReferenceIdeal.Whole.run m' ρ')
  obtain ⟨h0, h1, h2, h3, h4, h5, h6, h7, h8, h9, h10, h11, hargs⟩ := h c
  obtain ⟨a0, a1, a2, a3, a4, a5⟩ := hagree c
  have eX : Cert.ReferenceIdeal.Whole.X m' c = Cert.KernelIdeal.Whole.X m c := by
    unfold Cert.ReferenceIdeal.Whole.X Cert.KernelIdeal.Whole.X
    rw [a0]
  have eDY : Cert.ReferenceIdeal.Whole.DY m' c = Cert.KernelIdeal.Whole.DY m c := by
    unfold Cert.ReferenceIdeal.Whole.DY Cert.KernelIdeal.Whole.DY
    rw [a2]
  have eW : Cert.ReferenceIdeal.Whole.W m' c = Cert.KernelIdeal.Whole.W m c := a1
  have ehx : Cert.ReferenceIdeal.Whole.hx m' c = Cert.KernelIdeal.Whole.hx m c := funext fun k => congrFun a3 (ix1 k)
  have ehw : Cert.ReferenceIdeal.Whole.hw m' c = Cert.KernelIdeal.Whole.hw m c := funext fun k => congrFun a4 (ix1 k)
  have ehdy : Cert.ReferenceIdeal.Whole.hdy m' c = Cert.KernelIdeal.Whole.hdy m c := funext fun k => congrFun a5 (ix1 k)
  exact ⟨h0.trans (sameY m ρ m' c eX eW ehx ehw),
    h1.trans (sameDX m ρ m' c eDY eW ehw ehdy),
    h2.trans (sameDW m ρ m' c eX eDY ehx ehdy),
    h3.trans (sameHX m ρ m' c eX ehx),
    h4.trans (sameHW m ρ m' c eW ehw),
    h5.trans (sameHDY m ρ m' c eDY ehdy),
    h6.trans (sameQX m ρ m' c eX ehx),
    h7.trans (sameSX m ρ m' c ehx),
    h8.trans (sameQW m ρ m' c eW ehw),
    h9.trans (sameSW m ρ m' c ehw),
    h10.trans (sameQDY m ρ m' c eDY ehdy),
    h11.trans (sameSDY m ρ m' c ehdy), hargs⟩

/-- The forward call and its reference end with the same four arrays. -/
theorem algebraic_Fwd : Cert.algebraic_KernelFwdIdeal_ReferenceFwdIdeal := by
  intro m ρ m' ρ' _ hagree
  refine ⟨fun c => (Cert.KernelFwdIdeal.Gen.dats m 0 c).arrAt 4 Cert.KernelFwdIdeal.cfg0.N,
    fun c => (Cert.KernelFwdIdeal.Gen.dats m 0 c).arrAt 5 Cert.KernelFwdIdeal.cfg0.N,
    fun c => (Cert.KernelFwdIdeal.Gen.dats m 0 c).arrAt 6 Cert.KernelFwdIdeal.cfg0.N,
    fun c => (Cert.KernelFwdIdeal.Gen.dats m 0 c).arrAt 7 Cert.KernelFwdIdeal.cfg0.N,
    Cert.KernelFwdIdeal.Value.run_blocks m ρ, ?_⟩
  refine (θ_run Cert.ReferenceFwdIdeal.defs _ _).mono (fun r h c => ?_) (Cert.ReferenceFwdIdeal.Value.run_blocks m' ρ')
  obtain ⟨h4, h5, h6, h7, hargs⟩ := h c
  obtain ⟨a0, a1, a2, a3⟩ := hagree c
  have eX : Cert.ReferenceFwdIdeal.Fwd.X m' c = Cert.KernelFwdIdeal.Fwd.X m c := a0
  have eWQ : Cert.ReferenceFwdIdeal.Fwd.WQ m' c = Cert.KernelFwdIdeal.Fwd.WQ m c := a1
  have ehx : Cert.ReferenceFwdIdeal.Fwd.hx m' c = Cert.KernelFwdIdeal.Fwd.hx m c := funext fun k => congrFun a2 (ix1 k)
  have ehw : Cert.ReferenceFwdIdeal.Fwd.hw m' c = Cert.KernelFwdIdeal.Fwd.hw m c := funext fun k => congrFun a3 (ix1 k)
  exact ⟨h4.trans ((Cert.ReferenceFwdIdeal.Fwd.finalY m' c).trans (Eq.trans (by rw [eX, eWQ, ehx, ehw]; rfl) (Cert.KernelFwdIdeal.Fwd.finalY m c).symm)),
    h5.trans ((Cert.ReferenceFwdIdeal.Fwd.finalQ m' c).trans (Eq.trans (by rw [eX, ehx]) (Cert.KernelFwdIdeal.Fwd.finalQ m c).symm)),
    h6.trans ((Cert.ReferenceFwdIdeal.Fwd.finalS m' c).trans (Eq.trans (by rw [ehx]; rfl) (Cert.KernelFwdIdeal.Fwd.finalS m c).symm)),
    h7.trans ((Cert.ReferenceFwdIdeal.Fwd.finalH m' c).trans (Eq.trans (by rw [eX, ehx]; rfl) (Cert.KernelFwdIdeal.Fwd.finalH m c).symm)), hargs⟩

/-- The input-gradient call and its reference end with the same four arrays. -/
theorem algebraic_BwdDx : Cert.algebraic_KernelBwdDxIdeal_ReferenceBwdDxIdeal := by
  intro m ρ m' ρ' _ hagree
  refine ⟨fun c => (Cert.KernelBwdDxIdeal.Gen.dats m 0 c).arrAt 4 Cert.KernelBwdDxIdeal.cfg0.N,
    fun c => (Cert.KernelBwdDxIdeal.Gen.dats m 0 c).arrAt 5 Cert.KernelBwdDxIdeal.cfg0.N,
    fun c => (Cert.KernelBwdDxIdeal.Gen.dats m 0 c).arrAt 6 Cert.KernelBwdDxIdeal.cfg0.N,
    fun c => (Cert.KernelBwdDxIdeal.Gen.dats m 0 c).arrAt 7 Cert.KernelBwdDxIdeal.cfg0.N,
    Cert.KernelBwdDxIdeal.Value.run_blocks m ρ, ?_⟩
  refine (θ_run Cert.ReferenceBwdDxIdeal.defs _ _).mono (fun r h c => ?_) (Cert.ReferenceBwdDxIdeal.Value.run_blocks m' ρ')
  obtain ⟨h4, h5, h6, h7, hargs⟩ := h c
  obtain ⟨a0, a1, a2, a3⟩ := hagree c
  have eDY : Cert.ReferenceBwdDxIdeal.BwdDx.DY m' c = Cert.KernelBwdDxIdeal.BwdDx.DY m c := a0
  have eWQ : Cert.ReferenceBwdDxIdeal.BwdDx.WQ m' c = Cert.KernelBwdDxIdeal.BwdDx.WQ m c := a1
  have ehdy : Cert.ReferenceBwdDxIdeal.BwdDx.hdy m' c = Cert.KernelBwdDxIdeal.BwdDx.hdy m c := funext fun k => congrFun a2 (ix1 k)
  have ehw : Cert.ReferenceBwdDxIdeal.BwdDx.hw m' c = Cert.KernelBwdDxIdeal.BwdDx.hw m c := funext fun k => congrFun a3 (ix1 k)
  exact ⟨h4.trans ((Cert.ReferenceBwdDxIdeal.BwdDx.finalY m' c).trans (Eq.trans (by rw [eDY, eWQ, ehdy, ehw]; rfl) (Cert.KernelBwdDxIdeal.BwdDx.finalY m c).symm)),
    h5.trans ((Cert.ReferenceBwdDxIdeal.BwdDx.finalQ m' c).trans (Eq.trans (by rw [eDY, ehdy]) (Cert.KernelBwdDxIdeal.BwdDx.finalQ m c).symm)),
    h6.trans ((Cert.ReferenceBwdDxIdeal.BwdDx.finalS m' c).trans (Eq.trans (by rw [ehdy]; rfl) (Cert.KernelBwdDxIdeal.BwdDx.finalS m c).symm)),
    h7.trans ((Cert.ReferenceBwdDxIdeal.BwdDx.finalH m' c).trans (Eq.trans (by rw [eDY, ehdy]; rfl) (Cert.KernelBwdDxIdeal.BwdDx.finalH m c).symm)), hargs⟩

/-- The weight-quantising call and its reference end with the same three arrays. -/
theorem algebraic_QuantW : Cert.algebraic_KernelQuantWIdeal_ReferenceQuantWIdeal := by
  intro m ρ m' ρ' _ hagree
  refine ⟨fun c => (Cert.KernelQuantWIdeal.Gen.dats m 0 c).arrAt 2 Cert.KernelQuantWIdeal.cfg0.N,
    fun c => (Cert.KernelQuantWIdeal.Gen.dats m 0 c).arrAt 3 Cert.KernelQuantWIdeal.cfg0.N,
    fun c => (Cert.KernelQuantWIdeal.Gen.dats m 0 c).arrAt 4 Cert.KernelQuantWIdeal.cfg0.N,
    Cert.KernelQuantWIdeal.Value.run_blocks m ρ, ?_⟩
  refine (θ_run Cert.ReferenceQuantWIdeal.defs _ _).mono (fun r h c => ?_) (Cert.ReferenceQuantWIdeal.Value.run_blocks m' ρ')
  obtain ⟨h2, h3, h4, hargs⟩ := h c
  obtain ⟨a0, a1⟩ := hagree c
  have eW : Cert.ReferenceQuantWIdeal.QuantW.W m' c = Cert.KernelQuantWIdeal.QuantW.W m c := a0
  have ehw : Cert.ReferenceQuantWIdeal.QuantW.hw m' c = Cert.KernelQuantWIdeal.QuantW.hw m c := funext fun k => congrFun a1 (ix1 k)
  exact ⟨h2.trans ((Cert.ReferenceQuantWIdeal.QuantW.finalQ m' c).trans (Eq.trans (by rw [eW, ehw]) (Cert.KernelQuantWIdeal.QuantW.finalQ m c).symm)),
    h3.trans ((Cert.ReferenceQuantWIdeal.QuantW.finalS m' c).trans (Eq.trans (by rw [ehw]; rfl) (Cert.KernelQuantWIdeal.QuantW.finalS m c).symm)),
    h4.trans ((Cert.ReferenceQuantWIdeal.QuantW.finalH m' c).trans (Eq.trans (by rw [eW, ehw]; rfl) (Cert.KernelQuantWIdeal.QuantW.finalH m c).symm)), hargs⟩

/-- The weight-gradient call and its reference end with the same array. -/
theorem algebraic_Dw : Cert.algebraic_KernelDwIdeal_ReferenceDwIdeal := by
  intro m ρ m' ρ' _ hagree
  refine ⟨fun c => (Cert.KernelDwIdeal.Gen.dats m 0 c).arrAt 4 Cert.KernelDwIdeal.cfg0.N,
    Cert.KernelDwIdeal.Value.run_blocks m ρ, ?_⟩
  refine (θ_run Cert.ReferenceDwIdeal.defs _ _).mono (fun r h c => ?_) (Cert.ReferenceDwIdeal.Value.run_blocks m' ρ')
  obtain ⟨h4, hargs⟩ := h c
  obtain ⟨a0, a1, a2, a3⟩ := hagree c
  have eXQ : Cert.ReferenceDwIdeal.Dw.XQ m' c = Cert.KernelDwIdeal.Dw.XQ m c := a0
  have eDYQ : Cert.ReferenceDwIdeal.Dw.DYQ m' c = Cert.KernelDwIdeal.Dw.DYQ m c := a1
  have ehx : Cert.ReferenceDwIdeal.Dw.hx m' c = Cert.KernelDwIdeal.Dw.hx m c := funext fun k => congrFun a2 (ix1 k)
  have ehdy : Cert.ReferenceDwIdeal.Dw.hdy m' c = Cert.KernelDwIdeal.Dw.hdy m c := funext fun k => congrFun a3 (ix1 k)
  exact ⟨h4.trans ((Cert.ReferenceDwIdeal.Dw.finalDW m' c).trans (Eq.trans (by rw [eXQ, eDYQ, ehx, ehdy]; rfl) (Cert.KernelDwIdeal.Dw.finalDW m c).symm)), hargs⟩

theorem claim : Cert.Claim := ⟨Cert.Kernel.Gen.facts,
  Cert.KernelIdeal.Gen.facts,
  Cert.ReferenceIdeal.Gen.facts,
  Cert.KernelFwd.Gen.facts,
  Cert.KernelFwdIdeal.Gen.facts,
  Cert.ReferenceFwdIdeal.Gen.facts,
  Cert.KernelBwdDx.Gen.facts,
  Cert.KernelBwdDxIdeal.Gen.facts,
  Cert.ReferenceBwdDxIdeal.Gen.facts,
  Cert.KernelQuantW.Gen.facts,
  Cert.KernelQuantWIdeal.Gen.facts,
  Cert.ReferenceQuantWIdeal.Gen.facts,
  Cert.KernelDw.Gen.facts,
  Cert.KernelDwIdeal.Gen.facts,
  Cert.ReferenceDwIdeal.Gen.facts,
  frame_Kernel,
  fun m ρ _ => Cert.KernelIdeal.Gen.frame m ρ,
  fun m ρ _ => Cert.ReferenceIdeal.Gen.frame m ρ,
  fun m ρ _ => Cert.KernelFwd.Gen.frame m ρ,
  fun m ρ _ => Cert.KernelFwdIdeal.Gen.frame m ρ,
  fun m ρ _ => Cert.ReferenceFwdIdeal.Gen.frame m ρ,
  fun m ρ _ => Cert.KernelBwdDx.Gen.frame m ρ,
  fun m ρ _ => Cert.KernelBwdDxIdeal.Gen.frame m ρ,
  fun m ρ _ => Cert.ReferenceBwdDxIdeal.Gen.frame m ρ,
  fun m ρ _ => Cert.KernelQuantW.Gen.frame m ρ,
  fun m ρ _ => Cert.KernelQuantWIdeal.Gen.frame m ρ,
  fun m ρ _ => Cert.ReferenceQuantWIdeal.Gen.frame m ρ,
  fun m ρ _ => Cert.KernelDw.Gen.frame m ρ,
  fun m ρ _ => Cert.KernelDwIdeal.Gen.frame m ρ,
  fun m ρ _ => Cert.ReferenceDwIdeal.Gen.frame m ρ,
  trivial, algebraic_Whole,
  trivial, algebraic_Fwd,
  trivial, algebraic_BwdDx,
  trivial, algebraic_QuantW,
  trivial, algebraic_Dw⟩

end Cert.Proof

end
